-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_pre [hPre_mla_pre : Cert.Pre_mla_pre.Facts] (m : (ℓ : Loc Cert.MlaIdeal.nD Cert.MlaIdeal.τ Cert.MlaIdeal.sig) → Buf (Elt Ideal) ℓ) : Prop :=
  ∀ c : Dev Cert.MlaIdeal.nD,
    (Cert.Pre_mla_pre.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_pre [hPre_mla_pre : Cert.Pre_mla_pre.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_pre.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_pre [hPre_mix_pre : Cert.Pre_mix_pre.Facts] (m : (ℓ : Loc Cert.MixIdeal.nD Cert.MixIdeal.τ Cert.MixIdeal.sig) → Buf (Elt Ideal) ℓ) : Prop :=
  ∀ c : Dev Cert.MixIdeal.nD,
    (Cert.Pre_mix_pre.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_pre [hPre_mix_pre : Cert.Pre_mix_pre.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_pre.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_pre [hMlaIdeal : Cert.MlaIdeal.Facts] [hPre_mla_pre : Cert.Pre_mla_pre.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_pre m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_pre [hMlaRefIdeal : Cert.MlaRefIdeal.Facts] [hPre_mla_pre : Cert.Pre_mla_pre.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_pre m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixIdeal_pre_mix_pre [hMixIdeal : Cert.MixIdeal.Facts] [hPre_mix_pre : Cert.Pre_mix_pre.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_pre m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixRefIdeal_pre_mix_pre [hMixRefIdeal : Cert.MixRefIdeal.Facts] [hPre_mix_pre : Cert.Pre_mix_pre.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_pre m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def preserves_Mla_MlaIdeal : Prop :=
  True

def algebraic_MlaIdeal_MlaRefIdeal_pre_mla_pre [hMlaIdeal : Cert.MlaIdeal.Facts] [hMlaRefIdeal : Cert.MlaRefIdeal.Facts] [hPre_mla_pre : Cert.Pre_mla_pre.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_pre m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v33) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)) (v2 : (c : Dev Cert.FfnIdeal.nD) → Buf (Elt Ideal) ((c.tc : Thread Cert.FfnIdeal.nD Cert.FfnIdeal.τ).loc Cert.FfnIdeal.main_v0_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_v0_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_v41) = v1 c
          ∧ r.2.mem ((c.tc : Thread Cert.FfnRefIdeal.nD Cert.FfnRefIdeal.τ).loc Cert.FfnRefIdeal.main_v44) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Mix_MixIdeal : Prop :=
  True

def algebraic_MixIdeal_MixRefIdeal_pre_mix_pre [hMixIdeal : Cert.MixIdeal.Facts] [hMixRefIdeal : Cert.MixRefIdeal.Facts] [hPre_mix_pre : Cert.Pre_mix_pre.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_pre m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v83) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hPre_mla_pre : Cert.Pre_mla_pre.Facts) (hPre_mix_pre : Cert.Pre_mix_pre.Facts),
    quiescent_Mla (hMla := hMla)
    ∧ quiescent_MlaIdeal (hMlaIdeal := hMlaIdeal)
    ∧ quiescent_MlaIdeal_pre_mla_pre (hMlaIdeal := hMlaIdeal) (hPre_mla_pre := hPre_mla_pre)
    ∧ quiescent_MlaRefIdeal (hMlaRefIdeal := hMlaRefIdeal)
    ∧ quiescent_MlaRefIdeal_pre_mla_pre (hMlaRefIdeal := hMlaRefIdeal) (hPre_mla_pre := hPre_mla_pre)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Mix (hMix := hMix)
    ∧ quiescent_MixIdeal (hMixIdeal := hMixIdeal)
    ∧ quiescent_MixIdeal_pre_mix_pre (hMixIdeal := hMixIdeal) (hPre_mix_pre := hPre_mix_pre)
    ∧ quiescent_MixRefIdeal (hMixRefIdeal := hMixRefIdeal)
    ∧ quiescent_MixRefIdeal_pre_mix_pre (hMixRefIdeal := hMixRefIdeal) (hPre_mix_pre := hPre_mix_pre)
    ∧ preserves_Mla_MlaIdeal
    ∧ algebraic_MlaIdeal_MlaRefIdeal_pre_mla_pre (hMlaIdeal := hMlaIdeal) (hMlaRefIdeal := hMlaRefIdeal) (hPre_mla_pre := hPre_mla_pre)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Mix_MixIdeal
    ∧ algebraic_MixIdeal_MixRefIdeal_pre_mix_pre (hMixIdeal := hMixIdeal) (hMixRefIdeal := hMixRefIdeal) (hPre_mix_pre := hPre_mix_pre)
-- ==== Pre_mix_pre.lean ====
abbrev S16384x768 : Shape := ⟨2, ![16384, 768]⟩
abbrev S8x256x1024 : Shape := ⟨3, ![8, 256, 1024]⟩
abbrev S16384x10240 : Shape := ⟨2, ![16384, 10240]⟩
abbrev S16384x2048 : Shape := ⟨2, ![16384, 2048]⟩
abbrev S4x2048x2048 : Shape := ⟨3, ![4, 2048, 2048]⟩
abbrev S12x1x2048 : Shape := ⟨3, ![12, 1, 2048]⟩
abbrev S16384x512 : Shape := ⟨2, ![16384, 512]⟩
abbrev S_ : Shape := ⟨0, ![]⟩
abbrev S8x256x512 : Shape := ⟨3, ![8, 256, 512]⟩

class Facts : Prop where
  slices_S16384x10240_S16384x512_0_3584 : S16384x10240.Slices ![0, 3584] S16384x512
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  slices_S8x256x1024_S8x256x512_0_0_0 : S8x256x1024.Slices ![0, 0, 0] S8x256x512
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S16384x768 .bf16) (main_arg1 : FVec F S16384x768 .bf16) (main_arg2 : FVec F S8x256x1024 .bf16) (main_arg3 : FVec F S16384x10240 .bf16) (main_arg4 : FVec F S16384x2048 .f32) (main_arg5 : FVec F S4x2048x2048 .bf16) (main_arg6 : FVec F S4x2048x2048 .bf16) (main_arg7 : FVec F S12x1x2048 .f32) (main_arg8 : FVec F S12x1x2048 .f32) : IVec S_ 1 :=
  let main_v0 : FVec F S16384x512 .bf16 := (extractStridedSlice S16384x512 ![0, 3584] · slices_S16384x10240_S16384x512_0_3584) main_arg3
  let main_v1 : FVec F S16384x512 .f32 := (extf .f32 · bitsLt_bf16_f32) main_v0
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S8x256x512 .bf16 := (extractStridedSlice S8x256x512 ![0, 0, 0] · slices_S8x256x1024_S8x256x512_0_0_0) main_arg2
  let main_v7 : FVec F S8x256x512 .f32 := (extf .f32 · bitsLt_bf16_f32) main_v6
  let main_v8 : FVec F S8x256x512 .f32 := Host.absf main_v7
  let main_cst_0 : FVec F S_ .f32 := constant S_ .f32 0x7F800000#32
  let main_v9 : FVec F S8x256x512 .f32 := broadcastInDim S8x256x512 ![] bcast_S_S8x256x512 main_cst_0
  let main_v10 : IVec S8x256x512 1 := cmpf .olt main_v8 main_v9
  let main_c_1 : IVec S_ 1 := constantI S_ 1 1#1
  let main_v11 : IVec S_ 1 := (fun x v => Host.reduce IntOp.andi x v reducesTo_S8x256x512_S_d0_1_2 h_S_) main_v10 main_c_1
  let main_v12 : IVec S_ 1 := andi main_v5 main_v11
  main_v12
-- ==== Pre_mla_pre.lean ====
abbrev S6x256x16384 : Shape := ⟨3, ![6, 256, 16384]⟩
abbrev S8x2048x1536 : Shape := ⟨3, ![8, 2048, 1536]⟩
abbrev S6x64x144x256 : Shape := ⟨4, ![6, 64, 144, 256]⟩
abbrev S_ : Shape := ⟨0, ![]⟩
abbrev S6x64x16x256 : Shape := ⟨4, ![6, 64, 16, 256]⟩

class Facts : Prop where
  bitsLt_bf16_f32 : FTy.bits .bf16 < FTy.bits .f32
  bcast_S_S6x256x16384 : S_.BroadcastsInDim S6x256x16384 (![] : Fin 0 → Fin S6x256x16384.rank)
  reducesTo_S6x256x16384_S_d0_1_2 : S6x256x16384.ReducesTo [0, 1, 2] S_
  h_S_ : 0 < S_.numel
  bcast_S_S8x2048x1536 : S_.BroadcastsInDim S8x2048x1536 (![] : Fin 0 → Fin S8x2048x1536.rank)
  reducesTo_S8x2048x1536_S_d0_1_2 : S8x2048x1536.ReducesTo [0, 1, 2] S_
  slices_S6x64x144x256_S6x64x16x256_0_0_128_0 : S6x64x144x256.Slices ![0, 0, 128, 0] S6x64x16x256
  bcast_S_S6x64x16x256 : S_.BroadcastsInDim S6x64x16x256 (![] : Fin 0 → Fin S6x64x16x256.rank)
  reducesTo_S6x64x16x256_S_d0_1_2_3 : S6x64x16x256.ReducesTo [0, 1, 2, 3] S_

variable [Facts]

def fn {F : FTy → Type} [FloatOps F] (main_arg0 : FVec F S6x256x16384 .bf16) (main_arg1 : FVec F S8x2048x1536 .bf16) (main_arg2 : FVec F S6x64x144x256 .bf16) : IVec S_ 1 :=
  let main_v0 : FVec F S6x256x16384 .f32 := (extf .f32 · bitsLt_bf16_f32) main_arg0
  let main_v1 : FVec F S6x256x16384 .f32 := Host.absf main_v0
  let main_cst : FVec F S_ .f32 := constant S_ .f32 0x7F800000#32
  let main_v2 : FVec F S6x256x16384 .f32 := broadcastInDim S6x256x16384 ![] bcast_S_S6x256x16384 main_cst
  let main_v3 : IVec S6x256x16384 1 := cmpf .olt main_v1 main_v2
  let main_c : IVec S_ 1 := constantI S_ 1 1#1
  let main_v4 : IVec S_ 1 := (fun x v => Host.reduce IntOp.andi x v reducesTo_S6x256x16384_S_d0_1_2 h_S_) main_v3 main_c
  let main_v5 : FVec F S8x2048x1536 .f32 := (extf .f32 · bitsLt_bf16_f32) main_arg1
  let main_v6 : FVec F S8x2048x1536 .f32 := Host.absf main_v5
  let main_cst_0 : FVec F S_ .f32 := constant S_ .f32 0x7F800000#32
  let main_v7 : FVec F S8x2048x1536 .f32 := broadcastInDim S8x2048x1536 ![] bcast_S_S8x2048x1536 main_cst_0
  let main_v8 : IVec S8x2048x1536 1 := cmpf .olt main_v6 main_v7
  let main_c_1 : IVec S_ 1 := constantI S_ 1 1#1
  let main_v9 : IVec S_ 1 := (fun x v => Host.reduce IntOp.andi x v reducesTo_S8x2048x1536_S_d0_1_2 h_S_) main_v8 main_c_1
  let main_v10 : FVec F S6x64x144x256 .f32 := (extf .f32 · bitsLt_bf16_f32) main_arg2
  let main_v11 : FVec F S6x64x16x256 .f32 := (extractStridedSlice S6x64x16x256 ![0, 0, 128, 0] · slices_S6x64x144x256_S6x64x16x256_0_0_128_0) main_v10
  let main_cst_2 : FVec F S_ .f32 := constant S_ .f32 0x3F800000#32
  let main_v12 : FVec F S6x64x16x256 .f32 := broadcastInDim S6x64x16x256 ![] bcast_S_S6x64x16x256 main_cst_2
  let main_v13 : IVec S6x64x16x256 1 := cmpf .oeq main_v11 main_v12
  let main_c_3 : IVec S_ 1 := constantI S_ 1 1#1
  let main_v14 : IVec S_ 1 := (fun x v => Host.reduce IntOp.andi x v reducesTo_S6x64x16x256_S_d0_1_2_3 h_S_) main_v13 main_c_3
  let main_v15 : IVec S_ 1 := andi main_v4 main_v9
  let main_v16 : IVec S_ 1 := andi main_v15 main_v14
  main_v16
-- ==== Mla.lean ====
abbrev S6x256x16384 : Shape := ⟨3, ![6, 256, 16384]⟩
abbrev S8x2048x1536 : Shape := ⟨3, ![8, 2048, 1536]⟩
abbrev S6x64x144x256 : Shape := ⟨4, ![6, 64, 144, 256]⟩
abbrev S8x2048x768 : Shape := ⟨3, ![8, 2048, 768]⟩
abbrev S6x256x256 : Shape := ⟨3, ![6, 256, 256]⟩
abbrev S1x2048x1536 : Shape := ⟨3, ![1, 2048, 1536]⟩
abbrev S6x8x144x256 : Shape := ⟨4, ![6, 8, 144, 256]⟩
abbrev S1x256x768 : Shape := ⟨3, ![1, 256, 768]⟩
abbrev S2x6x256x256 : Shape := ⟨4, ![2, 6, 256, 256]⟩
abbrev S2x6x1x256 : Shape := ⟨4, ![2, 6, 1, 256]⟩
abbrev S6x1x256 : Shape := ⟨3, ![6, 1, 256]⟩
abbrev S6x144x256 : Shape := ⟨3, ![6, 144, 256]⟩
abbrev S256x256 : Shape := ⟨2, ![256, 256]⟩
abbrev S1x6x256x256 : Shape := ⟨4, ![1, 6, 256, 256]⟩
abbrev S1x6x1x256 : Shape := ⟨4, ![1, 6, 1, 256]⟩
abbrev S1x256x256 : Shape := ⟨3, ![1, 256, 256]⟩
abbrev S1x1x144x256 : Shape := ⟨4, ![1, 1, 144, 256]⟩
abbrev S144x256 : Shape := ⟨2, ![144, 256]⟩
abbrev S1x1x256x256 : Shape := ⟨4, ![1, 1, 256, 256]⟩
abbrev S1x144x256 : Shape := ⟨3, ![1, 144, 256]⟩
abbrev S1x1x1x256 : Shape := ⟨4, ![1, 1, 1, 256]⟩
abbrev S1x256 : Shape := ⟨2, ![1, 256]⟩
abbrev S1x1x256 : Shape := ⟨3, ![1, 1, 256]⟩
abbrev S256 : Shape := ⟨1, ![256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 4
  | .vmem => 14
  | .smem => 0
  | _ => 0

abbrev bufTy : (tb : Table) → Fin (tcTables nBuf tb) → BufTy
  | .hbm, ⟨0, _⟩ => ⟨S6x256x16384, .bf16⟩
  | .hbm, ⟨1, _⟩ => ⟨S8x2048x1536, .bf16⟩
  | .hbm, ⟨2, _⟩ => ⟨S6x64x144x256, .bf16⟩
  | .hbm, ⟨3, _⟩ => ⟨S8x2048x768, .bf16⟩
  | .local _ .vmem, ⟨0, _⟩ => ⟨S6x256x256, .bf16⟩
  | .local _ .vmem, ⟨1, _⟩ => ⟨S6x256x256, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S6x8x144x256, .bf16⟩
  | .local _ .vmem, ⟨5, _⟩ => ⟨S6x8x144x256, .bf16⟩
  | .local _ .vmem, ⟨6, _⟩ => ⟨S1x256x768, .bf16⟩
  | .local _ .vmem, ⟨7, _⟩ => ⟨S1x256x768, .bf16⟩
  | .local _ .vmem, ⟨8, _⟩ => ⟨S6x256x256, .f32⟩
  | .local _ .vmem, ⟨9, _⟩ => ⟨S6x256x256, .f32⟩
  | .local _ .vmem, ⟨10, _⟩ => ⟨S2x6x256x256, .bf16⟩
  | .local _ .vmem, ⟨11, _⟩ => ⟨S2x6x1x256, .f32⟩
  | .local _ .vmem, ⟨12, _⟩ => ⟨S6x1x256, .f32⟩
  | .local _ .vmem, ⟨13, _⟩ => ⟨S6x144x256, .f32⟩
  | _, _ => ⟨S6x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  c0_i32
@[reducible] def k0_t1_loop (i : grid0.Coords) : Scf.Loop 32 :=
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_71 : BitVec 32 := 1#32
  ⟨c0_i32_69, v99, c1_i32_71⟩
def k0_mult2 (i : grid0.Coords) (k0_t1 : Fin (k0_t1_loop i).trips) : BitVec 32 :=
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  v300
def k0_off1 (i : grid0.Coords) (k0_t1 : Fin (k0_t1_loop i).trips) : Fin 3 → Nat :=
  let c0_218 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v302 : Index := Scalar.indexCast v301
  let c0_219 : Index := 0#32
  ![0, v302.toNat, 0]
def k0_off2 (i : grid0.Coords) (k0_t1 : Fin (k0_t1_loop i).trips) : Fin 3 → Nat :=
  let c0_224 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v308 : Index := Scalar.indexCast v301
  let c256_225 : Index := 256#32
  ![0, v308.toNat, 256]
def k0_off3 (i : grid0.Coords) (k0_t1 : Fin (k0_t1_loop i).trips) : Fin 3 → Nat :=
  let c0_230 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v314 : Index := Scalar.indexCast v301
  let c512_231 : Index := 512#32
  ![0, v314.toNat, 512]
def k0_off4 (i : grid0.Coords) (k0_t1 : Fin (k0_t1_loop i).trips) : Fin 3 → Nat :=
  let c0_236 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v320 : Index := Scalar.indexCast v301
  let c768_237 : Index := 768#32
  ![0, v320.toNat, 768]
def k0_off5 (i : grid0.Coords) (k0_t1 : Fin (k0_t1_loop i).trips) : Fin 3 → Nat :=
  let c0_242 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v326 : Index := Scalar.indexCast v301
  let c1024_243 : Index := 1024#32
  ![0, v326.toNat, 1024]
def k0_off6 (i : grid0.Coords) (k0_t1 : Fin (k0_t1_loop i).trips) : Fin 3 → Nat :=
  let c0_248 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_217 : BitVec 32 := 1#32
  let v298 : BitVec 32 := Scalar.addi v297 c1_i32_217
  let arg1 : BitVec 32 := BitVec.ofNat 32 (i 1).val
  let v299 : BitVec 32 := Scalar.minsi v298 arg1
  let c256_i32 : BitVec 32 := 256#32
  let v300 : BitVec 32 := Scalar.muli v299 c256_i32
  let v301 : BitVec 32 := v300
  let v332 : Index := Scalar.indexCast v301
  let c1280_249 : Index := 1280#32
  ![0, v332.toNat, 1280]
def k0_off7 (i : grid0.Coords) (k0_t1 : Fin (k0_t1_loop i).trips) : Fin 4 → Nat :=
  let c0_274 : Index := 0#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v358 : Index := Scalar.indexCast v357
  let c0_275 : Index := 0#32
  let c0_276 : Index := 0#32
  ![0, v358.toNat, 0, 0]
def k0_off8 (i : grid0.Coords) (k0_t1 : Fin (k0_t1_loop i).trips) : Fin 4 → Nat :=
  let c1_292 : Index := 1#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v374 : Index := Scalar.indexCast v357
  let c0_293 : Index := 0#32
  let c0_294 : Index := 0#32
  ![1, v374.toNat, 0, 0]
def k0_off9 (i : grid0.Coords) (k0_t1 : Fin (k0_t1_loop i).trips) : Fin 4 → Nat :=
  let c2_310 : Index := 2#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v390 : Index := Scalar.indexCast v357
  let c0_311 : Index := 0#32
  let c0_312 : Index := 0#32
  ![2, v390.toNat, 0, 0]
def k0_off10 (i : grid0.Coords) (k0_t1 : Fin (k0_t1_loop i).trips) : Fin 4 → Nat :=
  let c3_328 : Index := 3#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v406 : Index := Scalar.indexCast v357
  let c0_329 : Index := 0#32
  let c0_330 : Index := 0#32
  ![3, v406.toNat, 0, 0]
def k0_off11 (i : grid0.Coords) (k0_t1 : Fin (k0_t1_loop i).trips) : Fin 4 → Nat :=
  let c4_346 : Index := 4#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v422 : Index := Scalar.indexCast v357
  let c0_347 : Index := 0#32
  let c0_348 : Index := 0#32
  ![4, v422.toNat, 0, 0]
def k0_off12 (i : grid0.Coords) (k0_t1 : Fin (k0_t1_loop i).trips) : Fin 4 → Nat :=
  let c5_364 : Index := 5#32
  let c2_i32_216 : BitVec 32 := 2#32
  let c0_i32_69 : BitVec 32 := 0#32
  let c1_i32_71 : BitVec 32 := 1#32
  let arg12 : BitVec 32 := Scf.iv c0_i32_69 c1_i32_71 k0_t1
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v438 : Index := Scalar.indexCast v357
  let c0_365 : Index := 0#32
  let c0_366 : Index := 0#32
  ![5, v438.toNat, 0, 0]
def k0_mult3 (i : grid0.Coords) (k0_t1 : Fin (k0_t1_loop i).trips) : BitVec 32 :=
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  v599
def k0_off13 (i : grid0.Coords) (k0_t1 : Fin (k0_t1_loop i).trips) : Fin 3 → Nat :=
  let c0_495 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v601 : Index := Scalar.indexCast v600
  let c0_496 : Index := 0#32
  ![0, v601.toNat, 0]
def k0_off14 (i : grid0.Coords) (k0_t1 : Fin (k0_t1_loop i).trips) : Fin 3 → Nat :=
  let c0_501 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v607 : Index := Scalar.indexCast v600
  let c256_502 : Index := 256#32
  ![0, v607.toNat, 256]
def k0_off15 (i : grid0.Coords) (k0_t1 : Fin (k0_t1_loop i).trips) : Fin 3 → Nat :=
  let c0_507 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v613 : Index := Scalar.indexCast v600
  let c512_508 : Index := 512#32
  ![0, v613.toNat, 512]
def k0_off16 (i : grid0.Coords) (k0_t1 : Fin (k0_t1_loop i).trips) : Fin 3 → Nat :=
  let c0_513 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v619 : Index := Scalar.indexCast v600
  let c768_514 : Index := 768#32
  ![0, v619.toNat, 768]
def k0_off17 (i : grid0.Coords) (k0_t1 : Fin (k0_t1_loop i).trips) : Fin 3 → Nat :=
  let c0_519 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v625 : Index := Scalar.indexCast v600
  let c1024_520 : Index := 1024#32
  ![0, v625.toNat, 1024]
def k0_off18 (i : grid0.Coords) (k0_t1 : Fin (k0_t1_loop i).trips) : Fin 3 → Nat :=
  let c0_525 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let arg1 : BitVec 32 := BitVec.ofNat 32 (i 1).val
  let v598 : BitVec 32 := Scalar.minsi v597 arg1
  let c256_i32_494 : BitVec 32 := 256#32
  let v599 : BitVec 32 := Scalar.muli v598 c256_i32_494
  let v600 : BitVec 32 := v599
  let v631 : Index := Scalar.indexCast v600
  let c1280_526 : Index := 1280#32
  ![0, v631.toNat, 1280]
def k0_off19 (i : grid0.Coords) (k0_t1 : Fin (k0_t1_loop i).trips) : Fin 4 → Nat :=
  let c0_551 : Index := 0#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v657 : Index := Scalar.indexCast v656
  let c0_552 : Index := 0#32
  let c0_553 : Index := 0#32
  ![0, v657.toNat, 0, 0]
def k0_off20 (i : grid0.Coords) (k0_t1 : Fin (k0_t1_loop i).trips) : Fin 4 → Nat :=
  let c1_569 : Index := 1#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v673 : Index := Scalar.indexCast v656
  let c0_570 : Index := 0#32
  let c0_571 : Index := 0#32
  ![1, v673.toNat, 0, 0]
def k0_off21 (i : grid0.Coords) (k0_t1 : Fin (k0_t1_loop i).trips) : Fin 4 → Nat :=
  let c2_587 : Index := 2#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v689 : Index := Scalar.indexCast v656
  let c0_588 : Index := 0#32
  let c0_589 : Index := 0#32
  ![2, v689.toNat, 0, 0]
def k0_off22 (i : grid0.Coords) (k0_t1 : Fin (k0_t1_loop i).trips) : Fin 4 → Nat :=
  let c3_605 : Index := 3#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v705 : Index := Scalar.indexCast v656
  let c0_606 : Index := 0#32
  let c0_607 : Index := 0#32
  ![3, v705.toNat, 0, 0]
def k0_off23 (i : grid0.Coords) (k0_t1 : Fin (k0_t1_loop i).trips) : Fin 4 → Nat :=
  let c4_623 : Index := 4#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v721 : Index := Scalar.indexCast v656
  let c0_624 : Index := 0#32
  let c0_625 : Index := 0#32
  ![4, v721.toNat, 0, 0]
def k0_off24 (i : grid0.Coords) (k0_t1 : Fin (k0_t1_loop i).trips) : Fin 4 → Nat :=
  let c5_641 : Index := 5#32
  let c2_i32_491 : BitVec 32 := 2#32
  let c0_i32_69 : BitVec 32 := 0#32
  let c1_i32_71 : BitVec 32 := 1#32
  let arg12 : BitVec 32 := Scf.iv c0_i32_69 c1_i32_71 k0_t1
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v737 : Index := Scalar.indexCast v656
  let c0_642 : Index := 0#32
  let c0_643 : Index := 0#32
  ![5, v737.toNat, 0, 0]
@[reducible] def k0_t2_loop (i : grid0.Coords) : Scf.Loop 32 :=
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let v96 : BitVec 32 := Scalar.addi c0_i32_69 v95
  let c1_i32_72 : BitVec 32 := 1#32
  ⟨v99, v96, c1_i32_72⟩
def k0_mult4 (i : grid0.Coords) (k0_t2 : Fin (k0_t2_loop i).trips) : BitVec 32 :=
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  v300
def k0_off25 (i : grid0.Coords) (k0_t2 : Fin (k0_t2_loop i).trips) : Fin 3 → Nat :=
  let c0_218 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v302 : Index := Scalar.indexCast v301
  let c0_219 : Index := 0#32
  ![0, v302.toNat, 0]
def k0_off26 (i : grid0.Coords) (k0_t2 : Fin (k0_t2_loop i).trips) : Fin 3 → Nat :=
  let c0_224 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v308 : Index := Scalar.indexCast v301
  let c256_225 : Index := 256#32
  ![0, v308.toNat, 256]
def k0_off27 (i : grid0.Coords) (k0_t2 : Fin (k0_t2_loop i).trips) : Fin 3 → Nat :=
  let c0_230 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v314 : Index := Scalar.indexCast v301
  let c512_231 : Index := 512#32
  ![0, v314.toNat, 512]
def k0_off28 (i : grid0.Coords) (k0_t2 : Fin (k0_t2_loop i).trips) : Fin 3 → Nat :=
  let c0_236 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v320 : Index := Scalar.indexCast v301
  let c768_237 : Index := 768#32
  ![0, v320.toNat, 768]
def k0_off29 (i : grid0.Coords) (k0_t2 : Fin (k0_t2_loop i).trips) : Fin 3 → Nat :=
  let c0_242 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v326 : Index := Scalar.indexCast v301
  let c1024_243 : Index := 1024#32
  ![0, v326.toNat, 1024]
def k0_off30 (i : grid0.Coords) (k0_t2 : Fin (k0_t2_loop i).trips) : Fin 3 → Nat :=
  let c0_248 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_217 : BitVec 32 := 1#32
  let v298 : BitVec 32 := Scalar.addi v297 c1_i32_217
  let v299 : BitVec 32 := Scalar.minsi v298 arg1
  let c256_i32 : BitVec 32 := 256#32
  let v300 : BitVec 32 := Scalar.muli v299 c256_i32
  let v301 : BitVec 32 := v300
  let v332 : Index := Scalar.indexCast v301
  let c1280_249 : Index := 1280#32
  ![0, v332.toNat, 1280]
def k0_off31 (i : grid0.Coords) (k0_t2 : Fin (k0_t2_loop i).trips) : Fin 4 → Nat :=
  let c0_274 : Index := 0#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v358 : Index := Scalar.indexCast v357
  let c0_275 : Index := 0#32
  let c0_276 : Index := 0#32
  ![0, v358.toNat, 0, 0]
def k0_off32 (i : grid0.Coords) (k0_t2 : Fin (k0_t2_loop i).trips) : Fin 4 → Nat :=
  let c1_292 : Index := 1#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v374 : Index := Scalar.indexCast v357
  let c0_293 : Index := 0#32
  let c0_294 : Index := 0#32
  ![1, v374.toNat, 0, 0]
def k0_off33 (i : grid0.Coords) (k0_t2 : Fin (k0_t2_loop i).trips) : Fin 4 → Nat :=
  let c2_310 : Index := 2#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v390 : Index := Scalar.indexCast v357
  let c0_311 : Index := 0#32
  let c0_312 : Index := 0#32
  ![2, v390.toNat, 0, 0]
def k0_off34 (i : grid0.Coords) (k0_t2 : Fin (k0_t2_loop i).trips) : Fin 4 → Nat :=
  let c3_328 : Index := 3#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v406 : Index := Scalar.indexCast v357
  let c0_329 : Index := 0#32
  let c0_330 : Index := 0#32
  ![3, v406.toNat, 0, 0]
def k0_off35 (i : grid0.Coords) (k0_t2 : Fin (k0_t2_loop i).trips) : Fin 4 → Nat :=
  let c4_346 : Index := 4#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v422 : Index := Scalar.indexCast v357
  let c0_347 : Index := 0#32
  let c0_348 : Index := 0#32
  ![4, v422.toNat, 0, 0]
def k0_off36 (i : grid0.Coords) (k0_t2 : Fin (k0_t2_loop i).trips) : Fin 4 → Nat :=
  let c5_364 : Index := 5#32
  let c2_i32_216 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v297 : BitVec 32 := Scalar.muli c2_i32_216 arg12
  let c1_i32_272 : BitVec 32 := 1#32
  let v356 : BitVec 32 := Scalar.subi v297 c1_i32_272
  let c0_i32_273 : BitVec 32 := 0#32
  let v357 : BitVec 32 := Scalar.maxsi v356 c0_i32_273
  let v438 : Index := Scalar.indexCast v357
  let c0_365 : Index := 0#32
  let c0_366 : Index := 0#32
  ![5, v438.toNat, 0, 0]
def k0_mult5 (i : grid0.Coords) (k0_t2 : Fin (k0_t2_loop i).trips) : BitVec 32 :=
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  v599
def k0_off37 (i : grid0.Coords) (k0_t2 : Fin (k0_t2_loop i).trips) : Fin 3 → Nat :=
  let c0_495 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v601 : Index := Scalar.indexCast v600
  let c0_496 : Index := 0#32
  ![0, v601.toNat, 0]
def k0_off38 (i : grid0.Coords) (k0_t2 : Fin (k0_t2_loop i).trips) : Fin 3 → Nat :=
  let c0_501 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v607 : Index := Scalar.indexCast v600
  let c256_502 : Index := 256#32
  ![0, v607.toNat, 256]
def k0_off39 (i : grid0.Coords) (k0_t2 : Fin (k0_t2_loop i).trips) : Fin 3 → Nat :=
  let c0_507 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v613 : Index := Scalar.indexCast v600
  let c512_508 : Index := 512#32
  ![0, v613.toNat, 512]
def k0_off40 (i : grid0.Coords) (k0_t2 : Fin (k0_t2_loop i).trips) : Fin 3 → Nat :=
  let c0_513 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v619 : Index := Scalar.indexCast v600
  let c768_514 : Index := 768#32
  ![0, v619.toNat, 768]
def k0_off41 (i : grid0.Coords) (k0_t2 : Fin (k0_t2_loop i).trips) : Fin 3 → Nat :=
  let c0_519 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v625 : Index := Scalar.indexCast v600
  let c1024_520 : Index := 1024#32
  ![0, v625.toNat, 1024]
def k0_off42 (i : grid0.Coords) (k0_t2 : Fin (k0_t2_loop i).trips) : Fin 3 → Nat :=
  let c0_525 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_493 : BitVec 32 := 1#32
  let v597 : BitVec 32 := Scalar.addi v596 c1_i32_493
  let v598 : BitVec 32 := Scalar.minsi v597 arg1
  let c256_i32_494 : BitVec 32 := 256#32
  let v599 : BitVec 32 := Scalar.muli v598 c256_i32_494
  let v600 : BitVec 32 := v599
  let v631 : Index := Scalar.indexCast v600
  let c1280_526 : Index := 1280#32
  ![0, v631.toNat, 1280]
def k0_off43 (i : grid0.Coords) (k0_t2 : Fin (k0_t2_loop i).trips) : Fin 4 → Nat :=
  let c0_551 : Index := 0#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v657 : Index := Scalar.indexCast v656
  let c0_552 : Index := 0#32
  let c0_553 : Index := 0#32
  ![0, v657.toNat, 0, 0]
def k0_off44 (i : grid0.Coords) (k0_t2 : Fin (k0_t2_loop i).trips) : Fin 4 → Nat :=
  let c1_569 : Index := 1#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v673 : Index := Scalar.indexCast v656
  let c0_570 : Index := 0#32
  let c0_571 : Index := 0#32
  ![1, v673.toNat, 0, 0]
def k0_off45 (i : grid0.Coords) (k0_t2 : Fin (k0_t2_loop i).trips) : Fin 4 → Nat :=
  let c2_587 : Index := 2#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v689 : Index := Scalar.indexCast v656
  let c0_588 : Index := 0#32
  let c0_589 : Index := 0#32
  ![2, v689.toNat, 0, 0]
def k0_off46 (i : grid0.Coords) (k0_t2 : Fin (k0_t2_loop i).trips) : Fin 4 → Nat :=
  let c3_605 : Index := 3#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v705 : Index := Scalar.indexCast v656
  let c0_606 : Index := 0#32
  let c0_607 : Index := 0#32
  ![3, v705.toNat, 0, 0]
def k0_off47 (i : grid0.Coords) (k0_t2 : Fin (k0_t2_loop i).trips) : Fin 4 → Nat :=
  let c4_623 : Index := 4#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v721 : Index := Scalar.indexCast v656
  let c0_624 : Index := 0#32
  let c0_625 : Index := 0#32
  ![4, v721.toNat, 0, 0]
def k0_off48 (i : grid0.Coords) (k0_t2 : Fin (k0_t2_loop i).trips) : Fin 4 → Nat :=
  let c5_641 : Index := 5#32
  let c2_i32_491 : BitVec 32 := 2#32
  let c0_i32_69 : BitVec 32 := 0#32
  let arg1 : BitVec 32 := BitVec.ofNat 32 (i 1).val
  let c1_i32 : BitVec 32 := 1#32
  let v77 : BitVec 32 := Scalar.addi arg1 c1_i32
  let c0_i32_62 : BitVec 32 := 0#32
  let v79 : BitVec 1 := Scalar.cmpi .sgt v77 c0_i32_62
  let v80 : BitVec 32 := Scalar.extui v79
  let c0_i32_63 : BitVec 32 := 0#32
  let v81 : BitVec 1 := Scalar.cmpi .slt v77 c0_i32_63
  let v82 : BitVec 32 := Scalar.extui v81
  let v83 : BitVec 32 := Scalar.subi v80 v82
  let c2_i32 : BitVec 32 := 2#32
  let c0_i32_64 : BitVec 32 := 0#32
  let v84 : BitVec 1 := Scalar.cmpi .sgt c2_i32 c0_i32_64
  let v85 : BitVec 32 := Scalar.extui v84
  let c0_i32_65 : BitVec 32 := 0#32
  let v86 : BitVec 1 := Scalar.cmpi .slt c2_i32 c0_i32_65
  let v87 : BitVec 32 := Scalar.extui v86
  let v88 : BitVec 32 := Scalar.subi v85 v87
  let v89 : BitVec 1 := Scalar.cmpi .ne v83 v88
  let v90 : BitVec 32 := Scalar.remsi v77 c2_i32
  let c0_i32_66 : BitVec 32 := 0#32
  let v91 : BitVec 1 := Scalar.cmpi .ne v90 c0_i32_66
  let v92 : BitVec 1 := Scalar.andi v89 v91
  let v78 : BitVec 32 := Scalar.divsi v77 c2_i32
  let c1_i32_67 : BitVec 32 := 1#32
  let v93 : BitVec 32 := Scalar.subi v78 c1_i32_67
  let v94 : BitVec 32 := Scalar.select v92 v93 v78
  let v95 : BitVec 32 := Scalar.subi v94 c0_i32_69
  let c1_i32_70 : BitVec 32 := 1#32
  let v97 : BitVec 32 := Scalar.divsi v95 c1_i32_70
  let v98 : BitVec 32 := Scalar.muli v97 c1_i32_70
  let v99 : BitVec 32 := Scalar.addi c0_i32_69 v98
  let c1_i32_72 : BitVec 32 := 1#32
  let arg12 : BitVec 32 := Scf.iv v99 c1_i32_72 k0_t2
  let v595 : BitVec 32 := Scalar.muli c2_i32_491 arg12
  let c1_i32_492 : BitVec 32 := 1#32
  let v596 : BitVec 32 := Scalar.addi v595 c1_i32_492
  let c1_i32_549 : BitVec 32 := 1#32
  let v655 : BitVec 32 := Scalar.subi v596 c1_i32_549
  let c0_i32_550 : BitVec 32 := 0#32
  let v656 : BitVec 32 := Scalar.maxsi v655 c0_i32_550
  let v737 : Index := Scalar.indexCast v656
  let c0_642 : Index := 0#32
  let c0_643 : Index := 0#32
  ![5, v737.toNat, 0, 0]
def k0_cond1 (i : grid0.Coords) : BitVec 1 :=
  let arg1 : BitVec 32 := BitVec.ofNat 32 (i 1).val
  let c1_i32 : BitVec 32 := 1#32
  let v77 : BitVec 32 := Scalar.addi arg1 c1_i32
  let c2_i32_73 : BitVec 32 := 2#32
  let c0_i32_74 : BitVec 32 := 0#32
  let v100 : BitVec 1 := Scalar.cmpi .eq c2_i32_73 c0_i32_74
  let c1_i32_75 : BitVec 32 := 1#32
  let v101 : BitVec 32 := Scalar.select v100 c1_i32_75 c2_i32_73
  let v102 : BitVec 32 := Scalar.remsi v77 v101
  let c0_i32_77 : BitVec 32 := 0#32
  let v104 : BitVec 1 := Scalar.cmpi .slt v102 c0_i32_77
  let c0_i32_78 : BitVec 32 := 0#32
  let v105 : BitVec 1 := Scalar.cmpi .slt v101 c0_i32_78
  let v106 : BitVec 1 := Scalar.xori v104 v105
  let c0_i32_76 : BitVec 32 := 0#32
  let v103 : BitVec 1 := Scalar.cmpi .ne v102 c0_i32_76
  let v107 : BitVec 1 := Scalar.andi v106 v103
  let v108 : BitVec 32 := Scalar.addi v102 v101
  let v109 : BitVec 32 := Scalar.select v107 v108 v102
  let c1_i32_79 : BitVec 32 := 1#32
  let v110 : BitVec 1 := Scalar.cmpi .eq v109 c1_i32_79
  let v111 : BitVec 32 := Scalar.extui v110
  let c0_i32_80 : BitVec 32 := 0#32
  let v112 : BitVec 1 := Scalar.cmpi .ne v111 c0_i32_80
  v112

def k0_off49 (i : grid0.Coords) : Fin 4 → Nat :=
  let c0_218 : Index := 0#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v299 : Index := Scalar.indexCast v298
  let c0_219 : Index := 0#32
  let c0_220 : Index := 0#32
  ![0, v299.toNat, 0, 0]
def k0_off50 (i : grid0.Coords) : Fin 4 → Nat :=
  let c1_236 : Index := 1#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v315 : Index := Scalar.indexCast v298
  let c0_237 : Index := 0#32
  let c0_238 : Index := 0#32
  ![1, v315.toNat, 0, 0]
def k0_off51 (i : grid0.Coords) : Fin 4 → Nat :=
  let c2_254 : Index := 2#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v331 : Index := Scalar.indexCast v298
  let c0_255 : Index := 0#32
  let c0_256 : Index := 0#32
  ![2, v331.toNat, 0, 0]
def k0_off52 (i : grid0.Coords) : Fin 4 → Nat :=
  let c3_272 : Index := 3#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v347 : Index := Scalar.indexCast v298
  let c0_273 : Index := 0#32
  let c0_274 : Index := 0#32
  ![3, v347.toNat, 0, 0]
def k0_off53 (i : grid0.Coords) : Fin 4 → Nat :=
  let c4_290 : Index := 4#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v363 : Index := Scalar.indexCast v298
  let c0_291 : Index := 0#32
  let c0_292 : Index := 0#32
  ![4, v363.toNat, 0, 0]
def k0_off54 (i : grid0.Coords) : Fin 4 → Nat :=
  let c5_308 : Index := 5#32
  let arg1 : BitVec 32 := BitVec.ofNat 32 (i 1).val
  let c1_i32_216 : BitVec 32 := 1#32
  let v297 : BitVec 32 := Scalar.subi arg1 c1_i32_216
  let c0_i32_217 : BitVec 32 := 0#32
  let v298 : BitVec 32 := Scalar.maxsi v297 c0_i32_217
  let v379 : Index := Scalar.indexCast v298
  let c0_309 : Index := 0#32
  let c0_310 : Index := 0#32
  ![5, v379.toNat, 0, 0]
def k0_off55 (i : grid0.Coords) : Fin 4 → Nat :=
  let c0_87 : Index := 0#32
  let arg1 : BitVec 32 := BitVec.ofNat 32 (i 1).val
  let v123 : Index := Scalar.indexCast arg1
  let c0_88 : Index := 0#32
  let c0_89 : Index := 0#32
  ![0, v123.toNat, 0, 0]
def k0_off56 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v126 : Index := Scalar.indexCast v122
  let c0_90 : Index := 0#32
  let c0_91 : Index := 0#32
  let c0_92 : Index := 0#32
  ![v126.toNat, 0, 0, 0]
def k0_off57 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v132 : Index := Scalar.indexCast v122
  let c0_97 : Index := 0#32
  let c0_98 : Index := 0#32
  let c0_99 : Index := 0#32
  ![v132.toNat, 0, 0, 0]
def k0_off58 (i : grid0.Coords) : Fin 4 → Nat :=
  let c1_103 : Index := 1#32
  let arg1 : BitVec 32 := BitVec.ofNat 32 (i 1).val
  let v141 : Index := Scalar.indexCast arg1
  let c0_104 : Index := 0#32
  let c0_105 : Index := 0#32
  ![1, v141.toNat, 0, 0]
def k0_off59 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v144 : Index := Scalar.indexCast v122
  let c1_106 : Index := 1#32
  let c0_107 : Index := 0#32
  let c0_108 : Index := 0#32
  ![v144.toNat, 1, 0, 0]
def k0_off60 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v150 : Index := Scalar.indexCast v122
  let c1_113 : Index := 1#32
  let c0_114 : Index := 0#32
  let c0_115 : Index := 0#32
  ![v150.toNat, 1, 0, 0]
def k0_off61 (i : grid0.Coords) : Fin 4 → Nat :=
  let c2_119 : Index := 2#32
  let arg1 : BitVec 32 := BitVec.ofNat 32 (i 1).val
  let v159 : Index := Scalar.indexCast arg1
  let c0_120 : Index := 0#32
  let c0_121 : Index := 0#32
  ![2, v159.toNat, 0, 0]
def k0_off62 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v162 : Index := Scalar.indexCast v122
  let c2_122 : Index := 2#32
  let c0_123 : Index := 0#32
  let c0_124 : Index := 0#32
  ![v162.toNat, 2, 0, 0]
def k0_off63 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v168 : Index := Scalar.indexCast v122
  let c2_129 : Index := 2#32
  let c0_130 : Index := 0#32
  let c0_131 : Index := 0#32
  ![v168.toNat, 2, 0, 0]
def k0_off64 (i : grid0.Coords) : Fin 4 → Nat :=
  let c3_135 : Index := 3#32
  let arg1 : BitVec 32 := BitVec.ofNat 32 (i 1).val
  let v177 : Index := Scalar.indexCast arg1
  let c0_136 : Index := 0#32
  let c0_137 : Index := 0#32
  ![3, v177.toNat, 0, 0]
def k0_off65 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v180 : Index := Scalar.indexCast v122
  let c3_138 : Index := 3#32
  let c0_139 : Index := 0#32
  let c0_140 : Index := 0#32
  ![v180.toNat, 3, 0, 0]
def k0_off66 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v186 : Index := Scalar.indexCast v122
  let c3_145 : Index := 3#32
  let c0_146 : Index := 0#32
  let c0_147 : Index := 0#32
  ![v186.toNat, 3, 0, 0]
def k0_off67 (i : grid0.Coords) : Fin 4 → Nat :=
  let c4_151 : Index := 4#32
  let arg1 : BitVec 32 := BitVec.ofNat 32 (i 1).val
  let v195 : Index := Scalar.indexCast arg1
  let c0_152 : Index := 0#32
  let c0_153 : Index := 0#32
  ![4, v195.toNat, 0, 0]
def k0_off68 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v198 : Index := Scalar.indexCast v122
  let c4_154 : Index := 4#32
  let c0_155 : Index := 0#32
  let c0_156 : Index := 0#32
  ![v198.toNat, 4, 0, 0]
def k0_off69 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v204 : Index := Scalar.indexCast v122
  let c4_161 : Index := 4#32
  let c0_162 : Index := 0#32
  let c0_163 : Index := 0#32
  ![v204.toNat, 4, 0, 0]
def k0_off70 (i : grid0.Coords) : Fin 4 → Nat :=
  let c5_167 : Index := 5#32
  let arg1 : BitVec 32 := BitVec.ofNat 32 (i 1).val
  let v213 : Index := Scalar.indexCast arg1
  let c0_168 : Index := 0#32
  let c0_169 : Index := 0#32
  ![5, v213.toNat, 0, 0]
def k0_off71 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v216 : Index := Scalar.indexCast v122
  let c5_170 : Index := 5#32
  let c0_171 : Index := 0#32
  let c0_172 : Index := 0#32
  ![v216.toNat, 5, 0, 0]
def k0_off72 (i : grid0.Coords) : Fin 4 → Nat :=
  let arg1 : BitVec 32 := BitVec.ofNat 32 (i 1).val
  let c2_i32_81 : BitVec 32 := 2#32
  let c0_i32_82 : BitVec 32 := 0#32
  let v113 : BitVec 1 := Scalar.cmpi .eq c2_i32_81 c0_i32_82
  let c1_i32_83 : BitVec 32 := 1#32
  let v114 : BitVec 32 := Scalar.select v113 c1_i32_83 c2_i32_81
  let v115 : BitVec 32 := Scalar.remsi arg1 v114
  let c0_i32_85 : BitVec 32 := 0#32
  let v117 : BitVec 1 := Scalar.cmpi .slt v115 c0_i32_85
  let c0_i32_86 : BitVec 32 := 0#32
  let v118 : BitVec 1 := Scalar.cmpi .slt v114 c0_i32_86
  let v119 : BitVec 1 := Scalar.xori v117 v118
  let c0_i32_84 : BitVec 32 := 0#32
  let v116 : BitVec 1 := Scalar.cmpi .ne v115 c0_i32_84
  let v120 : BitVec 1 := Scalar.andi v119 v116
  let v121 : BitVec 32 := Scalar.addi v115 v114
  let v122 : BitVec 32 := Scalar.select v120 v121 v115
  let v222 : Index := Scalar.indexCast v122
  let c5_177 : Index := 5#32
  let c0_178 : Index := 0#32
  let c0_179 : Index := 0#32
  ![v222.toNat, 5, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S6x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6x8x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaRefIdeal.lean ====
abbrev S6x256x16384 : Shape := ⟨3, ![6, 256, 16384]⟩
abbrev S8x2048x1536 : Shape := ⟨3, ![8, 2048, 1536]⟩
abbrev S6x64x144x256 : Shape := ⟨4, ![6, 64, 144, 256]⟩
abbrev S6x256x8x2048 : Shape := ⟨4, ![6, 256, 8, 2048]⟩
abbrev S8x2048x6x256 : Shape := ⟨4, ![8, 2048, 6, 256]⟩
abbrev S6x64x128x256 : Shape := ⟨4, ![6, 64, 128, 256]⟩
abbrev S6x8x8x128x256 : Shape := ⟨5, ![6, 8, 8, 128, 256]⟩
abbrev S6x8x8x256x128 : Shape := ⟨5, ![6, 8, 8, 256, 128]⟩
abbrev S6x8x2048x128 : Shape := ⟨4, ![6, 8, 2048, 128]⟩
abbrev S8x6x2048x2048 : Shape := ⟨4, ![8, 6, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x6x2048 : Shape := ⟨3, ![8, 6, 2048]⟩
abbrev S8x6x2048x1 : Shape := ⟨4, ![8, 6, 2048, 1]⟩
abbrev S8x6x128x2048 : Shape := ⟨4, ![8, 6, 128, 2048]⟩
abbrev S8x2048x6x128 : Shape := ⟨4, ![8, 2048, 6, 128]⟩
abbrev S8x2048x768 : Shape := ⟨3, ![8, 2048, 768]⟩

abbrev nBuf : Space → Nat
  | .hbm => 44
  | .vmem => 0
  | .smem => 0
  | _ => 0

abbrev bufTy : (tb : Table) → Fin (tcTables nBuf tb) → BufTy
  | .hbm, ⟨0, _⟩ => ⟨S6x256x16384, .bf16⟩
  | .hbm, ⟨1, _⟩ => ⟨S8x2048x1536, .bf16⟩
  | .hbm, ⟨2, _⟩ => ⟨S6x64x144x256, .bf16⟩
  | .hbm, ⟨3, _⟩ => ⟨S6x256x16384, .f32⟩
  | .hbm, ⟨4, _⟩ => ⟨S6x256x8x2048, .f32⟩
  | .hbm, ⟨5, _⟩ => ⟨S8x2048x1536, .f32⟩
  | .hbm, ⟨6, _⟩ => ⟨S8x2048x6x256, .f32⟩
  | .hbm, ⟨7, _⟩ => ⟨S6x64x144x256, .f32⟩
  | .hbm, ⟨8, _⟩ => ⟨S6x64x128x256, .f32⟩
  | .hbm, ⟨9, _⟩ => ⟨S6x8x8x128x256, .f32⟩
  | .hbm, ⟨10, _⟩ => ⟨S6x8x8x256x128, .f32⟩
  | .hbm, ⟨11, _⟩ => ⟨S6x8x2048x128, .f32⟩
  | .hbm, ⟨12, _⟩ => ⟨S8x6x2048x2048, .f32⟩
  | .hbm, ⟨13, _⟩ => ⟨S_, .f32⟩
  | .hbm, ⟨14, _⟩ => ⟨S_, .f32⟩
  | .hbm, ⟨15, _⟩ => ⟨S8x6x2048x2048, .f32⟩
  | .hbm, ⟨16, _⟩ => ⟨S8x6x2048x2048, .f32⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S8x6x2048x2048, .i1⟩
  | .hbm, ⟨27, _⟩ => ⟨S8x6x2048x2048, .f32⟩
  | .hbm, ⟨28, _⟩ => ⟨S8x6x2048x2048, .f32⟩
  | .hbm, ⟨29, _⟩ => ⟨S_, .f32⟩
  | .hbm, ⟨30, _⟩ => ⟨S8x6x2048, .f32⟩
  | .hbm, ⟨31, _⟩ => ⟨S8x6x2048x1, .f32⟩
  | .hbm, ⟨32, _⟩ => ⟨S8x6x2048x2048, .f32⟩
  | .hbm, ⟨33, _⟩ => ⟨S8x6x2048x2048, .f32⟩
  | .hbm, ⟨34, _⟩ => ⟨S8x6x2048x2048, .f32⟩
  | .hbm, ⟨35, _⟩ => ⟨S_, .f32⟩
  | .hbm, ⟨36, _⟩ => ⟨S8x6x2048, .f32⟩
  | .hbm, ⟨37, _⟩ => ⟨S8x6x2048x1, .f32⟩
  | .hbm, ⟨38, _⟩ => ⟨S8x6x2048x2048, .f32⟩
  | .hbm, ⟨39, _⟩ => ⟨S8x6x2048x2048, .f32⟩
  | .hbm, ⟨40, _⟩ => ⟨S8x6x128x2048, .f32⟩
  | .hbm, ⟨41, _⟩ => ⟨S8x2048x6x128, .f32⟩
  | .hbm, ⟨42, _⟩ => ⟨S8x2048x768, .f32⟩
  | .hbm, ⟨43, _⟩ => ⟨S8x2048x768, .bf16⟩
  | _, _ => ⟨S6x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Ffn.lean ====
abbrev S16384x2048 : Shape := ⟨2, ![16384, 2048]⟩
abbrev S2048x11264 : Shape := ⟨2, ![2048, 11264]⟩
abbrev S5632x2048 : Shape := ⟨2, ![5632, 2048]⟩
abbrev S12x1x2048 : Shape := ⟨3, ![12, 1, 2048]⟩
abbrev S4x2048x11264 : Shape := ⟨3, ![4, 2048, 11264]⟩
abbrev S4x5632x2048 : Shape := ⟨3, ![4, 5632, 2048]⟩
abbrev S1024x2048 : Shape := ⟨2, ![1024, 2048]⟩
abbrev S2048x512 : Shape := ⟨2, ![2048, 512]⟩
abbrev S512x2048 : Shape := ⟨2, ![512, 2048]⟩
abbrev S1x1x2048 : Shape := ⟨3, ![1, 1, 2048]⟩
abbrev S1x128x1024 : Shape := ⟨3, ![1, 128, 1024]⟩
abbrev S1x512x128 : Shape := ⟨3, ![1, 512, 128]⟩
abbrev S128x1024 : Shape := ⟨2, ![128, 1024]⟩
abbrev S512x128 : Shape := ⟨2, ![512, 128]⟩
abbrev S1024x512 : Shape := ⟨2, ![1024, 512]⟩
abbrev S1x2048 : Shape := ⟨2, ![1, 2048]⟩
abbrev S1024 : Shape := ⟨1, ![1024]⟩
abbrev S1024x1 : Shape := ⟨2, ![1024, 1]⟩

abbrev nBuf : Space → Nat
  | .hbm => 10
  | .vmem => 21
  | .smem => 0
  | _ => 0

abbrev bufTy : (tb : Table) → Fin (tcTables nBuf tb) → BufTy
  | .hbm, ⟨0, _⟩ => ⟨S16384x2048, .f32⟩
  | .hbm, ⟨1, _⟩ => ⟨S2048x11264, .bf16⟩
  | .hbm, ⟨2, _⟩ => ⟨S5632x2048, .bf16⟩
  | .hbm, ⟨3, _⟩ => ⟨S12x1x2048, .f32⟩
  | .hbm, ⟨4, _⟩ => ⟨S12x1x2048, .f32⟩
  | .hbm, ⟨5, _⟩ => ⟨S4x2048x11264, .f32⟩
  | .hbm, ⟨6, _⟩ => ⟨S4x5632x2048, .f32⟩
  | .hbm, ⟨7, _⟩ => ⟨S16384x2048, .f32⟩
  | .hbm, ⟨8, _⟩ => ⟨S2048x11264, .bf16⟩
  | .hbm, ⟨9, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x128x1024, .f32⟩
  | .local _ .vmem, ⟨11, _⟩ => ⟨S1x128x1024, .f32⟩
  | .local _ .vmem, ⟨12, _⟩ => ⟨S1x512x128, .f32⟩
  | .local _ .vmem, ⟨13, _⟩ => ⟨S1x512x128, .f32⟩
  | .local _ .vmem, ⟨14, _⟩ => ⟨S1024x2048, .f32⟩
  | .local _ .vmem, ⟨15, _⟩ => ⟨S1024x2048, .f32⟩
  | .local _ .vmem, ⟨16, _⟩ => ⟨S128x1024, .bf16⟩
  | .local _ .vmem, ⟨17, _⟩ => ⟨S128x1024, .bf16⟩
  | .local _ .vmem, ⟨18, _⟩ => ⟨S512x128, .bf16⟩
  | .local _ .vmem, ⟨19, _⟩ => ⟨S512x128, .bf16⟩
  | .local _ .vmem, ⟨20, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S16384x2048 : Shape := ⟨2, ![16384, 2048]⟩
abbrev S2048x11264 : Shape := ⟨2, ![2048, 11264]⟩
abbrev S5632x2048 : Shape := ⟨2, ![5632, 2048]⟩
abbrev S12x1x2048 : Shape := ⟨3, ![12, 1, 2048]⟩
abbrev S4x2048x11264 : Shape := ⟨3, ![4, 2048, 11264]⟩
abbrev S4x5632x2048 : Shape := ⟨3, ![4, 5632, 2048]⟩
abbrev S16384x11264 : Shape := ⟨2, ![16384, 11264]⟩
abbrev S16384x5632 : Shape := ⟨2, ![16384, 5632]⟩
abbrev S_ : Shape := ⟨0, ![]⟩
abbrev S1x1x2048 : Shape := ⟨3, ![1, 1, 2048]⟩
abbrev S1x2048 : Shape := ⟨2, ![1, 2048]⟩
abbrev S16384 : Shape := ⟨1, ![16384]⟩
abbrev S16384x1 : Shape := ⟨2, ![16384, 1]⟩
abbrev S1x2048x11264 : Shape := ⟨3, ![1, 2048, 11264]⟩
abbrev S1x5632x2048 : Shape := ⟨3, ![1, 5632, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x11264, .bf16⟩
  | .hbm, ⟨2, _⟩ => ⟨S5632x2048, .bf16⟩
  | .hbm, ⟨3, _⟩ => ⟨S12x1x2048, .f32⟩
  | .hbm, ⟨4, _⟩ => ⟨S12x1x2048, .f32⟩
  | .hbm, ⟨5, _⟩ => ⟨S4x2048x11264, .f32⟩
  | .hbm, ⟨6, _⟩ => ⟨S4x5632x2048, .f32⟩
  | .hbm, ⟨7, _⟩ => ⟨S2048x11264, .f32⟩
  | .hbm, ⟨8, _⟩ => ⟨S16384x11264, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S_, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S5632x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S1x1x2048, .f32⟩
  | .hbm, ⟨31, _⟩ => ⟨S1x2048, .f32⟩
  | .hbm, ⟨32, _⟩ => ⟨S1x1x2048, .f32⟩
  | .hbm, ⟨33, _⟩ => ⟨S1x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S1x2048x11264, .f32⟩
  | .hbm, ⟨62, _⟩ => ⟨S2048x11264, .f32⟩
  | .hbm, ⟨63, _⟩ => ⟨S2048x11264, .bf16⟩
  | .hbm, ⟨64, _⟩ => ⟨S1x5632x2048, .f32⟩
  | .hbm, ⟨65, _⟩ => ⟨S5632x2048, .f32⟩
  | .hbm, ⟨66, _⟩ => ⟨S5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== InProj.lean ====
abbrev S16384x2048 : Shape := ⟨2, ![16384, 2048]⟩
abbrev S4x10240x2048 : Shape := ⟨3, ![4, 10240, 2048]⟩
abbrev S16384x10240 : Shape := ⟨2, ![16384, 10240]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S4x10240x2048, .bf16⟩
  | .hbm, ⟨2, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x2048 : Shape := ⟨2, ![16384, 2048]⟩
abbrev S4x10240x2048 : Shape := ⟨3, ![4, 10240, 2048]⟩
abbrev S1x10240x2048 : Shape := ⟨3, ![1, 10240, 2048]⟩
abbrev S10240x2048 : Shape := ⟨2, ![10240, 2048]⟩
abbrev S16384x10240 : Shape := ⟨2, ![16384, 10240]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x10240x2048, .bf16⟩
  | .hbm, ⟨2, _⟩ => ⟨S1x10240x2048, .bf16⟩
  | .hbm, ⟨3, _⟩ => ⟨S10240x2048, .bf16⟩
  | .hbm, ⟨4, _⟩ => ⟨S10240x2048, .f32⟩
  | .hbm, ⟨5, _⟩ => ⟨S16384x10240, .f32⟩
  | .hbm, ⟨6, _⟩ => ⟨S16384x10240, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix.lean ====
abbrev S16384x768 : Shape := ⟨2, ![16384, 768]⟩
abbrev S8x256x1024 : Shape := ⟨3, ![8, 256, 1024]⟩
abbrev S16384x10240 : Shape := ⟨2, ![16384, 10240]⟩
abbrev S16384x2048 : Shape := ⟨2, ![16384, 2048]⟩
abbrev S4x2048x2048 : Shape := ⟨3, ![4, 2048, 2048]⟩
abbrev S12x1x2048 : Shape := ⟨3, ![12, 1, 2048]⟩
abbrev S256x768 : Shape := ⟨2, ![256, 768]⟩
abbrev S256x512 : Shape := ⟨2, ![256, 512]⟩
abbrev S1x256x1024 : Shape := ⟨3, ![1, 256, 1024]⟩
abbrev S256x2048 : Shape := ⟨2, ![256, 2048]⟩
abbrev S1x2048x2048 : Shape := ⟨3, ![1, 2048, 2048]⟩
abbrev S1x1x2048 : Shape := ⟨3, ![1, 1, 2048]⟩
abbrev S1x768x2048 : Shape := ⟨3, ![1, 768, 2048]⟩
abbrev S768x2048 : Shape := ⟨2, ![768, 2048]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x512x2048 : Shape := ⟨3, ![1, 512, 2048]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 10
  | .vmem => 22
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S8x256x1024, .bf16⟩
  | .hbm, ⟨3, _⟩ => ⟨S16384x10240, .bf16⟩
  | .hbm, ⟨4, _⟩ => ⟨S16384x2048, .f32⟩
  | .hbm, ⟨5, _⟩ => ⟨S4x2048x2048, .bf16⟩
  | .hbm, ⟨6, _⟩ => ⟨S4x2048x2048, .bf16⟩
  | .hbm, ⟨7, _⟩ => ⟨S12x1x2048, .f32⟩
  | .hbm, ⟨8, _⟩ => ⟨S12x1x2048, .f32⟩
  | .hbm, ⟨9, _⟩ => ⟨S16384x2048, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x512, .bf16⟩
  | .local _ .vmem, ⟨5, _⟩ => ⟨S256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S1x2048x2048, .bf16⟩
  | .local _ .vmem, ⟨17, _⟩ => ⟨S1x2048x2048, .bf16⟩
  | .local _ .vmem, ⟨18, _⟩ => ⟨S1x1x2048, .f32⟩
  | .local _ .vmem, ⟨19, _⟩ => ⟨S1x1x2048, .f32⟩
  | .local _ .vmem, ⟨20, _⟩ => ⟨S256x2048, .f32⟩
  | .local _ .vmem, ⟨21, _⟩ => ⟨S256x2048, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S16384x768 : Shape := ⟨2, ![16384, 768]⟩
abbrev S8x256x1024 : Shape := ⟨3, ![8, 256, 1024]⟩
abbrev S16384x10240 : Shape := ⟨2, ![16384, 10240]⟩
abbrev S16384x2048 : Shape := ⟨2, ![16384, 2048]⟩
abbrev S4x2048x2048 : Shape := ⟨3, ![4, 2048, 2048]⟩
abbrev S12x1x2048 : Shape := ⟨3, ![12, 1, 2048]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S16384x512 : Shape := ⟨2, ![16384, 512]⟩
abbrev S8x2048x4x128 : Shape := ⟨4, ![8, 2048, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S1x2048x2048 : Shape := ⟨3, ![1, 2048, 2048]⟩
abbrev S2048x2048 : Shape := ⟨2, ![2048, 2048]⟩
abbrev S16384x6144 : Shape := ⟨2, ![16384, 6144]⟩
abbrev S768x2048 : Shape := ⟨2, ![768, 2048]⟩
abbrev S512x2048 : Shape := ⟨2, ![512, 2048]⟩
abbrev S1x1x2048 : Shape := ⟨3, ![1, 1, 2048]⟩
abbrev S1x2048 : Shape := ⟨2, ![1, 2048]⟩
abbrev S16384 : Shape := ⟨1, ![16384]⟩
abbrev S16384x1 : Shape := ⟨2, ![16384, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S8x256x1024, .bf16⟩
  | .hbm, ⟨3, _⟩ => ⟨S16384x10240, .bf16⟩
  | .hbm, ⟨4, _⟩ => ⟨S16384x2048, .f32⟩
  | .hbm, ⟨5, _⟩ => ⟨S4x2048x2048, .bf16⟩
  | .hbm, ⟨6, _⟩ => ⟨S4x2048x2048, .bf16⟩
  | .hbm, ⟨7, _⟩ => ⟨S12x1x2048, .f32⟩
  | .hbm, ⟨8, _⟩ => ⟨S12x1x2048, .f32⟩
  | .hbm, ⟨9, _⟩ => ⟨S8x256x1024, .f32⟩
  | .hbm, ⟨10, _⟩ => ⟨S8x256x2x4x128, .f32⟩
  | .hbm, ⟨11, _⟩ => ⟨S8x256x1x4x128, .f32⟩
  | .hbm, ⟨12, _⟩ => ⟨S8x256x4x128, .f32⟩
  | .hbm, ⟨13, _⟩ => ⟨S8x256x1x4x128, .f32⟩
  | .hbm, ⟨14, _⟩ => ⟨S8x256x4x128, .f32⟩
  | .hbm, ⟨15, _⟩ => ⟨S16384x512, .bf16⟩
  | .hbm, ⟨16, _⟩ => ⟨S16384x512, .f32⟩
  | .hbm, ⟨17, _⟩ => ⟨S8x2048x4x128, .f32⟩
  | .hbm, ⟨18, _⟩ => ⟨S8x4x2048x256, .f32⟩
  | .hbm, ⟨19, _⟩ => ⟨S_, .f32⟩
  | .hbm, ⟨20, _⟩ => ⟨S8x4x2048x256, .f32⟩
  | .hbm, ⟨21, _⟩ => ⟨S8x4x2048x256, .f32⟩
  | .hbm, ⟨22, _⟩ => ⟨S_, .f32⟩
  | .hbm, ⟨23, _⟩ => ⟨S8x4x2048, .f32⟩
  | .hbm, ⟨24, _⟩ => ⟨S8x4x2048x1, .f32⟩
  | .hbm, ⟨25, _⟩ => ⟨S8x4x2048x256, .f32⟩
  | .hbm, ⟨26, _⟩ => ⟨S8x4x2048x256, .f32⟩
  | .hbm, ⟨27, _⟩ => ⟨S8x4x2048x256, .f32⟩
  | .hbm, ⟨28, _⟩ => ⟨S_, .f32⟩
  | .hbm, ⟨29, _⟩ => ⟨S8x4x2048, .f32⟩
  | .hbm, ⟨30, _⟩ => ⟨S8x4x2048x1, .f32⟩
  | .hbm, ⟨31, _⟩ => ⟨S8x4x2048x256, .f32⟩
  | .hbm, ⟨32, _⟩ => ⟨S8x4x2048x256, .f32⟩
  | .hbm, ⟨33, _⟩ => ⟨S8x4x128x2048, .f32⟩
  | .hbm, ⟨34, _⟩ => ⟨S8x2048x4x128, .f32⟩
  | .hbm, ⟨35, _⟩ => ⟨S16384x512, .f32⟩
  | .hbm, ⟨36, _⟩ => ⟨S1x2048x2048, .bf16⟩
  | .hbm, ⟨37, _⟩ => ⟨S2048x2048, .bf16⟩
  | .hbm, ⟨38, _⟩ => ⟨S2048x2048, .f32⟩
  | .hbm, ⟨39, _⟩ => ⟨S16384x6144, .bf16⟩
  | .hbm, ⟨40, _⟩ => ⟨S16384x6144, .f32⟩
  | .hbm, ⟨41, _⟩ => ⟨S16384x6144, .f32⟩
  | .hbm, ⟨42, _⟩ => ⟨S16384x6144, .f32⟩
  | .hbm, ⟨43, _⟩ => ⟨S_, .f32⟩
  | .hbm, ⟨44, _⟩ => ⟨S16384x6144, .f32⟩
  | .hbm, ⟨45, _⟩ => ⟨S16384x6144, .f32⟩
  | .hbm, ⟨46, _⟩ => ⟨S_, .f32⟩
  | .hbm, ⟨47, _⟩ => ⟨S16384x6144, .f32⟩
  | .hbm, ⟨48, _⟩ => ⟨S16384x6144, .f32⟩
  | .hbm, ⟨49, _⟩ => ⟨S16384x2048, .f32⟩
  | .hbm, ⟨50, _⟩ => ⟨S16384x768, .f32⟩
  | .hbm, ⟨51, _⟩ => ⟨S768x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x768, .f32⟩
  | .hbm, ⟨56, _⟩ => ⟨S768x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S512x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S1x2048x2048, .bf16⟩
  | .hbm, ⟨69, _⟩ => ⟨S2048x2048, .bf16⟩
  | .hbm, ⟨70, _⟩ => ⟨S2048x2048, .f32⟩
  | .hbm, ⟨71, _⟩ => ⟨S16384x2048, .f32⟩
  | .hbm, ⟨72, _⟩ => ⟨S16384x2048, .f32⟩
  | .hbm, ⟨73, _⟩ => ⟨S1x1x2048, .f32⟩
  | .hbm, ⟨74, _⟩ => ⟨S1x2048, .f32⟩
  | .hbm, ⟨75, _⟩ => ⟨S1x1x2048, .f32⟩
  | .hbm, ⟨76, _⟩ => ⟨S1x2048, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x2048, .f32⟩
  | .hbm, ⟨93, _⟩ => ⟨S16384x2048, .f32⟩
  | .hbm, ⟨94, _⟩ => ⟨S_, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S16384x2048, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Proof.MlaIdeal.State.lean ====
/-
  What the attention kernel keeps per head, as plain functions: the logits of one chunk, the running maximum, the
  weights, the rescaling factor and the accumulated weighted sum, and the recursion over the chunks.
-/
module

public import proofs.«01_k».proof.Proof.Gen.MlaIdeal.Skeleton
public import proofs.«01_k».proof.Proof.Gen.MlaIdeal.Points
public import Idealize.ShloMosaic.Lib.Exec
public import Idealize.ShloMosaic.Lib.Pipeline.ReadBack
public import Idealize.ShloMosaic.Lib.ValueIdx

@[expose] public section

set_option maxRecDepth 16384

noncomputable section

namespace Cert.Proof.MlaIdeal

open Cert.MlaIdeal Cert.MlaIdeal.Gen
open Idealize.ShloMosaic Idealize.ShloMosaic.TcCoe
open Idealize.ShloMosaic.ValueIdx (ix3 ix4)

variable {F : FTy → Type} [FloatOps F]

/-! ## The blocks of the arguments -/

/-- Head `h`'s query block. -/
def qAt (x0 : Vec F S6x256x256 .bf16) (h : Fin 6) : Vec F S1x256x256 .bf16 := fun j =>
  x0 (ix3 h ⟨(j 1).val, (j 1).isLt⟩ ⟨(j 2).val, (j 2).isLt⟩)

/-- Head `h`'s keys of chunk `n` (the last chunk past the end). -/
def kAt (x1 : Vec F S1x2048x1536 .bf16) (n : ℕ) (h : Fin 6) : Vec F S1x256x256 .bf16 := fun j =>
  x1 (ix3 (0 : Fin 1) ⟨256 * min n 7 + (j 1).val, by have h1 : (j 1).val < 256 := (j 1).isLt; show _ < 2048; omega⟩
    ⟨256 * h.val + (j 2).val, by have h1 : (j 2).val < 256 := (j 2).isLt; have := h.isLt; show _ < 1536; omega⟩)

/-- Head `h`'s transposed values of chunk `n` (the last chunk past the end). -/
def vAt (x2 : Vec F S6x8x144x256 .bf16) (n : ℕ) (h : Fin 6) : Vec F S1x1x144x256 .bf16 := fun j =>
  x2 (ix4 h ⟨min n 7, by omega⟩ ⟨(j 2).val, (j 2).isLt⟩ ⟨(j 3).val, (j 3).isLt⟩)

theorem ld_q (x0 : Vec F S6x256x256 .bf16) (h : Fin 6) (off : Fin 3 → ℕ) (inb : ∀ a, off a + S1x256x256.size a ≤ S6x256x256.size a)
    (e : off = ![h.val, 0, 0]) : View.ld x0 (Rect.unit (s := S6x256x256) off S1x256x256.size inb) = qAt x0 h := by
  subst e
  funext j
  unfold qAt View.ld
  congr 1
  funext a
  have h0 : (j 0).val < 1 := (j 0).isLt
  match a with
  | ⟨0, _⟩ => exact Fin.ext (show h.val + 1 * (j 0).val = h.val by omega)
  | ⟨1, _⟩ => exact Fin.ext (show 0 + 1 * (j 1).val = (j 1).val by omega)
  | ⟨2, _⟩ => exact Fin.ext (show 0 + 1 * (j 2).val = (j 2).val by omega)

theorem ld_k (x1 : Vec F S1x2048x1536 .bf16) (n : ℕ) (h : Fin 6) (off : Fin 3 → ℕ) (inb : ∀ a, off a + S1x256x256.size a ≤ S1x2048x1536.size a)
    (e : off = ![0, 256 * min n 7, 256 * h.val]) : View.ld x1 (Rect.unit (s := S1x2048x1536) off S1x256x256.size inb) = kAt x1 n h := by
  subst e
  funext j
  unfold kAt View.ld
  congr 1
  funext a
  have h0 : (j 0).val < 1 := (j 0).isLt
  match a with
  | ⟨0, _⟩ => exact Fin.ext (show 0 + 1 * (j 0).val = 0 by omega)
  | ⟨1, _⟩ => exact Fin.ext (show 256 * min n 7 + 1 * (j 1).val = 256 * min n 7 + (j 1).val by omega)
  | ⟨2, _⟩ => exact Fin.ext (show 256 * h.val + 1 * (j 2).val = 256 * h.val + (j 2).val by omega)

theorem ld_v (x2 : Vec F S6x8x144x256 .bf16) (n : ℕ) (h : Fin 6) (off : Fin 4 → ℕ) (inb : ∀ a, off a + S1x1x144x256.size a ≤ S6x8x144x256.size a)
    (e : off = ![h.val, min n 7, 0, 0]) : View.ld x2 (Rect.unit (s := S6x8x144x256) off S1x1x144x256.size inb) = vAt x2 n h := by
  subst e
  funext j
  unfold vAt View.ld
  congr 1
  funext a
  have h0 : (j 0).val < 1 := (j 0).isLt
  have h1 : (j 1).val < 1 := (j 1).isLt
  match a with
  | ⟨0, _⟩ => exact Fin.ext (show h.val + 1 * (j 0).val = h.val by omega)
  | ⟨1, _⟩ => exact Fin.ext (show min n 7 + 1 * (j 1).val = min n 7 by omega)
  | ⟨2, _⟩ => exact Fin.ext (show 0 + 1 * (j 2).val = (j 2).val by omega)
  | ⟨3, _⟩ => exact Fin.ext (show 0 + 1 * (j 3).val = (j 3).val by omega)

/-! ## One chunk -/

/-- The logits of one chunk: keys times transposed queries. -/
def lgOf (k q : Vec F S1x256x256 .bf16) : FVec F S1x256x256 .f32 := k0_pay11 k q
/-- The mask of chunk `n`: the causal bias on the diagonal chunk, nothing before it. -/
def maskOf (qi : BitVec 32) (bias : FVec F S256x256 .f32) (n : ℕ) : FVec F S256x256 .f32 := k0_pay22 qi bias (BitVec.ofNat 32 n)
/-- The running maximum after a chunk. -/
def mOf (mask : FVec F S256x256 .f32) (lg : Vec F S1x256x256 .f32) (m : Vec F S1x1x256 .f32) : FVec F S1x1x256 .f32 := k0_pay120 mask lg m
/-- The chunk's weights. -/
def pOf (mask : FVec F S256x256 .f32) (lg : Vec F S1x256x256 .f32) (m : Vec F S1x1x256 .f32) : FVec F S1x1x256x256 .bf16 := k0_pay103 mask lg m
/-- The factor the earlier sums are rescaled by. -/
def alOf (mask : FVec F S256x256 .f32) (lg : Vec F S1x256x256 .f32) (m : Vec F S1x1x256 .f32) : FVec F S1x1x1x256 .f32 :=
  k0_pay310 (k0_pay118 m) (k0_pay119 mask lg m)
/-- The rescaled sum and the chunk's weighted values. -/
def accOf (v : Vec F S1x1x144x256 .bf16) (p : Vec F S1x1x256x256 .bf16) (acc : Vec F S1x144x256 .f32) (al : Vec F S1x1x1x256 .f32) : FVec F S1x144x256 .f32 :=
  k0_pay83 v p acc al
/-- A head's output: the sum over its last rows of ones, transposed. -/
def outOf (acc : Vec F S1x144x256 .f32) : FVec F S1x256x128 .bf16 := k0_pay1 acc

/-! ## The recursion over the chunks -/

/-- What is kept of one head between chunks: the running maximum, the sum, and the last chunk's weights and factor,
    not yet summed. -/
structure Kept (F : FTy → Type) [FloatOps F] where
  m : Vec F S1x1x256 .f32
  acc : Vec F S1x144x256 .f32
  p : Vec F S1x1x256x256 .bf16
  al : Vec F S1x1x1x256 .f32

section Rec
variable (x0 : Vec F S6x256x256 .bf16) (x1 : Vec F S1x2048x1536 .bf16) (x2 : Vec F S6x8x144x256 .bf16) (qi : BitVec 32)
  (bias : FVec F S256x256 .f32) (z : Kept F) (h : Fin 6)

/-- Head `h`'s logits of chunk `n`. -/
def lgAt (n : ℕ) : FVec F S1x256x256 .f32 := lgOf (kAt x1 n h) (qAt x0 h)

/-- Chunk `n` after what was kept: the chunk before is summed, this one weighed. -/
def stage (n : ℕ) (s : Kept F) : Kept F :=
  ⟨mOf (maskOf qi bias n) (lgAt x0 x1 h n) s.m, accOf (vAt x2 (n - 1) h) s.p s.acc s.al,
    pOf (maskOf qi bias n) (lgAt x0 x1 h n) s.m, alOf (maskOf qi bias n) (lgAt x0 x1 h n) s.m⟩

/-- What is kept before chunk `n`. -/
def kept : ℕ → Kept F
  | 0 => z
  | n + 1 => stage x0 x1 x2 qi bias h n (kept n)

end Rec

end Cert.Proof.MlaIdeal

end

end
-- ==== Proof.MlaIdeal.Offsets.lean ====
/-
  Where the attention kernel's loops read the keys and the values, decided at every grid point.
-/
module

public import proofs.«01_k».proof.Proof.Gen.MlaIdeal.Skeleton
public import proofs.«01_k».proof.Proof.Gen.MlaIdeal.Points

@[expose] public section

set_option maxRecDepth 16384

noncomputable section

namespace Cert.Proof.MlaIdeal

open Cert.MlaIdeal Cert.MlaIdeal.Gen
open Idealize.ShloMosaic Idealize.ShloMosaic.TcCoe

/-! ## Where a trip reads the keys and the values -/

/-- The first stage's next chunk is the odd one. -/
theorem off_k1 : ∀ (t : Fin cfg0.N) (k : Fin (k0_t1_loop (grid0.coords t)).trips),
    k0_off1 (grid0.coords t) k = ![0, 256 * min (2 * k.val + 1) 7, 256 * ((0 : Fin 6)).val]
      ∧ k0_off2 (grid0.coords t) k = ![0, 256 * min (2 * k.val + 1) 7, 256 * ((1 : Fin 6)).val]
      ∧ k0_off3 (grid0.coords t) k = ![0, 256 * min (2 * k.val + 1) 7, 256 * ((2 : Fin 6)).val]
      ∧ k0_off4 (grid0.coords t) k = ![0, 256 * min (2 * k.val + 1) 7, 256 * ((3 : Fin 6)).val]
      ∧ k0_off5 (grid0.coords t) k = ![0, 256 * min (2 * k.val + 1) 7, 256 * ((4 : Fin 6)).val]
      ∧ k0_off6 (grid0.coords t) k = ![0, 256 * min (2 * k.val + 1) 7, 256 * ((5 : Fin 6)).val] :=
  (by decide +kernel : ∀ (t : Fin grid0.N) (k : Fin (k0_t1_loop (grid0.coords t)).trips), _)

/-- The first stage sums the chunk before. -/
theorem off_v1 : ∀ (t : Fin cfg0.N) (k : Fin (k0_t1_loop (grid0.coords t)).trips),
    k0_off7 (grid0.coords t) k = ![((0 : Fin 6)).val, min (2 * k.val - 1) 7, 0, 0]
      ∧ k0_off8 (grid0.coords t) k = ![((1 : Fin 6)).val, min (2 * k.val - 1) 7, 0, 0]
      ∧ k0_off9 (grid0.coords t) k = ![((2 : Fin 6)).val, min (2 * k.val - 1) 7, 0, 0]
      ∧ k0_off10 (grid0.coords t) k = ![((3 : Fin 6)).val, min (2 * k.val - 1) 7, 0, 0]
      ∧ k0_off11 (grid0.coords t) k = ![((4 : Fin 6)).val, min (2 * k.val - 1) 7, 0, 0]
      ∧ k0_off12 (grid0.coords t) k = ![((5 : Fin 6)).val, min (2 * k.val - 1) 7, 0, 0] :=
  (by decide +kernel : ∀ (t : Fin grid0.N) (k : Fin (k0_t1_loop (grid0.coords t)).trips), _)

/-- The second stage's next chunk, never past the diagonal one. -/
theorem off_k2 : ∀ (t : Fin cfg0.N) (k : Fin (k0_t1_loop (grid0.coords t)).trips),
    k0_off13 (grid0.coords t) k = ![0, 256 * min (min (2 * k.val + 2) (t.val % 8)) 7, 256 * ((0 : Fin 6)).val]
      ∧ k0_off14 (grid0.coords t) k = ![0, 256 * min (min (2 * k.val + 2) (t.val % 8)) 7, 256 * ((1 : Fin 6)).val]
      ∧ k0_off15 (grid0.coords t) k = ![0, 256 * min (min (2 * k.val + 2) (t.val % 8)) 7, 256 * ((2 : Fin 6)).val]
      ∧ k0_off16 (grid0.coords t) k = ![0, 256 * min (min (2 * k.val + 2) (t.val % 8)) 7, 256 * ((3 : Fin 6)).val]
      ∧ k0_off17 (grid0.coords t) k = ![0, 256 * min (min (2 * k.val + 2) (t.val % 8)) 7, 256 * ((4 : Fin 6)).val]
      ∧ k0_off18 (grid0.coords t) k = ![0, 256 * min (min (2 * k.val + 2) (t.val % 8)) 7, 256 * ((5 : Fin 6)).val] :=
  (by decide +kernel : ∀ (t : Fin grid0.N) (k : Fin (k0_t1_loop (grid0.coords t)).trips), _)

/-- The second stage sums the even chunk. -/
theorem off_v2 : ∀ (t : Fin cfg0.N) (k : Fin (k0_t1_loop (grid0.coords t)).trips),
    k0_off19 (grid0.coords t) k = ![((0 : Fin 6)).val, min (2 * k.val) 7, 0, 0]
      ∧ k0_off20 (grid0.coords t) k = ![((1 : Fin 6)).val, min (2 * k.val) 7, 0, 0]
      ∧ k0_off21 (grid0.coords t) k = ![((2 : Fin 6)).val, min (2 * k.val) 7, 0, 0]
      ∧ k0_off22 (grid0.coords t) k = ![((3 : Fin 6)).val, min (2 * k.val) 7, 0, 0]
      ∧ k0_off23 (grid0.coords t) k = ![((4 : Fin 6)).val, min (2 * k.val) 7, 0, 0]
      ∧ k0_off24 (grid0.coords t) k = ![((5 : Fin 6)).val, min (2 * k.val) 7, 0, 0] :=
  (by decide +kernel : ∀ (t : Fin grid0.N) (k : Fin (k0_t1_loop (grid0.coords t)).trips), _)

theorem iv_even : ∀ (t : Fin cfg0.N) (k : Fin (k0_t1_loop (grid0.coords t)).trips),
    Scalar.muli 2#32 (Scf.iv 0#32 1#32 k.val) = BitVec.ofNat 32 (2 * k.val)
      ∧ Scalar.addi (Scalar.muli 2#32 (Scf.iv 0#32 1#32 k.val)) 1#32 = BitVec.ofNat 32 (2 * k.val + 1) :=
  (by decide +kernel : ∀ (t : Fin grid0.N) (k : Fin (k0_t1_loop (grid0.coords t)).trips), _)

/-! ## The last chunk -/

theorem trips1 (t : Fin cfg0.N) : (k0_t1_loop (grid0.coords t)).trips = (t.val % 8 + 1) / 2 := by
  revert t
  decide +kernel

theorem cond_iff (t : Fin cfg0.N) : k0_cond1 (grid0.coords t) = 1#1 ↔ t.val % 8 % 2 = 0 := by
  revert t
  decide +kernel

theorem coord1 (t : Fin cfg0.N) : BitVec.ofNat 32 (grid0.coords t 1).val = BitVec.ofNat 32 (t.val % 8) := by
  revert t
  decide +kernel

/-- The left-over chunk's values. -/
theorem off_v3 (t : Fin cfg0.N) : k0_off49 (grid0.coords t) = ![(0 : Fin 6).val, min (t.val % 8 - 1) 7, 0, 0]
      ∧ k0_off50 (grid0.coords t) = ![(1 : Fin 6).val, min (t.val % 8 - 1) 7, 0, 0]
      ∧ k0_off51 (grid0.coords t) = ![(2 : Fin 6).val, min (t.val % 8 - 1) 7, 0, 0]
      ∧ k0_off52 (grid0.coords t) = ![(3 : Fin 6).val, min (t.val % 8 - 1) 7, 0, 0]
      ∧ k0_off53 (grid0.coords t) = ![(4 : Fin 6).val, min (t.val % 8 - 1) 7, 0, 0]
      ∧ k0_off54 (grid0.coords t) = ![(5 : Fin 6).val, min (t.val % 8 - 1) 7, 0, 0] := by
  revert t
  decide +kernel

/-- The last accumulation's values. -/
theorem off_v4 (t : Fin cfg0.N) : k0_off55 (grid0.coords t) = ![(0 : Fin 6).val, min (t.val % 8) 7, 0, 0]
      ∧ k0_off58 (grid0.coords t) = ![(1 : Fin 6).val, min (t.val % 8) 7, 0, 0]
      ∧ k0_off61 (grid0.coords t) = ![(2 : Fin 6).val, min (t.val % 8) 7, 0, 0]
      ∧ k0_off64 (grid0.coords t) = ![(3 : Fin 6).val, min (t.val % 8) 7, 0, 0]
      ∧ k0_off67 (grid0.coords t) = ![(4 : Fin 6).val, min (t.val % 8) 7, 0, 0]
      ∧ k0_off70 (grid0.coords t) = ![(5 : Fin 6).val, min (t.val % 8) 7, 0, 0] := by
  revert t
  decide +kernel

/-- The slot the last accumulation reads, when a chunk was left over, -/
theorem off_even (t : Fin cfg0.N) : k0_cond1 (grid0.coords t) = 1#1 → (k0_off56 (grid0.coords t) = ![0, 0, 0, 0] ∧ k0_off57 (grid0.coords t) = ![0, 0, 0, 0])
      ∧ (k0_off59 (grid0.coords t) = ![0, 1, 0, 0] ∧ k0_off60 (grid0.coords t) = ![0, 1, 0, 0])
      ∧ (k0_off62 (grid0.coords t) = ![0, 2, 0, 0] ∧ k0_off63 (grid0.coords t) = ![0, 2, 0, 0])
      ∧ (k0_off65 (grid0.coords t) = ![0, 3, 0, 0] ∧ k0_off66 (grid0.coords t) = ![0, 3, 0, 0])
      ∧ (k0_off68 (grid0.coords t) = ![0, 4, 0, 0] ∧ k0_off69 (grid0.coords t) = ![0, 4, 0, 0])
      ∧ (k0_off71 (grid0.coords t) = ![0, 5, 0, 0] ∧ k0_off72 (grid0.coords t) = ![0, 5, 0, 0]) := by
  revert t
  decide +kernel

/-- and when none was. -/
theorem off_odd (t : Fin cfg0.N) : ¬ k0_cond1 (grid0.coords t) = 1#1 → (k0_off56 (grid0.coords t) = ![1, 0, 0, 0] ∧ k0_off57 (grid0.coords t) = ![1, 0, 0, 0])
      ∧ (k0_off59 (grid0.coords t) = ![1, 1, 0, 0] ∧ k0_off60 (grid0.coords t) = ![1, 1, 0, 0])
      ∧ (k0_off62 (grid0.coords t) = ![1, 2, 0, 0] ∧ k0_off63 (grid0.coords t) = ![1, 2, 0, 0])
      ∧ (k0_off65 (grid0.coords t) = ![1, 3, 0, 0] ∧ k0_off66 (grid0.coords t) = ![1, 3, 0, 0])
      ∧ (k0_off68 (grid0.coords t) = ![1, 4, 0, 0] ∧ k0_off69 (grid0.coords t) = ![1, 4, 0, 0])
      ∧ (k0_off71 (grid0.coords t) = ![1, 5, 0, 0] ∧ k0_off72 (grid0.coords t) = ![1, 5, 0, 0]) := by
  revert t
  decide +kernel

end Cert.Proof.MlaIdeal

end

end
-- ==== Proof.MlaIdeal.Trip.lean ====
module

public import proofs.«01_k».proof.Proof.Gen.MlaIdeal.Loops
public import proofs.«01_k».proof.Proof.Gen.MlaIdeal.Frame

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

section Trip

variable (c : Dev nD) (i : grid0.Coords)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)

/-- The buffer behind a memref, held whole at given contents. -/
abbrev heldAt {s : Shape} {e : EltTy} (M : Memref sig .tc .vmem s e) (f : Buf (Elt F) (M.view.loc (c : Thread nD τ))) : sProp 𝕄 :=
  M.view.loc (c : Thread nD τ) ↦[M.view.set]{fullShare} f

set_option maxHeartbeats 40000000 in
/-- One trip of the pair loop, from any contents of the buffers: the pieces it writes into each. -/
@[irreducible] def tripRun (k : Fin (k0_t1_loop i).trips)
    (f2 : Buf (Elt F) (arg2.view.loc (c : Thread nD τ))) (f3 : Buf (Elt F) (arg3.view.loc (c : Thread nD τ))) (f4 : Buf (Elt F) (arg4.view.loc (c : Thread nD τ)))
    (f6 : Buf (Elt F) (arg6.view.loc (c : Thread nD τ))) (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ))) (f11 : Buf (Elt F) (arg11.view.loc (c : Thread nD τ))) :
    Σ' (L6 : List (View.Piece (Elt F) S6x256x256 .f32)) (L7 : List (View.Piece (Elt F) S6x256x256 .f32)) (L8 : List (View.Piece (Elt F) S2x6x256x256 .bf16))
       (L9 : List (View.Piece (Elt F) S2x6x1x256 .f32)) (L10 : List (View.Piece (Elt F) S6x1x256 .f32)) (L11 : List (View.Piece (Elt F) S6x144x256 .f32)),
      iprop(heldAt c arg2 f2 ∗ heldAt c arg3 f3 ∗ heldAt c arg4 f4 ∗ heldAt c arg6 f6 ∗ heldAt c arg7 f7 ∗ heldAt c arg8 f8 ∗ heldAt c arg9 f9 ∗ heldAt c arg10 f10 ∗ heldAt c arg11 f11)
      ⊢ wp Idealize.ShloMosaic.frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg1 v5 v77 c2_i32 v78 v83 v85 v86 k ())
          (fun _ => iprop(heldAt c arg2 f2 ∗ heldAt c arg3 f3 ∗ heldAt c arg4 f4 ∗ heldAt c arg6 (arg6.view.writes (Elt F) f6 L6) ∗ heldAt c arg7 (arg7.view.writes (Elt F) f7 L7)
            ∗ heldAt c arg8 (arg8.view.writes (Elt F) f8 L8) ∗ heldAt c arg9 (arg9.view.writes (Elt F) f9 L9) ∗ heldAt c arg10 (arg10.view.writes (Elt F) f10 L10) ∗ heldAt c arg11 (arg11.view.writes (Elt F) f11 L11))) := by
  refine ⟨?_, ?_, ?_, ?_, ?_, ?_, ?run⟩
  case run =>
    iintro ⟨H2, H3, H4, H6, H7, H8, H9, H10, H11⟩
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    sl_exec
    sl_step
    sl_close

end Trip

end Cert.Proof.MlaIdeal

end
-- ==== Proof.MlaIdeal.TripRead.lean ====
module

public import proofs.«01_k».proof.Proof.MlaIdeal.State
public import proofs.«01_k».proof.Proof.MlaIdeal.Offsets
public import proofs.«01_k».proof.Proof.MlaIdeal.Trip
import all proofs.«01_k».proof.Proof.MlaIdeal.Trip

@[expose] public section

set_option maxRecDepth 65536
set_option maxHeartbeats 4000000

noncomputable section

namespace Cert.Proof.MlaIdeal

open Cert.MlaIdeal Cert.MlaIdeal.Gen
open Idealize.ShloMosaic Idealize.ShloMosaic.TcCoe

variable {F : FTy → Type} [FloatOps F]

/-! ## A head's slice of each buffer -/

abbrev R6 (h : Fin 6) : Rect S6x256x256 := Rect.unit (s := S6x256x256) ![h.val, 0, 0] S1x256x256.size (by revert h; decide)
abbrev R8 (b : Fin 2) (h : Fin 6) : Rect S2x6x256x256 := Rect.unit (s := S2x6x256x256) ![b.val, h.val, 0, 0] S1x1x256x256.size (by revert h b; decide)
abbrev R9 (b : Fin 2) (h : Fin 6) : Rect S2x6x1x256 := Rect.unit (s := S2x6x1x256) ![b.val, h.val, 0, 0] S1x1x1x256.size (by revert h b; decide)
abbrev R10 (h : Fin 6) : Rect S6x1x256 := Rect.unit (s := S6x1x256) ![h.val, 0, 0] S1x1x256.size (by revert h; decide)
abbrev R11 (h : Fin 6) : Rect S6x144x256 := Rect.unit (s := S6x144x256) ![h.val, 0, 0] S1x144x256.size (by revert h; decide)

section Lists
variable {sig : RefSig} {κ : Kind} {sp : Space} {s : Shape} {e : EltTy}

/-- A load of what the last write wrote reads its payload. -/
theorem readAt_hit (v : View sig κ sp s e) (f : v.ty.Contents (Elt F)) (r : Rect s) (w : r.shape.Idx → Elt F e) (L : List (View.Piece (Elt F) s e)) :
    v.readAt (Elt F) r.toLoadRect (v.writes (Elt F) f (⟨r, w⟩ :: L)) = w := by
  rw [View.readAt_writes_of_cover v f _ _ fun j => ⟨_, List.mem_cons_self .., r.toLoadRect.idx_mem j⟩]
  exact View.readCov_cons_toLoadRect v r w L

/-- A load clear of the last write reads the earlier ones. -/
theorem readAt_skip (v : View sig κ sp s e) (f : v.ty.Contents (Elt F)) (r : Rect s) (w : r.shape.Idx → Elt F e) (L : List (View.Piece (Elt F) s e)) (B : LoadRect s)
    (h : LoadRect.disj r B = true) : v.readAt (Elt F) B (v.writes (Elt F) f (⟨r, w⟩ :: L)) = v.readAt (Elt F) B (v.writes (Elt F) f L) := by
  have := View.readAt_writes_of_forall_not_mem v (v.writes (Elt F) f L) [⟨r, w⟩] B fun j q hq => by
    rw [List.mem_singleton.mp hq]; exact LoadRect.idx_not_mem_of_disj h j
  exact this

theorem forall_six {P : Fin 6 → Prop} (h0 : P 0) (h1 : P 1) (h2 : P 2) (h3 : P 3) (h4 : P 4) (h5 : P 5) (h : Fin 6) : P h :=
  match h with
  | 0 => h0
  | 1 => h1
  | 2 => h2
  | 3 => h3
  | 4 => h4
  | 5 => h5

end Lists

/-! ## What the buffers hold between trips -/

/-- Each head's slices of the five buffers: the next chunk's logits, and what is kept. -/
structure Slices (arg6 : Memref sig .tc .vmem S6x256x256 .f32) (arg8 : Memref sig .tc .vmem S2x6x256x256 .bf16) (arg9 : Memref sig .tc .vmem S2x6x1x256 .f32)
    (arg10 : Memref sig .tc .vmem S6x1x256 .f32) (arg11 : Memref sig .tc .vmem S6x144x256 .f32)
    (f6 : arg6.view.ty.Contents (Elt F)) (f8 : arg8.view.ty.Contents (Elt F)) (f9 : arg9.view.ty.Contents (Elt F))
    (f10 : arg10.view.ty.Contents (Elt F)) (f11 : arg11.view.ty.Contents (Elt F))
    (b : Fin 2) (lg : Fin 6 → FVec F S1x256x256 .f32) (s : Fin 6 → Kept F) : Prop where
  lg : ∀ h, arg6.view.readAt (Elt F) (R6 h).toLoadRect f6 = lg h
  m : ∀ h, arg10.view.readAt (Elt F) (R10 h).toLoadRect f10 = (s h).m
  acc : ∀ h, arg11.view.readAt (Elt F) (R11 h).toLoadRect f11 = (s h).acc
  p : ∀ h, arg8.view.readAt (Elt F) (R8 b h).toLoadRect f8 = (s h).p
  al : ∀ h, arg9.view.readAt (Elt F) (R9 b h).toLoadRect f9 = (s h).al

section Heads

variable {arg6 : Memref sig .tc .vmem S6x256x256 .f32} {arg8 : Memref sig .tc .vmem S2x6x256x256 .bf16} {arg9 : Memref sig .tc .vmem S2x6x1x256 .f32}
  {arg10 : Memref sig .tc .vmem S6x1x256 .f32} {arg11 : Memref sig .tc .vmem S6x144x256 .f32}
  {f6 : arg6.view.ty.Contents (Elt F)} {f8 : arg8.view.ty.Contents (Elt F)} {f9 : arg9.view.ty.Contents (Elt F)}
  {f10 : arg10.view.ty.Contents (Elt F)} {f11 : arg11.view.ty.Contents (Elt F)}
  {b : Fin 2} {lg : Fin 6 → FVec F S1x256x256 .f32} {s : Fin 6 → Kept F}

theorem Slices.lg' (H : Slices arg6 arg8 arg9 arg10 arg11 f6 f8 f9 f10 f11 b lg s) (h : Fin 6) (off : Fin 3 → ℕ) (e : off = ![h.val, 0, 0]) (inb) :
    arg6.view.readAt (Elt F) (Rect.unit (s := S6x256x256) off ![1, 256, 256] inb).toLoadRect f6 = lg h := by
  subst e
  exact H.lg h

theorem Slices.m' (H : Slices arg6 arg8 arg9 arg10 arg11 f6 f8 f9 f10 f11 b lg s) (h : Fin 6) (off : Fin 3 → ℕ) (e : off = ![h.val, 0, 0]) (inb) :
    arg10.view.readAt (Elt F) (Rect.unit (s := S6x1x256) off ![1, 1, 256] inb).toLoadRect f10 = (s h).m := by
  subst e
  exact H.m h

theorem Slices.acc' (H : Slices arg6 arg8 arg9 arg10 arg11 f6 f8 f9 f10 f11 b lg s) (h : Fin 6) (off : Fin 3 → ℕ) (e : off = ![h.val, 0, 0]) (inb) :
    arg11.view.readAt (Elt F) (Rect.unit (s := S6x144x256) off ![1, 144, 256] inb).toLoadRect f11 = (s h).acc := by
  subst e
  exact H.acc h

theorem Slices.p' (H : Slices arg6 arg8 arg9 arg10 arg11 f6 f8 f9 f10 f11 b lg s) (h : Fin 6) (off : Fin 4 → ℕ) (e : off = ![b.val, h.val, 0, 0]) (inb) :
    arg8.view.readAt (Elt F) (Rect.unit (s := S2x6x256x256) off ![1, 1, 256, 256] inb).toLoadRect f8 = (s h).p := by
  subst e
  exact H.p h

theorem Slices.al' (H : Slices arg6 arg8 arg9 arg10 arg11 f6 f8 f9 f10 f11 b lg s) (h : Fin 6) (off : Fin 4 → ℕ) (e : off = ![b.val, h.val, 0, 0]) (inb) :
    arg9.view.readAt (Elt F) (Rect.unit (s := S2x6x1x256) off ![1, 1, 1, 256] inb).toLoadRect f9 = (s h).al := by
  subst e
  exact H.al h

end Heads

section Loads

variable {c : Dev nD}

theorem load_q (M : Memref sig .tc .vmem S6x256x256 .bf16) (f : Buf (Elt F) (M.view.loc (c : Thread nD τ))) (h : Fin 6) (off : Fin 3 → ℕ)
    (e : off = ![h.val, 0, 0]) (inb) :
    M.view.readAt (Elt F) (Rect.unit (s := S6x256x256) off ![1, 256, 256] inb).toLoadRect f = qAt (M.view.read (Elt F) f) h :=
  ld_q _ h _ inb e

theorem load_k (M : Memref sig .tc .vmem S1x2048x1536 .bf16) (f : Buf (Elt F) (M.view.loc (c : Thread nD τ))) (n : ℕ) (h : Fin 6) (off : Fin 3 → ℕ)
    (e : off = ![0, 256 * min n 7, 256 * h.val]) (inb) :
    M.view.readAt (Elt F) (Rect.unit (s := S1x2048x1536) off ![1, 256, 256] inb).toLoadRect f = kAt (M.view.read (Elt F) f) n h :=
  ld_k _ n h _ inb e

theorem load_v (M : Memref sig .tc .vmem S6x8x144x256 .bf16) (f : Buf (Elt F) (M.view.loc (c : Thread nD τ))) (n : ℕ) (h : Fin 6) (off : Fin 4 → ℕ)
    (e : off = ![h.val, min n 7, 0, 0]) (inb) :
    M.view.readAt (Elt F) (Rect.unit (s := S6x8x144x256) off ![1, 1, 144, 256] inb).toLoadRect f = vAt (M.view.read (Elt F) f) n h :=
  ld_v _ n h _ inb e

end Loads

section Trip

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)
  (k : Fin (k0_t1_loop (grid0.coords t)).trips)
  (f2 : Buf (Elt F) (arg2.view.loc (c : Thread nD τ))) (f3 : Buf (Elt F) (arg3.view.loc (c : Thread nD τ))) (f4 : Buf (Elt F) (arg4.view.loc (c : Thread nD τ)))
  (f6 : Buf (Elt F) (arg6.view.loc (c : Thread nD τ))) (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ))) (f11 : Buf (Elt F) (arg11.view.loc (c : Thread nD τ)))

/-- The running maximum after a trip. -/
theorem trip_m (s : Fin 6 → Kept F)
    (H : Slices arg6 arg8 arg9 arg10 arg11 f6 f8 f9 f10 f11 1 (fun h => lgAt (arg2.view.read (Elt F) f2) (arg3.view.read (Elt F) f3) h (2 * k.val)) s) (h : Fin 6) :
    arg10.view.readAt (Elt F) (R10 h).toLoadRect (arg10.view.writes (Elt F) f10
        (tripRun c (grid0.coords t) arg2 harg2 arg3 harg3 arg4 harg4 arg5 harg5 arg6 harg6 arg7 harg7 arg8 harg8 arg9 harg9 arg10 harg10 arg11 harg11
          arg1 v5 v77 c2_i32 v78 v83 v85 v86 k f2 f3 f4 f6 f7 f8 f9 f10 f11).2.2.2.2.1)
      = (stage (arg2.view.read (Elt F) f2) (arg3.view.read (Elt F) f3) (arg4.view.read (Elt F) f4) arg1 v5 h (2 * k.val + 1)
          (stage (arg2.view.read (Elt F) f2) (arg3.view.read (Elt F) f3) (arg4.view.read (Elt F) f4) arg1 v5 h (2 * k.val) (s h))).m := by
  obtain ⟨i0, i1⟩ := iv_even t k
  rw [i0] at i1
  obtain ⟨a0, a1, a2, a3, a4, a5⟩ := off_k1 t k
  unfold stage tripRun
  dsimp only
  revert h
  refine forall_six ?_ ?_ ?_ ?_ ?_ ?_
  all_goals
    simp only [tripRun.sl.H10_11, tripRun.sl.H10_10, tripRun.sl.H10_9, tripRun.sl.H10_8, tripRun.sl.H10_7]
    try simp (disch := decide) only [readAt_skip]
    refine (readAt_hit _ _ _ _ _).trans ?_
    simp (disch := decide) only [tripRun.sl.H10_10, tripRun.sl.H10_11, tripRun.sl.H10_6, tripRun.sl.H10_7, tripRun.sl.H10_8, tripRun.sl.H10_9, tripRun.sl.H11_10, tripRun.sl.H11_11, tripRun.sl.H11_6, tripRun.sl.H11_7, tripRun.sl.H11_8, tripRun.sl.H11_9, tripRun.sl.H7_6, tripRun.sl.H8_6, tripRun.sl.H9_6, tripRun.sl.arg12, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_5, tripRun.sl.r_6, tripRun.sl.r_7, tripRun.sl.r_8, tripRun.sl.r_9, tripRun.sl.v297, tripRun.sl.v298, tripRun.sl.v299, tripRun.sl.v300, tripRun.sl.v353, tripRun.sl.v356, tripRun.sl.v357, tripRun.sl.v380, tripRun.sl.v396, tripRun.sl.v412, tripRun.sl.v428, tripRun.sl.v444, tripRun.sl.v483, tripRun.sl.v506, tripRun.sl.v529, tripRun.sl.v552, tripRun.sl.v575, tripRun.sl.v597, tripRun.sl.v598, tripRun.sl.v599, tripRun.sl.v655, tripRun.sl.v656, tripRun.sl.v660, tripRun.sl.v663, tripRun.sl.v665, tripRun.sl.v676, tripRun.sl.v679, tripRun.sl.v681, tripRun.sl.v692, tripRun.sl.v695, tripRun.sl.v697, tripRun.sl.v708, tripRun.sl.v711, tripRun.sl.v713, tripRun.sl.v724, tripRun.sl.v727, tripRun.sl.v729, tripRun.sl.v740, tripRun.sl.v743, tripRun.sl.v745, tripRun.sl.v756, tripRun.sl.v759, tripRun.sl.v779, tripRun.sl.v782, tripRun.sl.v802, tripRun.sl.v805, tripRun.sl.v825, tripRun.sl.v828, tripRun.sl.v848, tripRun.sl.v851, tripRun.sl.v871, tripRun.sl.v874, View.readCov_skip, View.readCov_cons_toLoadRect]
    simp only [i0, i1, H.lg' 0 ![0, 0, 0] rfl, H.lg' 1 ![1, 0, 0] rfl, H.lg' 2 ![2, 0, 0] rfl, H.lg' 3 ![3, 0, 0] rfl, H.lg' 4 ![4, 0, 0] rfl, H.lg' 5 ![5, 0, 0] rfl, H.m' 0 ![0, 0, 0] rfl, H.m' 1 ![1, 0, 0] rfl, H.m' 2 ![2, 0, 0] rfl, H.m' 3 ![3, 0, 0] rfl, H.m' 4 ![4, 0, 0] rfl, H.m' 5 ![5, 0, 0] rfl, load_k arg3 f3 _ 0 _ a0, load_k arg3 f3 _ 1 _ a1, load_k arg3 f3 _ 2 _ a2, load_k arg3 f3 _ 3 _ a3, load_k arg3 f3 _ 4 _ a4, load_k arg3 f3 _ 5 _ a5, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The logits a trip leaves for the next one. -/
theorem trip_lg (s : Fin 6 → Kept F)
    (H : Slices arg6 arg8 arg9 arg10 arg11 f6 f8 f9 f10 f11 1 (fun h => lgAt (arg2.view.read (Elt F) f2) (arg3.view.read (Elt F) f3) h (2 * k.val)) s) (h : Fin 6) :
    arg6.view.readAt (Elt F) (R6 h).toLoadRect (arg6.view.writes (Elt F) f6
        (tripRun c (grid0.coords t) arg2 harg2 arg3 harg3 arg4 harg4 arg5 harg5 arg6 harg6 arg7 harg7 arg8 harg8 arg9 harg9 arg10 harg10 arg11 harg11
          arg1 v5 v77 c2_i32 v78 v83 v85 v86 k f2 f3 f4 f6 f7 f8 f9 f10 f11).1)
      = lgAt (arg2.view.read (Elt F) f2) (arg3.view.read (Elt F) f3) h (min (2 * k.val + 2) (t.val % 8)) := by
  obtain ⟨i0, i1⟩ := iv_even t k
  rw [i0] at i1
  obtain ⟨b0, b1, b2, b3, b4, b5⟩ := off_k2 t k
  unfold tripRun
  dsimp only
  revert h
  refine forall_six ?_ ?_ ?_ ?_ ?_ ?_
  all_goals
    simp only [lgAt]
    try simp (disch := decide) only [readAt_skip]
    refine (readAt_hit _ _ _ _ _).trans ?_
    simp (disch := decide) only [tripRun.sl.H10_10, tripRun.sl.H10_11, tripRun.sl.H10_6, tripRun.sl.H10_7, tripRun.sl.H10_8, tripRun.sl.H10_9, tripRun.sl.H11_10, tripRun.sl.H11_11, tripRun.sl.H11_6, tripRun.sl.H11_7, tripRun.sl.H11_8, tripRun.sl.H11_9, tripRun.sl.H7_6, tripRun.sl.H8_6, tripRun.sl.H9_6, tripRun.sl.arg12, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_5, tripRun.sl.r_6, tripRun.sl.r_7, tripRun.sl.r_8, tripRun.sl.r_9, tripRun.sl.v297, tripRun.sl.v298, tripRun.sl.v299, tripRun.sl.v300, tripRun.sl.v353, tripRun.sl.v356, tripRun.sl.v357, tripRun.sl.v380, tripRun.sl.v396, tripRun.sl.v412, tripRun.sl.v428, tripRun.sl.v444, tripRun.sl.v483, tripRun.sl.v506, tripRun.sl.v529, tripRun.sl.v552, tripRun.sl.v575, tripRun.sl.v597, tripRun.sl.v598, tripRun.sl.v599, tripRun.sl.v655, tripRun.sl.v656, tripRun.sl.v660, tripRun.sl.v663, tripRun.sl.v665, tripRun.sl.v676, tripRun.sl.v679, tripRun.sl.v681, tripRun.sl.v692, tripRun.sl.v695, tripRun.sl.v697, tripRun.sl.v708, tripRun.sl.v711, tripRun.sl.v713, tripRun.sl.v724, tripRun.sl.v727, tripRun.sl.v729, tripRun.sl.v740, tripRun.sl.v743, tripRun.sl.v745, tripRun.sl.v756, tripRun.sl.v759, tripRun.sl.v779, tripRun.sl.v782, tripRun.sl.v802, tripRun.sl.v805, tripRun.sl.v825, tripRun.sl.v828, tripRun.sl.v848, tripRun.sl.v851, tripRun.sl.v871, tripRun.sl.v874, View.readCov_skip, View.readCov_cons_toLoadRect]
    simp only [i0, i1, load_k arg3 f3 _ 0 _ b0, load_k arg3 f3 _ 1 _ b1, load_k arg3 f3 _ 2 _ b2, load_k arg3 f3 _ 3 _ b3, load_k arg3 f3 _ 4 _ b4, load_k arg3 f3 _ 5 _ b5, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The weights after a trip. -/
theorem trip_p (s : Fin 6 → Kept F)
    (H : Slices arg6 arg8 arg9 arg10 arg11 f6 f8 f9 f10 f11 1 (fun h => lgAt (arg2.view.read (Elt F) f2) (arg3.view.read (Elt F) f3) h (2 * k.val)) s) (h : Fin 6) :
    arg8.view.readAt (Elt F) (R8 1 h).toLoadRect (arg8.view.writes (Elt F) f8
        (tripRun c (grid0.coords t) arg2 harg2 arg3 harg3 arg4 harg4 arg5 harg5 arg6 harg6 arg7 harg7 arg8 harg8 arg9 harg9 arg10 harg10 arg11 harg11
          arg1 v5 v77 c2_i32 v78 v83 v85 v86 k f2 f3 f4 f6 f7 f8 f9 f10 f11).2.2.1)
      = (stage (arg2.view.read (Elt F) f2) (arg3.view.read (Elt F) f3) (arg4.view.read (Elt F) f4) arg1 v5 h (2 * k.val + 1)
          (stage (arg2.view.read (Elt F) f2) (arg3.view.read (Elt F) f3) (arg4.view.read (Elt F) f4) arg1 v5 h (2 * k.val) (s h))).p := by
  obtain ⟨i0, i1⟩ := iv_even t k
  rw [i0] at i1
  obtain ⟨a0, a1, a2, a3, a4, a5⟩ := off_k1 t k
  unfold stage tripRun
  dsimp only
  revert h
  refine forall_six ?_ ?_ ?_ ?_ ?_ ?_
  all_goals
    simp only [tripRun.sl.H8_6]
    try simp (disch := decide) only [readAt_skip]
    refine (readAt_hit _ _ _ _ _).trans ?_
    simp (disch := decide) only [tripRun.sl.H10_10, tripRun.sl.H10_11, tripRun.sl.H10_6, tripRun.sl.H10_7, tripRun.sl.H10_8, tripRun.sl.H10_9, tripRun.sl.H11_10, tripRun.sl.H11_11, tripRun.sl.H11_6, tripRun.sl.H11_7, tripRun.sl.H11_8, tripRun.sl.H11_9, tripRun.sl.H7_6, tripRun.sl.H8_6, tripRun.sl.H9_6, tripRun.sl.arg12, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_5, tripRun.sl.r_6, tripRun.sl.r_7, tripRun.sl.r_8, tripRun.sl.r_9, tripRun.sl.v297, tripRun.sl.v298, tripRun.sl.v299, tripRun.sl.v300, tripRun.sl.v353, tripRun.sl.v356, tripRun.sl.v357, tripRun.sl.v380, tripRun.sl.v396, tripRun.sl.v412, tripRun.sl.v428, tripRun.sl.v444, tripRun.sl.v483, tripRun.sl.v506, tripRun.sl.v529, tripRun.sl.v552, tripRun.sl.v575, tripRun.sl.v597, tripRun.sl.v598, tripRun.sl.v599, tripRun.sl.v655, tripRun.sl.v656, tripRun.sl.v660, tripRun.sl.v663, tripRun.sl.v665, tripRun.sl.v676, tripRun.sl.v679, tripRun.sl.v681, tripRun.sl.v692, tripRun.sl.v695, tripRun.sl.v697, tripRun.sl.v708, tripRun.sl.v711, tripRun.sl.v713, tripRun.sl.v724, tripRun.sl.v727, tripRun.sl.v729, tripRun.sl.v740, tripRun.sl.v743, tripRun.sl.v745, tripRun.sl.v756, tripRun.sl.v759, tripRun.sl.v779, tripRun.sl.v782, tripRun.sl.v802, tripRun.sl.v805, tripRun.sl.v825, tripRun.sl.v828, tripRun.sl.v848, tripRun.sl.v851, tripRun.sl.v871, tripRun.sl.v874, View.readCov_skip, View.readCov_cons_toLoadRect]
    simp only [i0, i1, H.lg' 0 ![0, 0, 0] rfl, H.lg' 1 ![1, 0, 0] rfl, H.lg' 2 ![2, 0, 0] rfl, H.lg' 3 ![3, 0, 0] rfl, H.lg' 4 ![4, 0, 0] rfl, H.lg' 5 ![5, 0, 0] rfl, H.m' 0 ![0, 0, 0] rfl, H.m' 1 ![1, 0, 0] rfl, H.m' 2 ![2, 0, 0] rfl, H.m' 3 ![3, 0, 0] rfl, H.m' 4 ![4, 0, 0] rfl, H.m' 5 ![5, 0, 0] rfl, load_k arg3 f3 _ 0 _ a0, load_k arg3 f3 _ 1 _ a1, load_k arg3 f3 _ 2 _ a2, load_k arg3 f3 _ 3 _ a3, load_k arg3 f3 _ 4 _ a4, load_k arg3 f3 _ 5 _ a5, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The rescaling factors after a trip. -/
theorem trip_al (s : Fin 6 → Kept F)
    (H : Slices arg6 arg8 arg9 arg10 arg11 f6 f8 f9 f10 f11 1 (fun h => lgAt (arg2.view.read (Elt F) f2) (arg3.view.read (Elt F) f3) h (2 * k.val)) s) (h : Fin 6) :
    arg9.view.readAt (Elt F) (R9 1 h).toLoadRect (arg9.view.writes (Elt F) f9
        (tripRun c (grid0.coords t) arg2 harg2 arg3 harg3 arg4 harg4 arg5 harg5 arg6 harg6 arg7 harg7 arg8 harg8 arg9 harg9 arg10 harg10 arg11 harg11
          arg1 v5 v77 c2_i32 v78 v83 v85 v86 k f2 f3 f4 f6 f7 f8 f9 f10 f11).2.2.2.1)
      = (stage (arg2.view.read (Elt F) f2) (arg3.view.read (Elt F) f3) (arg4.view.read (Elt F) f4) arg1 v5 h (2 * k.val + 1)
          (stage (arg2.view.read (Elt F) f2) (arg3.view.read (Elt F) f3) (arg4.view.read (Elt F) f4) arg1 v5 h (2 * k.val) (s h))).al := by
  obtain ⟨i0, i1⟩ := iv_even t k
  rw [i0] at i1
  obtain ⟨a0, a1, a2, a3, a4, a5⟩ := off_k1 t k
  unfold stage tripRun
  dsimp only
  revert h
  refine forall_six ?_ ?_ ?_ ?_ ?_ ?_
  all_goals
    simp only [tripRun.sl.H9_6]
    try simp (disch := decide) only [readAt_skip]
    refine (readAt_hit _ _ _ _ _).trans ?_
    simp (disch := decide) only [tripRun.sl.H10_10, tripRun.sl.H10_11, tripRun.sl.H10_6, tripRun.sl.H10_7, tripRun.sl.H10_8, tripRun.sl.H10_9, tripRun.sl.H11_10, tripRun.sl.H11_11, tripRun.sl.H11_6, tripRun.sl.H11_7, tripRun.sl.H11_8, tripRun.sl.H11_9, tripRun.sl.H7_6, tripRun.sl.H8_6, tripRun.sl.H9_6, tripRun.sl.arg12, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_5, tripRun.sl.r_6, tripRun.sl.r_7, tripRun.sl.r_8, tripRun.sl.r_9, tripRun.sl.v297, tripRun.sl.v298, tripRun.sl.v299, tripRun.sl.v300, tripRun.sl.v353, tripRun.sl.v356, tripRun.sl.v357, tripRun.sl.v380, tripRun.sl.v396, tripRun.sl.v412, tripRun.sl.v428, tripRun.sl.v444, tripRun.sl.v483, tripRun.sl.v506, tripRun.sl.v529, tripRun.sl.v552, tripRun.sl.v575, tripRun.sl.v597, tripRun.sl.v598, tripRun.sl.v599, tripRun.sl.v655, tripRun.sl.v656, tripRun.sl.v660, tripRun.sl.v663, tripRun.sl.v665, tripRun.sl.v676, tripRun.sl.v679, tripRun.sl.v681, tripRun.sl.v692, tripRun.sl.v695, tripRun.sl.v697, tripRun.sl.v708, tripRun.sl.v711, tripRun.sl.v713, tripRun.sl.v724, tripRun.sl.v727, tripRun.sl.v729, tripRun.sl.v740, tripRun.sl.v743, tripRun.sl.v745, tripRun.sl.v756, tripRun.sl.v759, tripRun.sl.v779, tripRun.sl.v782, tripRun.sl.v802, tripRun.sl.v805, tripRun.sl.v825, tripRun.sl.v828, tripRun.sl.v848, tripRun.sl.v851, tripRun.sl.v871, tripRun.sl.v874, View.readCov_skip, View.readCov_cons_toLoadRect]
    simp only [i0, i1, H.lg' 0 ![0, 0, 0] rfl, H.lg' 1 ![1, 0, 0] rfl, H.lg' 2 ![2, 0, 0] rfl, H.lg' 3 ![3, 0, 0] rfl, H.lg' 4 ![4, 0, 0] rfl, H.lg' 5 ![5, 0, 0] rfl, H.m' 0 ![0, 0, 0] rfl, H.m' 1 ![1, 0, 0] rfl, H.m' 2 ![2, 0, 0] rfl, H.m' 3 ![3, 0, 0] rfl, H.m' 4 ![4, 0, 0] rfl, H.m' 5 ![5, 0, 0] rfl, load_k arg3 f3 _ 0 _ a0, load_k arg3 f3 _ 1 _ a1, load_k arg3 f3 _ 2 _ a2, load_k arg3 f3 _ 3 _ a3, load_k arg3 f3 _ 4 _ a4, load_k arg3 f3 _ 5 _ a5, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The accumulated sums after a trip. -/
theorem trip_acc (s : Fin 6 → Kept F)
    (H : Slices arg6 arg8 arg9 arg10 arg11 f6 f8 f9 f10 f11 1 (fun h => lgAt (arg2.view.read (Elt F) f2) (arg3.view.read (Elt F) f3) h (2 * k.val)) s) (h : Fin 6) :
    arg11.view.readAt (Elt F) (R11 h).toLoadRect (arg11.view.writes (Elt F) f11
        (tripRun c (grid0.coords t) arg2 harg2 arg3 harg3 arg4 harg4 arg5 harg5 arg6 harg6 arg7 harg7 arg8 harg8 arg9 harg9 arg10 harg10 arg11 harg11
          arg1 v5 v77 c2_i32 v78 v83 v85 v86 k f2 f3 f4 f6 f7 f8 f9 f10 f11).2.2.2.2.2.1)
      = (stage (arg2.view.read (Elt F) f2) (arg3.view.read (Elt F) f3) (arg4.view.read (Elt F) f4) arg1 v5 h (2 * k.val + 1)
          (stage (arg2.view.read (Elt F) f2) (arg3.view.read (Elt F) f3) (arg4.view.read (Elt F) f4) arg1 v5 h (2 * k.val) (s h))).acc := by
  obtain ⟨i0, i1⟩ := iv_even t k
  rw [i0] at i1
  obtain ⟨c0, c1, c2, c3, c4, c5⟩ := off_v1 t k
  obtain ⟨d0, d1, d2, d3, d4, d5⟩ := off_v2 t k
  unfold stage tripRun
  dsimp only
  revert h
  refine forall_six ?_ ?_ ?_ ?_ ?_ ?_
  all_goals
    simp only [tripRun.sl.H11_11, tripRun.sl.H11_10, tripRun.sl.H11_9, tripRun.sl.H11_8, tripRun.sl.H11_7]
    try simp (disch := decide) only [readAt_skip]
    refine (readAt_hit _ _ _ _ _).trans ?_
    simp (disch := decide) only [tripRun.sl.H10_10, tripRun.sl.H10_11, tripRun.sl.H10_6, tripRun.sl.H10_7, tripRun.sl.H10_8, tripRun.sl.H10_9, tripRun.sl.H11_10, tripRun.sl.H11_11, tripRun.sl.H11_6, tripRun.sl.H11_7, tripRun.sl.H11_8, tripRun.sl.H11_9, tripRun.sl.H7_6, tripRun.sl.H8_6, tripRun.sl.H9_6, tripRun.sl.arg12, tripRun.sl.r, tripRun.sl.r_1, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_2, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_3, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_4, tripRun.sl.r_40, tripRun.sl.r_41, tripRun.sl.r_42, tripRun.sl.r_43, tripRun.sl.r_5, tripRun.sl.r_6, tripRun.sl.r_7, tripRun.sl.r_8, tripRun.sl.r_9, tripRun.sl.v297, tripRun.sl.v298, tripRun.sl.v299, tripRun.sl.v300, tripRun.sl.v353, tripRun.sl.v356, tripRun.sl.v357, tripRun.sl.v380, tripRun.sl.v396, tripRun.sl.v412, tripRun.sl.v428, tripRun.sl.v444, tripRun.sl.v483, tripRun.sl.v506, tripRun.sl.v529, tripRun.sl.v552, tripRun.sl.v575, tripRun.sl.v597, tripRun.sl.v598, tripRun.sl.v599, tripRun.sl.v655, tripRun.sl.v656, tripRun.sl.v660, tripRun.sl.v663, tripRun.sl.v665, tripRun.sl.v676, tripRun.sl.v679, tripRun.sl.v681, tripRun.sl.v692, tripRun.sl.v695, tripRun.sl.v697, tripRun.sl.v708, tripRun.sl.v711, tripRun.sl.v713, tripRun.sl.v724, tripRun.sl.v727, tripRun.sl.v729, tripRun.sl.v740, tripRun.sl.v743, tripRun.sl.v745, tripRun.sl.v756, tripRun.sl.v759, tripRun.sl.v779, tripRun.sl.v782, tripRun.sl.v802, tripRun.sl.v805, tripRun.sl.v825, tripRun.sl.v828, tripRun.sl.v848, tripRun.sl.v851, tripRun.sl.v871, tripRun.sl.v874, View.readCov_skip, View.readCov_cons_toLoadRect]
    simp only [i0, i1, H.lg' 0 ![0, 0, 0] rfl, H.lg' 1 ![1, 0, 0] rfl, H.lg' 2 ![2, 0, 0] rfl, H.lg' 3 ![3, 0, 0] rfl, H.lg' 4 ![4, 0, 0] rfl, H.lg' 5 ![5, 0, 0] rfl, H.m' 0 ![0, 0, 0] rfl, H.m' 1 ![1, 0, 0] rfl, H.m' 2 ![2, 0, 0] rfl, H.m' 3 ![3, 0, 0] rfl, H.m' 4 ![4, 0, 0] rfl, H.m' 5 ![5, 0, 0] rfl, H.acc' 0 ![0, 0, 0] rfl, H.acc' 1 ![1, 0, 0] rfl, H.acc' 2 ![2, 0, 0] rfl, H.acc' 3 ![3, 0, 0] rfl, H.acc' 4 ![4, 0, 0] rfl, H.acc' 5 ![5, 0, 0] rfl, H.p' 0 ![1, 0, 0, 0] rfl, H.p' 1 ![1, 1, 0, 0] rfl, H.p' 2 ![1, 2, 0, 0] rfl, H.p' 3 ![1, 3, 0, 0] rfl, H.p' 4 ![1, 4, 0, 0] rfl, H.p' 5 ![1, 5, 0, 0] rfl, H.al' 0 ![1, 0, 0, 0] rfl, H.al' 1 ![1, 1, 0, 0] rfl, H.al' 2 ![1, 2, 0, 0] rfl, H.al' 3 ![1, 3, 0, 0] rfl, H.al' 4 ![1, 4, 0, 0] rfl, H.al' 5 ![1, 5, 0, 0] rfl, load_v arg4 f4 _ 0 _ c0, load_v arg4 f4 _ 1 _ c1, load_v arg4 f4 _ 2 _ c2, load_v arg4 f4 _ 3 _ c3, load_v arg4 f4 _ 4 _ c4, load_v arg4 f4 _ 5 _ c5, load_v arg4 f4 _ 0 _ d0, load_v arg4 f4 _ 1 _ d1, load_v arg4 f4 _ 2 _ d2, load_v arg4 f4 _ 3 _ d3, load_v arg4 f4 _ 4 _ d4, load_v arg4 f4 _ 5 _ d5]
    rfl

end Trip

end Cert.Proof.MlaIdeal

end

end
-- ==== Proof.MlaIdeal.Loop.lean ====
/-
  The attention kernel's pair loop as an invariant: before trip `k` the six buffers hold what the trips before `k` have
  written.
-/
module

public import proofs.«01_k».proof.Proof.MlaIdeal.Trip

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The second loop makes no trip. -/
theorem trips2 (t : Fin cfg0.N) : (k0_t2_loop (grid0.coords t)).trips = 0 := by
  revert t
  decide +kernel

section Loop

variable (c : Dev nD) (i : grid0.Coords)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)

/-- The contents of the six buffers the loop writes. -/
structure Bufs where
  f6 : Buf (Elt F) (arg6.view.loc (c : Thread nD τ))
  f7 : Buf (Elt F) (arg7.view.loc (c : Thread nD τ))
  f8 : Buf (Elt F) (arg8.view.loc (c : Thread nD τ))
  f9 : Buf (Elt F) (arg9.view.loc (c : Thread nD τ))
  f10 : Buf (Elt F) (arg10.view.loc (c : Thread nD τ))
  f11 : Buf (Elt F) (arg11.view.loc (c : Thread nD τ))

/-- What one trip makes of the buffers. -/
@[irreducible] def next (f2 : Buf (Elt F) (arg2.view.loc (c : Thread nD τ))) (f3 : Buf (Elt F) (arg3.view.loc (c : Thread nD τ))) (f4 : Buf (Elt F) (arg4.view.loc (c : Thread nD τ))) (k : Fin (k0_t1_loop i).trips) (b : Bufs (F := F) c arg6 arg7 arg8 arg9 arg10 arg11) : Bufs (F := F) c arg6 arg7 arg8 arg9 arg10 arg11 :=
  let r := tripRun c i arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11
  ⟨arg6.view.writes (Elt F) b.f6 r.1, arg7.view.writes (Elt F) b.f7 r.2.1, arg8.view.writes (Elt F) b.f8 r.2.2.1,
    arg9.view.writes (Elt F) b.f9 r.2.2.2.1, arg10.view.writes (Elt F) b.f10 r.2.2.2.2.1, arg11.view.writes (Elt F) b.f11 r.2.2.2.2.2.1⟩

/-- What the buffers hold before trip `k`, from what they held at the start. -/
@[reducible] def bufs (f2 : Buf (Elt F) (arg2.view.loc (c : Thread nD τ))) (f3 : Buf (Elt F) (arg3.view.loc (c : Thread nD τ))) (f4 : Buf (Elt F) (arg4.view.loc (c : Thread nD τ))) (o : Bufs (F := F) c arg6 arg7 arg8 arg9 arg10 arg11) : ℕ → Bufs (F := F) c arg6 arg7 arg8 arg9 arg10 arg11
  | 0 => o
  | k + 1 => if h : k < (k0_t1_loop i).trips then next c i arg2 harg2 arg3 harg3 arg4 harg4 arg5 harg5 arg6 harg6 arg7 harg7 arg8 harg8 arg9 harg9 arg10 harg10 arg11 harg11 arg1 v5 v77 c2_i32 v78 v83 v85 v86 f2 f3 f4 ⟨k, h⟩ (bufs f2 f3 f4 o k) else bufs f2 f3 f4 o k

theorem bufs_succ (f2 : Buf (Elt F) (arg2.view.loc (c : Thread nD τ))) (f3 : Buf (Elt F) (arg3.view.loc (c : Thread nD τ))) (f4 : Buf (Elt F) (arg4.view.loc (c : Thread nD τ))) (o : Bufs (F := F) c arg6 arg7 arg8 arg9 arg10 arg11) (k : Fin (k0_t1_loop i).trips) :
    bufs c i arg2 harg2 arg3 harg3 arg4 harg4 arg5 harg5 arg6 harg6 arg7 harg7 arg8 harg8 arg9 harg9 arg10 harg10 arg11 harg11 arg1 v5 v77 c2_i32 v78 v83 v85 v86 f2 f3 f4 o (k.val + 1) = next c i arg2 harg2 arg3 harg3 arg4 harg4 arg5 harg5 arg6 harg6 arg7 harg7 arg8 harg8 arg9 harg9 arg10 harg10 arg11 harg11 arg1 v5 v77 c2_i32 v78 v83 v85 v86 f2 f3 f4 k (bufs c i arg2 harg2 arg3 harg3 arg4 harg4 arg5 harg5 arg6 harg6 arg7 harg7 arg8 harg8 arg9 harg9 arg10 harg10 arg11 harg11 arg1 v5 v77 c2_i32 v78 v83 v85 v86 f2 f3 f4 o k.val) := by
  exact dif_pos k.isLt

/-- The buffers the loop touches, at given contents. -/
abbrev held (f2 : Buf (Elt F) (arg2.view.loc (c : Thread nD τ))) (f3 : Buf (Elt F) (arg3.view.loc (c : Thread nD τ))) (f4 : Buf (Elt F) (arg4.view.loc (c : Thread nD τ))) (b : Bufs (F := F) c arg6 arg7 arg8 arg9 arg10 arg11) : sProp 𝕄 :=
  iprop(heldAt c arg2 f2 ∗ heldAt c arg3 f3 ∗ heldAt c arg4 f4 ∗ heldAt c arg6 b.f6 ∗ heldAt c arg7 b.f7 ∗ heldAt c arg8 b.f8 ∗ heldAt c arg9 b.f9 ∗ heldAt c arg10 b.f10 ∗ heldAt c arg11 b.f11)

/-- One trip takes the buffers to what `next` says. -/
theorem next_step (f2 : Buf (Elt F) (arg2.view.loc (c : Thread nD τ))) (f3 : Buf (Elt F) (arg3.view.loc (c : Thread nD τ))) (f4 : Buf (Elt F) (arg4.view.loc (c : Thread nD τ)))
    (k : Fin (k0_t1_loop i).trips) (b : Bufs (F := F) c arg6 arg7 arg8 arg9 arg10 arg11) :
    held c arg2 arg3 arg4 arg6 arg7 arg8 arg9 arg10 arg11 f2 f3 f4 b
      ⊢ wp Idealize.ShloMosaic.frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg1 v5 v77 c2_i32 v78 v83 v85 v86 k ())
          (fun _ => held c arg2 arg3 arg4 arg6 arg7 arg8 arg9 arg10 arg11 f2 f3 f4
            (next c i arg2 harg2 arg3 harg3 arg4 harg4 arg5 harg5 arg6 harg6 arg7 harg7 arg8 harg8 arg9 harg9 arg10 harg10 arg11 harg11 arg1 v5 v77 c2_i32 v78 v83 v85 v86 f2 f3 f4 k b)) := by
  unfold next
  dsimp only
  exact (tripRun c i arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11).2.2.2.2.2.2

end Loop

set_option warn.classDefReducibility false in
/-- Before trip `k` of the pair loop. -/
@[sl_loop] def loopInv_k0_t1 (c : Dev nD) (i : grid0.Coords)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)
    (f2 : Buf (Elt F) (arg2.view.loc (c : Thread nD τ))) (f3 : Buf (Elt F) (arg3.view.loc (c : Thread nD τ))) (f4 : Buf (Elt F) (arg4.view.loc (c : Thread nD τ))) (o6 : Buf (Elt F) (arg6.view.loc (c : Thread nD τ))) (o7 : Buf (Elt F) (arg7.view.loc (c : Thread nD τ))) (o8 : Buf (Elt F) (arg8.view.loc (c : Thread nD τ))) (o9 : Buf (Elt F) (arg9.view.loc (c : Thread nD τ))) (o10 : Buf (Elt F) (arg10.view.loc (c : Thread nD τ))) (o11 : Buf (Elt F) (arg11.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg1 v5 v77 c2_i32 v78 v83 v85 v86 where
  inv k _ := held c arg2 arg3 arg4 arg6 arg7 arg8 arg9 arg10 arg11 f2 f3 f4 (bufs c i arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ k)
  step k _ := by
    rw [bufs_succ]
    exact next_step c i arg2 harg2 arg3 harg3 arg4 harg4 arg5 harg5 arg6 harg6 arg7 harg7 arg8 harg8 arg9 harg9 arg10 harg10 arg11 harg11 arg1 v5 v77 c2_i32 v78 v83 v85 v86 f2 f3 f4 k _

set_option warn.classDefReducibility false in
/-- The second loop leaves the buffers alone. -/
@[sl_loop] def loopInv_k0_t2 (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)
    (v99 : BitVec 32) (f2 : Buf (Elt F) (arg2.view.loc (c : Thread nD τ))) (f3 : Buf (Elt F) (arg3.view.loc (c : Thread nD τ))) (f4 : Buf (Elt F) (arg4.view.loc (c : Thread nD τ))) (o6 : Buf (Elt F) (arg6.view.loc (c : Thread nD τ))) (o7 : Buf (Elt F) (arg7.view.loc (c : Thread nD τ))) (o8 : Buf (Elt F) (arg8.view.loc (c : Thread nD τ))) (o9 : Buf (Elt F) (arg9.view.loc (c : Thread nD τ))) (o10 : Buf (Elt F) (arg10.view.loc (c : Thread nD τ))) (o11 : Buf (Elt F) (arg11.view.loc (c : Thread nD τ))) :
    LoopInvTy_k0_t2 (F := F) Unit ℕ (UU nD τ) ℕ 𝒱₀ c none Set.univ (grid0.coords t) arg2 harg2 arg3 harg3 arg4 harg4 arg5 harg5 arg6 harg6 arg7 harg7 arg8 harg8 arg9 harg9 arg10 harg10 arg11 harg11 arg1 v5 v77 c2_i32 v78 v83 v85 v86 v99 where
  inv _ _ := held c arg2 arg3 arg4 arg6 arg7 arg8 arg9 arg10 arg11 f2 f3 f4 ⟨o6, o7, o8, o9, o10, o11⟩
  step k _ := (Nat.not_lt_zero _ (Nat.lt_of_lt_of_eq k.isLt (trips2 t))).elim

end Cert.Proof.MlaIdeal

end

end
-- ==== Proof.MlaIdeal.LoopRead.lean ====
/-
  What each head's slices hold after any number of trips of the pair loop.
-/
module

public import proofs.«01_k».proof.Proof.MlaIdeal.TripRead
public import proofs.«01_k».proof.Proof.MlaIdeal.Loop

@[expose] public section

set_option maxRecDepth 65536
set_option maxHeartbeats 4000000

noncomputable section

namespace Cert.Proof.MlaIdeal

open Cert.MlaIdeal Cert.MlaIdeal.Gen
open Idealize.ShloMosaic Idealize.ShloMosaic.TcCoe

variable {F : FTy → Type} [FloatOps F]

/-- What is kept before the first chunk: maximum minus infinity, sum zero, and weights zero with factor one, so that
    summing the chunk before the first changes nothing. -/
def zK : Kept F :=
  ⟨fun _ => Scalar.ofBits .f32 0xFF800000#32, fun _ => Scalar.ofBits .f32 0x00000000#32, fun _ => Scalar.ofBits .bf16 0x0000#16,
    fun _ => Scalar.ofBits .f32 0x3F800000#32⟩

section Loop

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (arg1 : BitVec 32) (v5 : FVec F S256x256 .f32) (v77 : BitVec 32) (c2_i32 : BitVec 32) (v78 : BitVec 32) (v83 : BitVec 32) (v85 : BitVec 32) (v86 : BitVec 1)
  (f2 : Buf (Elt F) (arg2.view.loc (c : Thread nD τ))) (f3 : Buf (Elt F) (arg3.view.loc (c : Thread nD τ))) (f4 : Buf (Elt F) (arg4.view.loc (c : Thread nD τ)))
  (o : Bufs (F := F) c arg6 arg7 arg8 arg9 arg10 arg11)

/-- A trip takes what is kept before chunk `2k` to what is kept before chunk `2k + 2`. -/
theorem slices_next (k : Fin (k0_t1_loop (grid0.coords t)).trips) (b : Bufs (F := F) c arg6 arg7 arg8 arg9 arg10 arg11) (s : Fin 6 → Kept F)
    (H : Slices arg6 arg8 arg9 arg10 arg11 b.f6 b.f8 b.f9 b.f10 b.f11 1 (fun h => lgAt (arg2.view.read (Elt F) f2) (arg3.view.read (Elt F) f3) h (2 * k.val)) s) :
    let b' := next c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 k b
    Slices arg6 arg8 arg9 arg10 arg11 b'.f6 b'.f8 b'.f9 b'.f10 b'.f11 1 (fun h => lgAt (arg2.view.read (Elt F) f2) (arg3.view.read (Elt F) f3) h (min (2 * k.val + 2) (t.val % 8)))
      (fun h => stage (arg2.view.read (Elt F) f2) (arg3.view.read (Elt F) f3) (arg4.view.read (Elt F) f4) arg1 v5 h (2 * k.val + 1) (stage (arg2.view.read (Elt F) f2) (arg3.view.read (Elt F) f3) (arg4.view.read (Elt F) f4) arg1 v5 h (2 * k.val) (s h))) := by
  unfold next
  dsimp only
  exact ⟨trip_lg c t arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11 s H,
    trip_m c t arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11 s H,
    trip_acc c t arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11 s H,
    trip_p c t arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11 s H,
    trip_al c t arg2 harg2 arg3 harg3 arg4 harg4 arg5 harg5 arg6 harg6 arg7 harg7 arg8 harg8 arg9 harg9 arg10 harg10 arg11 harg11 arg1 v5 v77 c2_i32 v78 v83 v85 v86 k f2 f3 f4 b.f6 b.f7 b.f8 b.f9 b.f10 b.f11 s H⟩

/-- Before trip `k` the buffers hold what is kept before chunk `2k`. -/
theorem slices_bufs (H0 : Slices arg6 arg8 arg9 arg10 arg11 o.f6 o.f8 o.f9 o.f10 o.f11 1 (fun h => lgAt (arg2.view.read (Elt F) f2) (arg3.view.read (Elt F) f3) h 0) (fun _ => zK)) (k : ℕ)
    (hk : k ≤ (k0_t1_loop (grid0.coords t)).trips) :
    Slices arg6 arg8 arg9 arg10 arg11 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 o k).f6 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 o k).f8 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 o k).f9 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 o k).f10 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 o k).f11 1
      (fun h => lgAt (arg2.view.read (Elt F) f2) (arg3.view.read (Elt F) f3) h (min (2 * k) (t.val % 8)))
      (fun h => kept (arg2.view.read (Elt F) f2) (arg3.view.read (Elt F) f3) (arg4.view.read (Elt F) f4) arg1 v5 zK h (2 * k)) := by
  induction k with
  | zero => simpa only [Nat.mul_zero, Nat.zero_min, kept] using H0
  | succ k ih =>
    have e : min (2 * k) (t.val % 8) = 2 * k := by
      have := trips1 t
      omega
    have H := ih (by omega)
    rw [e] at H
    have H' := slices_next c t arg2 harg2 arg3 harg3 arg4 harg4 arg5 harg5 arg6 harg6 arg7 harg7 arg8 harg8 arg9 harg9 arg10 harg10 arg11 harg11 arg1 v5 v77 c2_i32 v78 v83 v85 v86 f2 f3 f4 ⟨k, hk⟩ _ _ H
    rw [← bufs_succ] at H'
    exact H'

/-- The same from the six buffers' first contents, one by one. -/
theorem slices_bufs_of (o6 : Buf (Elt F) (arg6.view.loc (c : Thread nD τ))) (o7 : Buf (Elt F) (arg7.view.loc (c : Thread nD τ))) (o8 : Buf (Elt F) (arg8.view.loc (c : Thread nD τ)))
    (o9 : Buf (Elt F) (arg9.view.loc (c : Thread nD τ))) (o10 : Buf (Elt F) (arg10.view.loc (c : Thread nD τ))) (o11 : Buf (Elt F) (arg11.view.loc (c : Thread nD τ)))
    (H0 : Slices arg6 arg8 arg9 arg10 arg11 o6 o8 o9 o10 o11 1 (fun h => lgAt (arg2.view.read (Elt F) f2) (arg3.view.read (Elt F) f3) h 0) (fun _ => zK))
    (n N : ℕ) (hn : n = (k0_t1_loop (grid0.coords t)).trips) (hN : 2 * (k0_t1_loop (grid0.coords t)).trips = N) :
    Slices arg6 arg8 arg9 arg10 arg11 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ n).f6 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ n).f8 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ n).f9 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ n).f10 (bufs c (grid0.coords t) arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ n).f11 1
      (fun h => lgAt (arg2.view.read (Elt F) f2) (arg3.view.read (Elt F) f3) h (min N (t.val % 8)))
      (fun h => kept (arg2.view.read (Elt F) f2) (arg3.view.read (Elt F) f3) (arg4.view.read (Elt F) f4) arg1 v5 zK h (N)) := by
  subst hn hN
  exact slices_bufs c t arg2 harg2 arg3 harg3 arg4 harg4 arg5 harg5 arg6 harg6 arg7 harg7 arg8 harg8 arg9 harg9 arg10 harg10 arg11 harg11 arg1 v5 v77 c2_i32 v78 v83 v85 v86 f2 f3 f4 ⟨o6, o7, o8, o9, o10, o11⟩ H0 _ (Nat.le_refl _)

end Loop

section Start

variable (arg6 : Memref sig .tc .vmem S6x256x256 .f32) (arg8 : Memref sig .tc .vmem S2x6x256x256 .bf16) (arg9 : Memref sig .tc .vmem S2x6x1x256 .f32)
  (arg10 : Memref sig .tc .vmem S6x1x256 .f32) (arg11 : Memref sig .tc .vmem S6x144x256 .f32)
  (f6 : arg6.view.ty.Contents (Elt F)) (f8 : arg8.view.ty.Contents (Elt F)) (f9 : arg9.view.ty.Contents (Elt F))
  (f10 : arg10.view.ty.Contents (Elt F)) (f11 : arg11.view.ty.Contents (Elt F))

/-- The buffers as a point sets them up. -/
theorem slices_start (lg : Fin 6 → FVec F S1x256x256 .f32) (h6 : ∀ h, arg6.view.readAt (Elt F) (R6 h).toLoadRect f6 = lg h) (inb8 inb9 inb10 inb11) :
    Slices arg6 arg8 arg9 arg10 arg11 f6
      (arg8.view.writes (Elt F) f8 [⟨Rect.unit (s := S2x6x256x256) ![1, 0, 0, 0] S1x6x256x256.size inb8, k0_pay293⟩])
      (arg9.view.writes (Elt F) f9 [⟨Rect.unit (s := S2x6x1x256) ![1, 0, 0, 0] S1x6x1x256.size inb9, k0_pay294⟩])
      (arg10.view.writes (Elt F) f10 [⟨Rect.unit (s := S6x1x256) ![0, 0, 0] S6x1x256.size inb10, k0_pay291⟩])
      (arg11.view.writes (Elt F) f11 [⟨Rect.unit (s := S6x144x256) ![0, 0, 0] S6x144x256.size inb11, k0_pay292⟩]) 1 lg (fun _ => zK) where
  lg := h6
  m h := View.readAt_writes_const_of_hit _ _ _ _ 0 _ _ rfl (by revert h; exact forall_six rfl rfl rfl rfl rfl rfl)
  acc h := View.readAt_writes_const_of_hit _ _ _ _ 0 _ _ rfl (by revert h; exact forall_six rfl rfl rfl rfl rfl rfl)
  p h := View.readAt_writes_const_of_hit _ _ _ _ 0 _ _ rfl (by revert h; exact forall_six rfl rfl rfl rfl rfl rfl)
  al h := View.readAt_writes_const_of_hit _ _ _ _ 0 _ _ rfl (by revert h; exact forall_six rfl rfl rfl rfl rfl rfl)

end Start

/-! ## The block a point stores -/

section Out
variable (x0 : Vec F S6x256x256 .bf16) (x1 : Vec F S1x2048x1536 .bf16) (x2 : Vec F S6x8x144x256 .bf16) (n : ℕ)

/-- What is kept of head `h` after query block `n`'s chunks `0 … n`. -/
def keptAll (h : Fin 6) : Kept F := kept x0 x1 x2 (BitVec.ofNat 32 n) k0_pay290 zK h (n + 1)

/-- Head `h`'s columns of query block `n`'s result. -/
def headOut (h : Fin 6) : FVec F S1x256x128 .bf16 :=
  outOf (accOf (vAt x2 n h) (keptAll x0 x1 x2 n h).p (keptAll x0 x1 x2 n h).acc (keptAll x0 x1 x2 n h).al)

/-- The six stores of the result. -/
def outPieces : List (View.Piece (Elt F) S1x256x768 .bf16) :=
  [⟨Rect.unit (s := S1x256x768) ![0, 0, 640] S1x256x128.size (by decide), headOut x0 x1 x2 n 5⟩,
   ⟨Rect.unit (s := S1x256x768) ![0, 0, 512] S1x256x128.size (by decide), headOut x0 x1 x2 n 4⟩,
   ⟨Rect.unit (s := S1x256x768) ![0, 0, 384] S1x256x128.size (by decide), headOut x0 x1 x2 n 3⟩,
   ⟨Rect.unit (s := S1x256x768) ![0, 0, 256] S1x256x128.size (by decide), headOut x0 x1 x2 n 2⟩,
   ⟨Rect.unit (s := S1x256x768) ![0, 0, 128] S1x256x128.size (by decide), headOut x0 x1 x2 n 1⟩,
   ⟨Rect.unit (s := S1x256x768) ![0, 0, 0] S1x256x128.size (by decide), headOut x0 x1 x2 n 0⟩]

end Out

end Cert.Proof.MlaIdeal

end

end
-- ==== Proof.MlaIdeal.Math.lean ====
/-
  The online softmax at the extended reals, for one query: a running maximum, a rescaled weighted sum and the last
  chunk's weights reproduce, at the end, the softmax over all the keys seen.

  The logits are real numbers; a masked key's logit is `⊥`. The weighted values may be any extended reals: a weight is a
  nonnegative real, so it distributes over the sums.
-/
module

public import Idealize.ShloMosaic.Lib.Pointwise
public import Idealize.ShloMosaic.Lib.Claim

@[expose] public section

noncomputable section

namespace Cert.Proof.MlaIdeal

open Idealize.ShloMosaic
open Finset (range)

/-! ## Extended reals that are real -/

/-- A sum of reals is real. -/
theorem sum_real {ι : Type} (s : Finset ι) (f : ι → EReal) (h : ∀ i, ∃ r : ℝ, f i = r) : ∃ r : ℝ, ∑ i ∈ s, f i = r := by
  classical
  choose g hg using h
  refine ⟨∑ i ∈ s, g i, ?_⟩
  simp only [hg]
  induction s using Finset.induction_on with
  | empty => simp
  | insert a s ha ih => rw [Finset.sum_insert ha, Finset.sum_insert ha, ih, EReal.coe_add]

/-- The sum of the coerced reals is the coerced sum. -/
theorem sum_coe {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A nonnegative real factor distributes over a sum of extended reals. -/
theorem sum_mul_real {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert b s hb ih =>
    rw [Finset.sum_insert hb, Finset.sum_insert hb, EReal.right_distrib_of_nonneg_of_ne_top (EReal.coe_nonneg.mpr ha) (EReal.coe_ne_top a), ih]

/-- The maximum of `⊥` and finitely many values that are real or `⊥`, one of them real, is real. -/
theorem fold_max_real {ι : Type} (s : Finset ι) (f : ι → EReal) (h : ∀ i ∈ s, f i < ⊤) (i : ι) (hi : i ∈ s) (hb : ⊥ < f i) :
    ∃ r : ℝ, s.fold max (⊥ : EReal) f = r := by
  have h1 : s.fold max (⊥ : EReal) f < ⊤ := Finset.fold_max_lt _ |>.2 ⟨bot_lt_top, h⟩
  have h2 : ⊥ < s.fold max (⊥ : EReal) f := Finset.lt_fold_max _ |>.2 (.inr ⟨i, hi, hb⟩)
  exact ⟨_, (EReal.coe_toReal h1.ne h2.ne').symm⟩

/-! ## The weights -/

section Weights

variable (L : ℕ → Fin 256 → ℝ) (vis : ℕ → Fin 256 → Prop) [∀ c j, Decidable (vis c j)]

/-- Key `j` of chunk `c`'s logit, `⊥` where it is masked. -/
def lgM (c : ℕ) (j : Fin 256) : EReal := if vis c j then (L c j : EReal) else ⊥

/-- Key `j` of chunk `c`'s weight against the maximum `M`. -/
def wt (M : ℝ) (c : ℕ) (j : Fin 256) : ℝ := if vis c j then Real.rpow 2 (L c j - M) else 0

theorem wt_nonneg (M : ℝ) (c : ℕ) (j : Fin 256) : 0 ≤ wt L vis M c j := by
  unfold wt
  split
  · exact Real.rpow_nonneg (by norm_num) _
  · exact le_refl _

theorem wt_shift (M M' : ℝ) (c : ℕ) (j : Fin 256) : wt L vis M' c j = wt L vis M c j * Real.rpow 2 (M - M') := by
  unfold wt
  split
  · show (2 : ℝ) ^ (_ : ℝ) = (2 : ℝ) ^ (_ : ℝ) * (2 : ℝ) ^ (_ : ℝ)
    rw [← Real.rpow_add (by norm_num)]
    congr 1
    ring
  · rw [zero_mul]

theorem exp2_wt (M : ℝ) (c : ℕ) (j : Fin 256) : Ideal.exp2 (lgM L vis c j - (M : EReal)) = ((wt L vis M c j : ℝ) : EReal) := by
  unfold lgM wt
  split
  · rw [← EReal.coe_sub]; rfl
  · rw [EReal.bot_sub]; rfl

/-- The chunks' weighted values, summed. -/
def wsum (v : ℕ → Fin 256 → EReal) (M : ℝ) (N : ℕ) : EReal := ∑ c ∈ range N, ∑ j, v c j * ((wt L vis M c j : ℝ) : EReal)

/-- The chunks' weights, summed. -/
def wtot (M : ℝ) (N : ℕ) : ℝ := ∑ c ∈ range N, ∑ j, wt L vis M c j

theorem wsum_shift (v : ℕ → Fin 256 → EReal) (M M' : ℝ) (N : ℕ) :
    wsum L vis v M' N = wsum L vis v M N * ((Real.rpow 2 (M - M') : ℝ) : EReal) := by
  have h0 : 0 ≤ Real.rpow 2 (M - M') := Real.rpow_nonneg (by norm_num) _
  unfold wsum
  rw [sum_mul_real _ _ _ h0]
  refine Finset.sum_congr rfl fun c _ => ?_
  rw [sum_mul_real _ _ _ h0]
  refine Finset.sum_congr rfl fun j _ => ?_
  rw [wt_shift L vis M M', EReal.coe_mul, mul_assoc]

theorem wtot_shift (M M' : ℝ) (N : ℕ) : wtot L vis M' N = wtot L vis M N * Real.rpow 2 (M - M') := by
  unfold wtot
  rw [Finset.sum_mul]
  refine Finset.sum_congr rfl fun c _ => ?_
  rw [Finset.sum_mul]
  exact Finset.sum_congr rfl fun j _ => wt_shift L vis M M' c j

theorem wtot_pos (M : ℝ) (N : ℕ) (c : ℕ) (j : Fin 256) (hc : c < N) (h : vis c j) : 0 < wtot L vis M N := by
  have h0 : 0 < wt L vis M c j := by unfold wt; rw [if_pos h]; exact Real.rpow_pos_of_pos (by norm_num) _
  have h1 : wt L vis M c j ≤ ∑ j, wt L vis M c j := Finset.single_le_sum (fun j _ => wt_nonneg L vis M c j) (Finset.mem_univ j)
  have h2 : ∑ j, wt L vis M c j ≤ wtot L vis M N :=
    Finset.single_le_sum (f := fun c => ∑ j, wt L vis M c j) (fun c _ => Finset.sum_nonneg fun j _ => wt_nonneg L vis M c j) (Finset.mem_range.2 hc)
  linarith

/-- Chunks whose keys are all masked add nothing. -/
theorem wsum_extend (v : ℕ → Fin 256 → EReal) (M : ℝ) (N N' : ℕ) (hN : N ≤ N') (h : ∀ c j, N ≤ c → ¬ vis c j) :
    wsum L vis v M N' = wsum L vis v M N := by
  unfold wsum
  refine (Finset.sum_subset (Finset.range_mono hN) fun c _ hc => ?_).symm
  refine Finset.sum_eq_zero fun j _ => ?_
  unfold wt
  rw [if_neg (h c j (by simpa using hc)), EReal.coe_zero, mul_zero]

theorem wtot_extend (M : ℝ) (N N' : ℕ) (hN : N ≤ N') (h : ∀ c j, N ≤ c → ¬ vis c j) : wtot L vis M N' = wtot L vis M N := by
  unfold wtot
  refine (Finset.sum_subset (Finset.range_mono hN) fun c _ hc => ?_).symm
  refine Finset.sum_eq_zero fun j _ => ?_
  unfold wt
  rw [if_neg (h c j (by simpa using hc))]

/-- The softmax-weighted sum: the weights over their sum, against the maximum zero. -/
def soft (v : ℕ → Fin 256 → EReal) (N : ℕ) : EReal :=
  ∑ c ∈ range N, ∑ j, v c j * ((wt L vis 0 c j / wtot L vis 0 N : ℝ) : EReal)

/-- Dividing the weighted sum by the weights' sum at the end is the softmax, whatever the maximum. -/
theorem div_soft (v : ℕ → Fin 256 → EReal) (M : ℝ) (N : ℕ) (hpos : 0 < wtot L vis M N) :
    Ideal.div (wsum L vis v M N) ((wtot L vis M N : ℝ) : EReal) = soft L vis v N := by
  have hne : ((wtot L vis M N : ℝ) : EReal) ≠ 0 := by
    intro h; exact hpos.ne' (EReal.coe_eq_zero.mp h)
  unfold Ideal.div
  rw [if_neg hne, ← EReal.coe_inv]
  unfold wsum soft
  rw [sum_mul_real _ _ _ (inv_nonneg.2 hpos.le)]
  refine Finset.sum_congr rfl fun c _ => ?_
  rw [sum_mul_real _ _ _ (inv_nonneg.2 hpos.le)]
  refine Finset.sum_congr rfl fun j _ => ?_
  rw [mul_assoc, ← EReal.coe_mul, ← div_eq_mul_inv]
  congr 2
  have h2 : Real.rpow 2 (0 - M) ≠ 0 := (Real.rpow_pos_of_pos (by norm_num) _).ne'
  rw [wtot_shift L vis 0 M, wt_shift L vis 0 M, mul_div_mul_right _ _ h2]

end Weights

/-! ## The recursion over the chunks -/

/-- What the kernel keeps of one query: the running maximum, the sums, and the last chunk's weights and factor. -/
structure Col where
  m : EReal
  acc : Fin 144 → EReal
  p : Fin 256 → EReal
  al : EReal

/-- The sum a column's last weights complete. -/
def Col.total (s : Col) (v : Fin 144 → Fin 256 → EReal) (r : Fin 144) : EReal := s.acc r * s.al + ∑ j, v r j * s.p j

section Rec

variable (L : ℕ → Fin 256 → ℝ) (vis : ℕ → Fin 256 → Prop) [∀ c j, Decidable (vis c j)] (v : ℕ → Fin 144 → Fin 256 → EReal)

/-- One chunk. -/
def colStep (c : ℕ) (s : Col) : Col :=
  let m' := max s.m (Finset.univ.fold max ⊥ (lgM L vis c))
  ⟨m', fun r => s.total (v (c - 1)) r, fun j => Ideal.exp2 (lgM L vis c j - m'), Ideal.exp2 (s.m - m')⟩

/-- Before chunk `c`. -/
def col : ℕ → Col
  | 0 => ⟨⊥, fun _ => 0, fun _ => 0, 1⟩
  | c + 1 => colStep L vis v c (col c)

theorem lgM_lt_top (c : ℕ) (j : Fin 256) : lgM L vis c j < ⊤ := by
  unfold lgM
  split
  · exact EReal.coe_lt_top _
  · exact bot_lt_top

/-- A chunk with a key that is not masked has a real maximum. -/
theorem fold_lgM_real (c : ℕ) (hv : ∃ j, vis c j) : ∃ r : ℝ, Finset.univ.fold max ⊥ (lgM L vis c) = (r : EReal) := by
  obtain ⟨j, hj⟩ := hv
  refine fold_max_real _ _ (fun j _ => lgM_lt_top L vis c j) j (Finset.mem_univ _) ?_
  unfold lgM
  rw [if_pos hj]
  exact EReal.bot_lt_coe _

/-- After chunk `c` the maximum is real and the completed sums are the weighted values of the chunks so far. -/
theorem col_spec (c : ℕ) (hv : ∀ c' ≤ c, ∃ j, vis c' j) :
    ∃ M : ℝ, (col L vis v (c + 1)).m = M ∧
      ∀ r, (col L vis v (c + 1)).total (v c) r = wsum L vis (fun c j => v c r j) M (c + 1) := by
  induction c with
  | zero =>
    obtain ⟨F, hF⟩ := fold_lgM_real L vis 0 (hv 0 (le_refl _))
    refine ⟨F, ?_, fun r => ?_⟩
    · show max (⊥ : EReal) _ = _
      rw [hF, max_eq_right bot_le]
    · show (0 * 1 + ∑ j, v 0 r j * (0 : EReal)) * Ideal.exp2 (⊥ - max (⊥ : EReal) (Finset.univ.fold max ⊥ (lgM L vis 0))) + ∑ j, v 0 r j * Ideal.exp2 (lgM L vis 0 j - max (⊥ : EReal) (Finset.univ.fold max ⊥ (lgM L vis 0))) = _
      rw [hF, max_eq_right bot_le]
      simp only [mul_zero, Finset.sum_const_zero, zero_mul, add_zero, zero_add, exp2_wt]
      unfold wsum
      rw [Finset.sum_range_one]
  | succ c ih =>
    obtain ⟨F, hF⟩ := fold_lgM_real L vis (c + 1) (hv (c + 1) (le_refl _))
    obtain ⟨M, hM, hT⟩ := ih (fun c' h => hv c' (by omega))
    have hmax : max (col L vis v (c + 1)).m (Finset.univ.fold max ⊥ (lgM L vis (c + 1))) = ((max M F : ℝ) : EReal) := by
      rw [hM, hF]
      exact (EReal.coe_strictMono.monotone.map_max).symm
    refine ⟨max M F, hmax, fun r => ?_⟩
    show (col L vis v (c + 1)).total (v (c + 1 - 1)) r * Ideal.exp2 ((col L vis v (c + 1)).m - max (col L vis v (c + 1)).m (Finset.univ.fold max ⊥ (lgM L vis (c + 1))))
      + ∑ j, v (c + 1) r j * Ideal.exp2 (lgM L vis (c + 1) j - max (col L vis v (c + 1)).m (Finset.univ.fold max ⊥ (lgM L vis (c + 1)))) = _
    rw [hmax, hM, Nat.add_sub_cancel, hT r, ← EReal.coe_sub]
    simp only [exp2_wt]
    have hal : Ideal.exp2 ((M - max M F : ℝ) : EReal) = ((Real.rpow 2 (M - max M F) : ℝ) : EReal) := rfl
    rw [hal, ← wsum_shift]
    unfold wsum
    rw [Finset.sum_range_succ _ (c + 1)]

end Rec

end Cert.Proof.MlaIdeal

end

end
-- ==== Proof.MlaIdeal.Pay.lean ====
/-
  The attention kernel's arithmetic at the extended reals, element by element.
-/
module

public import proofs.«01_k».proof.Proof.MlaIdeal.LoopRead
public import proofs.«01_k».proof.Proof.MlaIdeal.Math
public import Idealize.ShloMosaic.Lib.Pointwise
public import Idealize.ShloMosaic.Lib.WordCmp

@[expose] public section

set_option maxRecDepth 16384

noncomputable section

namespace Cert.Proof.MlaIdeal

open Cert.MlaIdeal Cert.MlaIdeal.Gen
open Idealize.ShloMosaic Idealize.ShloMosaic.TcCoe
open Idealize.ShloMosaic.Pointwise

/-- The word of minus infinity. -/
theorem neg_inf : Ideal.ofBits .f32 0xFF800000#32 = (⊥ : EReal) := by
  simp [Ideal.ofBits, Ideal.ieee, -EReal.coe_mul]

/-- A logit: a key row against a query column. -/
theorem lgOf_apply (k q : Vec Ideal S1x256x256 .bf16) (j s : Fin 256) :
    lgOf (F := Ideal) k q (ix3 (0 : Fin 1) j s) = ∑ d : Fin 256, (k (ix3 (0 : Fin 1) j d) * q (ix3 (0 : Fin 1) d s) : EReal) := by
  unfold lgOf
  pointwise [k0_pay11]

/-- A sum, rescaled, and the chunk's weighted values added. -/
theorem accOf_apply (v : Vec Ideal S1x1x144x256 .bf16) (p : Vec Ideal S1x1x256x256 .bf16) (acc : Vec Ideal S1x144x256 .f32)
    (al : Vec Ideal S1x1x1x256 .f32) (r : Fin 144) (s : Fin 256) :
    accOf (F := Ideal) v p acc al (ix3 (0 : Fin 1) r s) = (acc (ix3 (0 : Fin 1) r s) * al (ix4 (0 : Fin 1) (0 : Fin 1) (0 : Fin 1) s)
      + ∑ j : Fin 256, v (ix4 (0 : Fin 1) (0 : Fin 1) r j) * p (ix4 (0 : Fin 1) (0 : Fin 1) j s) : EReal) := by
  unfold accOf
  pointwise [k0_pay83]

/-- A result element: a sum over the sum of the row of ones. -/
theorem outOf_apply (acc : Vec Ideal S1x144x256 .f32) (s : Fin 256) (r : Fin 128) :
    outOf (F := Ideal) acc (ix3 (0 : Fin 1) s r)
      = Ideal.div (acc (ix3 (0 : Fin 1) ⟨r.val, by omega⟩ s)) (acc (ix3 (0 : Fin 1) (128 : Fin 144) s)) := by
  unfold outOf
  pointwise [k0_pay1]

/-- The running maximum. -/
theorem mOf_apply (mask : FVec Ideal S256x256 .f32) (lg : Vec Ideal S1x256x256 .f32) (m : Vec Ideal S1x1x256 .f32) (s : Fin 256) :
    mOf (F := Ideal) mask lg m (ix3 (0 : Fin 1) (0 : Fin 1) s)
      = max (m (ix3 (0 : Fin 1) (0 : Fin 1) s)) (Finset.univ.fold max (⊥ : EReal) fun j : Fin 256 => (lg (ix3 (0 : Fin 1) j s) + mask (ix2 j s) : EReal)) := by
  unfold mOf
  pointwise [k0_pay120, k0_pay119, k0_pay118, k0_pay117]
  rw [neg_inf]

/-- A weight. -/
theorem pOf_apply (mask : FVec Ideal S256x256 .f32) (lg : Vec Ideal S1x256x256 .f32) (m : Vec Ideal S1x1x256 .f32) (j s : Fin 256) :
    pOf (F := Ideal) mask lg m (ix4 (0 : Fin 1) (0 : Fin 1) j s)
      = Ideal.exp2 ((lg (ix3 (0 : Fin 1) j s) + mask (ix2 j s) : EReal)
        - max (m (ix3 (0 : Fin 1) (0 : Fin 1) s)) (Finset.univ.fold max (⊥ : EReal) fun j : Fin 256 => (lg (ix3 (0 : Fin 1) j s) + mask (ix2 j s) : EReal))) := by
  unfold pOf
  pointwise [k0_pay103, k0_pay101, k0_pay100, k0_pay99]
  rw [neg_inf]
  rfl

/-- The rescaling factor. -/
theorem alOf_apply (mask : FVec Ideal S256x256 .f32) (lg : Vec Ideal S1x256x256 .f32) (m : Vec Ideal S1x1x256 .f32) (s : Fin 256) :
    alOf (F := Ideal) mask lg m (ix4 (0 : Fin 1) (0 : Fin 1) (0 : Fin 1) s)
      = Ideal.exp2 ((m (ix3 (0 : Fin 1) (0 : Fin 1) s) : EReal)
        - max (m (ix3 (0 : Fin 1) (0 : Fin 1) s)) (Finset.univ.fold max (⊥ : EReal) fun j : Fin 256 => (lg (ix3 (0 : Fin 1) j s) + mask (ix2 j s) : EReal))) := by
  unfold alOf
  pointwise [k0_pay310, k0_pay119, k0_pay118, k0_pay117]
  rw [neg_inf]
  rfl

/-- The causal bias of the diagonal chunk. -/
theorem bias_apply (j s : Fin 256) : k0_pay290 (F := Ideal) (ix2 j s) = if j.val ≤ s.val then (0 : EReal) else ⊥ := by
  pointwise [k0_pay290]
  rw [neg_inf]
  have hj : j.val < 2 ^ (32 - 1) := by have := j.isLt; omega
  have hs : s.val < 2 ^ (32 - 1) := by have := s.isLt; omega
  have h : IntOp.cmpi CmpIPredicate.sle (BitVec.ofNat 32 j.val) (BitVec.ofNat 32 s.val) = if j.val ≤ s.val then 1#1 else 0#1 := by
    rw [WordCmp.cmpi_sle_eq, WordCmp.toInt_ofNat_of_lt hj, WordCmp.toInt_ofNat_of_lt hs]
    by_cases h : j.val ≤ s.val
    · rw [if_pos h, decide_eq_true (Int.ofNat_le.mpr h)]; rfl
    · rw [if_neg h, decide_eq_false (fun h' => h (Int.ofNat_le.mp h'))]; rfl
  rw [h]
  split <;> rfl

/-- The bias enters at the diagonal chunk only. -/
theorem maskOf_apply (n : ℕ) (hn : n < 8) (bias : FVec Ideal S256x256 .f32) (c : ℕ) (hc : c < 8) (j s : Fin 256) :
    maskOf (F := Ideal) (BitVec.ofNat 32 n) bias c (ix2 j s) = if c = n then bias (ix2 j s) else (0 : EReal) := by
  unfold maskOf
  pointwise [k0_pay22]
  have h : Scalar.cmpi CmpIPredicate.eq (BitVec.ofNat 32 c) (BitVec.ofNat 32 n) = if c = n then 1#1 else 0#1 := by
    clear bias j s
    interval_cases c <;> interval_cases n <;> rfl
  rw [h]
  split <;> rfl

end Cert.Proof.MlaIdeal

end

end
-- ==== Proof.MlaIdeal.Col.lean ====
/-
  One query's column of what the attention kernel keeps is the online softmax of `Math`, and a head's result at that
  query is the softmax-weighted sum of the values, where the logits are real and the values' row 128 is ones.
-/
module

public import proofs.«01_k».proof.Proof.MlaIdeal.Pay

@[expose] public section

set_option maxRecDepth 16384

noncomputable section

namespace Cert.Proof.MlaIdeal

open Cert.MlaIdeal Cert.MlaIdeal.Gen
open Idealize.ShloMosaic Idealize.ShloMosaic.TcCoe

/-- What query `s` of query block `n` sees: every key of an earlier chunk, and the keys of its own chunk up to itself. -/
abbrev vis (n : ℕ) (s : Fin 256) (c : ℕ) (j : Fin 256) : Prop := c < n ∨ (c = n ∧ j.val ≤ s.val)

/-- The column of query `s`. -/
def colOf (K : Kept Ideal) (s : Fin 256) : Col :=
  ⟨K.m (ix3 (0 : Fin 1) (0 : Fin 1) s), fun r => K.acc (ix3 (0 : Fin 1) r s), fun j => K.p (ix4 (0 : Fin 1) (0 : Fin 1) j s),
    K.al (ix4 (0 : Fin 1) (0 : Fin 1) (0 : Fin 1) s)⟩

section

variable (x0 : Vec Ideal S6x256x256 .bf16) (x1 : Vec Ideal S1x2048x1536 .bf16) (x2 : Vec Ideal S6x8x144x256 .bf16)
  (n : ℕ) (hn : n < 8) (h : Fin 6) (L : ℕ → Fin 256 → Fin 256 → ℝ)
  (hL : ∀ c, c ≤ n → ∀ j s : Fin 256, lgAt x0 x1 h c (ix3 (0 : Fin 1) j s) = ((L c j s : ℝ) : EReal))

/-- Chunk `c`'s values of the head, by row and key. -/
def vCol (c : ℕ) (r : Fin 144) (j : Fin 256) : EReal := vAt x2 c h (ix4 (0 : Fin 1) (0 : Fin 1) r j)

include hn hL in
/-- A logit with its mask. -/
theorem masked (c : ℕ) (hc : c ≤ n) (j s : Fin 256) :
    (lgAt x0 x1 h c (ix3 (0 : Fin 1) j s) + maskOf (F := Ideal) (BitVec.ofNat 32 n) k0_pay290 c (ix2 j s) : EReal)
      = lgM (fun c j => L c j s) (vis n s) c j := by
  rw [maskOf_apply n hn _ c (by omega), bias_apply, hL c hc]
  unfold lgM
  by_cases h1 : c = n
  · rw [if_pos h1]
    by_cases h2 : j.val ≤ s.val
    · rw [if_pos h2, if_pos (.inr ⟨h1, h2⟩), add_zero]
    · rw [if_neg h2, if_neg (by rintro (h3 | h3); · omega
                                · exact h2 h3.2), EReal.add_bot]
  · rw [if_neg h1, if_pos (.inl (by omega)), add_zero]

include hn hL in
/-- The kernel's recursion, column by column. -/
theorem kept_col (s : Fin 256) (c : ℕ) (hc : c ≤ n + 1) :
    colOf (kept x0 x1 x2 (BitVec.ofNat 32 n) k0_pay290 zK h c) s = col (fun c j => L c j s) (vis n s) (vCol x2 h) c := by
  induction c with
  | zero =>
    have h1 : (Scalar.ofBits .f32 0xFF800000#32 : Ideal .f32) = (⊥ : EReal) := neg_inf
    have h2 : (Scalar.ofBits .f32 0x00000000#32 : Ideal .f32) = (0 : EReal) := Ideal.ofBits_zero .f32
    have h3 : (Scalar.ofBits .bf16 0x0000#16 : Ideal .bf16) = (0 : EReal) := by
      show Ideal.ofBits .bf16 0x0000#16 = 0
      simp [Ideal.ofBits, Ideal.ieee, -EReal.coe_mul]
    have h4 : (Scalar.ofBits .f32 0x3F800000#32 : Ideal .f32) = (1 : EReal) := by
      show Ideal.ofBits .f32 0x3F800000#32 = 1
      simp [Ideal.ofBits, Ideal.ieee, -EReal.coe_mul]
      norm_num
    show Col.mk (Scalar.ofBits .f32 0xFF800000#32 : Ideal .f32) (fun _ => (Scalar.ofBits .f32 0x00000000#32 : Ideal .f32))
      (fun _ => (Scalar.ofBits .bf16 0x0000#16 : Ideal .bf16)) (Scalar.ofBits .f32 0x3F800000#32 : Ideal .f32) = Col.mk ⊥ (fun _ => 0) (fun _ => 0) 1
    rw [h1, h2, h3, h4]
  | succ c ih =>
    specialize ih (by omega)
    show colOf (stage x0 x1 x2 (BitVec.ofNat 32 n) k0_pay290 h c (kept x0 x1 x2 (BitVec.ofNat 32 n) k0_pay290 zK h c)) s
      = colStep (fun c j => L c j s) (vis n s) (vCol x2 h) c (col (fun c j => L c j s) (vis n s) (vCol x2 h) c)
    rw [← ih]
    generalize kept x0 x1 x2 (BitVec.ofNat 32 n) k0_pay290 zK h c = K
    have hm : (fun j => (lgAt x0 x1 h c (ix3 (0 : Fin 1) j s) + maskOf (F := Ideal) (BitVec.ofNat 32 n) k0_pay290 c (ix2 j s) : EReal))
      = lgM (fun c j => L c j s) (vis n s) c := funext fun j => masked x0 x1 n hn h L hL c (by omega) j s
    unfold colOf stage colStep
    dsimp only
    rw [mOf_apply, alOf_apply, hm]
    congr 1
    · funext r
      rw [accOf_apply]
      rfl
    · funext j
      rw [pOf_apply, hm, masked x0 x1 n hn h L hL c (by omega) j s]

include hn hL in
/-- A head's result: the softmax-weighted sum of the values. -/
theorem headOut_apply (hv : ∀ c, c ≤ n → ∀ j, vCol x2 h c 128 j = 1) (s : Fin 256) (r : Fin 128) :
    headOut x0 x1 x2 n h (ix3 (0 : Fin 1) s r)
      = soft (fun c j => L c j s) (vis n s) (fun c j => vCol x2 h c ⟨r.val, by omega⟩ j) 8 := by
  have hsee : ∀ c, c ≤ n → ∃ j, vis n s c j := fun c hc => ⟨s, by
    by_cases h : c = n
    · exact .inr ⟨h, le_refl _⟩
    · exact .inl (by omega)⟩
  have hhid : ∀ c (j : Fin 256), n + 1 ≤ c → ¬ vis n s c j := fun c j hc => by
    rintro (h | h) <;> omega
  obtain ⟨M, -, hT⟩ := col_spec (fun c j => L c j s) (vis n s) (vCol x2 h) n hsee
  have e : ∀ r : Fin 144, accOf (F := Ideal) (vAt x2 n h) (keptAll x0 x1 x2 n h).p (keptAll x0 x1 x2 n h).acc (keptAll x0 x1 x2 n h).al (ix3 (0 : Fin 1) r s)
      = wsum (fun c j => L c j s) (vis n s) (fun c j => vCol x2 h c r j) M (n + 1) := fun r => by
    rw [← hT r, ← kept_col x0 x1 x2 n hn h L hL s (n + 1) (le_refl _), accOf_apply]
    rfl
  unfold headOut
  rw [outOf_apply, e, e]
  have hone : wsum (fun c j => L c j s) (vis n s) (fun c j => vCol x2 h c 128 j) M (n + 1)
      = ((wtot (fun c j => L c j s) (vis n s) M (n + 1) : ℝ) : EReal) := by
    unfold wsum wtot
    rw [← sum_coe]
    refine Finset.sum_congr rfl fun c hc => ?_
    rw [← sum_coe]
    refine Finset.sum_congr rfl fun j _ => ?_
    show vCol x2 h c 128 j * _ = _
    rw [hv c (by have := Finset.mem_range.1 hc; omega) j, one_mul]
  rw [hone, ← wsum_extend _ _ _ M (n + 1) 8 (by omega) hhid, ← wtot_extend _ _ M (n + 1) 8 (by omega) hhid]
  exact div_soft _ _ _ M 8 (wtot_pos _ _ M 8 n s hn (.inr ⟨rfl, le_refl _⟩))

end

end Cert.Proof.MlaIdeal

end

end
-- ==== Proof.MlaIdeal.BodyOdd.lean ====
/-
  One grid point of the attention kernel, run: the pieces it writes into the result's block.
-/
module

public import proofs.«01_k».proof.Proof.MlaIdeal.Loop
public import proofs.«01_k».proof.Proof.MlaIdeal.Offsets

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)

set_option maxHeartbeats 40000000 in
/-- A point whose chunks all come in pairs. -/
@[irreducible] def oddRun (hc : ¬ k0_cond1 (grid0.coords t) = 1#1)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) :
    Σ' (L5 : List (View.Piece (Elt F) S1x256x768 .bf16)),
      iprop(heldAt c arg2 f2 ∗ heldAt c arg3 f3 ∗ heldAt c arg4 f4 ∗ heldAt c arg5 f5 ∗ heldAt c arg6 f6 ∗ heldAt c arg7 f7 ∗ heldAt c arg8 f8 ∗ heldAt c arg9 f9 ∗ heldAt c arg10 f10 ∗ heldAt c arg11 f11)
      ⊢ wp Idealize.ShloMosaic.frame (wpE (defs₀ (F := F)) 𝒱₀ (c : Thread nD τ) none) Set.univ
          (cc0_mla_attn (F := F) (grid0.coords t) arg2 harg2 arg3 harg3 arg4 harg4 arg5 harg5 arg6 harg6 arg7 harg7 arg8 harg8 arg9 harg9 arg10 harg10 arg11 harg11)
          (fun _ => iprop(heldAt c arg2 f2 ∗ heldAt c arg3 f3 ∗ heldAt c arg4 f4 ∗ heldAt c arg5 (arg5.view.writes (Elt F) f5 L5) ∗ (∃ g, heldAt c arg6 g) ∗ (∃ g, heldAt c arg7 g) ∗ (∃ g, heldAt c arg8 g) ∗ (∃ g, heldAt c arg9 g) ∗ (∃ g, heldAt c arg10 g) ∗ (∃ g, heldAt c arg11 g))) := by
  refine ⟨?_, ?run⟩
  case run =>
    iintro ⟨H2, H3, H4, H5, H6, H7, H8, H9, H10, H11⟩
    simp only [cc0_mla_attn_eq_skeleton]; unfold cc0_mla_attn_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    sl_exec (disch := sl_exact hc)
    sl_step
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Body

end Cert.Proof.MlaIdeal

end

end
-- ==== Proof.MlaIdeal.ReadOdd.lean ====
/-
  What a point with an even number of chunks leaves in the result block.
-/
module

public import proofs.«01_k».proof.Proof.MlaIdeal.LoopRead
public import proofs.«01_k».proof.Proof.MlaIdeal.BodyOdd
import all proofs.«01_k».proof.Proof.MlaIdeal.BodyOdd

@[expose] public section

set_option maxRecDepth 65536
set_option maxHeartbeats 4000000

noncomputable section

namespace Cert.Proof.MlaIdeal

open Cert.MlaIdeal Cert.MlaIdeal.Gen
open Idealize.ShloMosaic Idealize.ShloMosaic.TcCoe

variable {F : FTy → Type} [FloatOps F]

section Body

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ))) (f11 : Buf (Elt F) (arg11.view.loc (c : Thread nD τ)))

/-- The logits of chunk 0, as the point's first stores leave them. -/
theorem odd_logits (h : Fin 6) :
    arg6.view.readAt (Elt F) (R6 h).toLoadRect (arg6.view.writes (Elt F) arg6.view.junk (oddRun.sl.H6_6 c arg2 arg3 f2 f3))
      = lgAt (arg2.view.read (Elt F) f2) (arg3.view.read (Elt F) f3) h 0 := by
  revert h
  refine forall_six ?_ ?_ ?_ ?_ ?_ ?_
  all_goals
    simp only [lgAt, oddRun.sl.H6_6]
    try simp (disch := decide) only [readAt_skip]
    refine (readAt_hit _ _ _ _ _).trans ?_
    simp only [oddRun.sl.r, oddRun.sl.r_1, oddRun.sl.r_2, oddRun.sl.r_3, oddRun.sl.r_4, oddRun.sl.r_5, oddRun.sl.r_6, oddRun.sl.r_7, oddRun.sl.r_8, load_k arg3 f3 0 0 ![0, 0, 0] rfl, load_k arg3 f3 0 1 ![0, 0, 256] rfl, load_k arg3 f3 0 2 ![0, 0, 512] rfl, load_k arg3 f3 0 3 ![0, 0, 768] rfl, load_k arg3 f3 0 4 ![0, 0, 1024] rfl, load_k arg3 f3 0 5 ![0, 0, 1280] rfl, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The buffers as the point sets them up. -/
theorem odd_start :
    Slices arg6 arg8 arg9 arg10 arg11 (arg6.view.writes (Elt F) arg6.view.junk (oddRun.sl.H6_6 c arg2 arg3 f2 f3))
      (arg8.view.writes (Elt F) f8 [⟨Rect.unit (s := S2x6x256x256) ![1, 0, 0, 0] S1x6x256x256.size inb_S2x6x256x256_S1x6x256x256_1_0_0_0, k0_pay293⟩])
      (arg9.view.writes (Elt F) f9 [⟨Rect.unit (s := S2x6x1x256) ![1, 0, 0, 0] S1x6x1x256.size inb_S2x6x1x256_S1x6x1x256_1_0_0_0, k0_pay294⟩])
      (arg10.view.writes (Elt F) arg10.view.junk oddRun.sl.H10_1) (arg11.view.writes (Elt F) arg11.view.junk oddRun.sl.H11_1)
      1 (fun h => lgAt (arg2.view.read (Elt F) f2) (arg3.view.read (Elt F) f3) h 0) (fun _ => zK) := by
  unfold oddRun.sl.H10_1 oddRun.sl.H11_1
  exact slices_start arg6 arg8 arg9 arg10 arg11 _ f8 f9 _ _ _ (odd_logits c arg2 arg3 arg6 f2 f3) _ _ _ _

/-- The result's stores, in closed form. -/
theorem odd_pieces (hc : ¬ k0_cond1 (grid0.coords t) = 1#1) :
    (oddRun c t arg2 harg2 arg3 harg3 arg4 harg4 arg5 harg5 arg6 harg6 arg7 harg7 arg8 harg8 arg9 harg9 arg10 harg10 arg11 harg11 hc f2 f3 f4 f5 f6 f7 f8 f9 f10 f11).1
      = outPieces (arg2.view.read (Elt F) f2) (arg3.view.read (Elt F) f3) (arg4.view.read (Elt F) f4) (t.val % 8) := by
  have e : 2 * (k0_t1_loop (grid0.coords t)).trips = t.val % 8 + 1 := by
    have h1 := trips1 t
    have h2 := mt (cond_iff t).2 hc
    omega
  have H := fun n hn => slices_bufs_of c t arg2 harg2 arg3 harg3 arg4 harg4 arg5 harg5 arg6 harg6 arg7 harg7 arg8 harg8 arg9 harg9 arg10 harg10 arg11 harg11 (BitVec.ofNat 32 (grid0.coords t 1).val) k0_pay290 (oddRun.sl.v77 t) 2#32 (oddRun.sl.v78 t) 1#32 1#32 0#1 f2 f3 f4
    (arg6.view.writes (Elt F) arg6.view.junk (oddRun.sl.H6_6 c arg2 arg3 f2 f3)) f7
      (arg8.view.writes (Elt F) f8 [⟨Rect.unit (s := S2x6x256x256) ![1, 0, 0, 0] S1x6x256x256.size inb_S2x6x256x256_S1x6x256x256_1_0_0_0, k0_pay293⟩])
      (arg9.view.writes (Elt F) f9 [⟨Rect.unit (s := S2x6x1x256) ![1, 0, 0, 0] S1x6x1x256.size inb_S2x6x1x256_S1x6x1x256_1_0_0_0, k0_pay294⟩])
      (arg10.view.writes (Elt F) arg10.view.junk oddRun.sl.H10_1) (arg11.view.writes (Elt F) arg11.view.junk oddRun.sl.H11_1)
    (odd_start c arg2 arg3 arg6 arg8 arg9 arg10 arg11 f2 f3 f8 f9) n _ hn e
  obtain ⟨⟨p0, q0⟩, ⟨p1, q1⟩, ⟨p2, q2⟩, ⟨p3, q3⟩, ⟨p4, q4⟩, ⟨p5, q5⟩⟩ := off_odd t hc
  obtain ⟨d0, d1, d2, d3, d4, d5⟩ := off_v4 t
  have hq := coord1 t
  unfold oddRun outPieces headOut keptAll
  dsimp only
  simp (disch := decide) only [oddRun.sl.H11_6, oddRun.sl.r_10, oddRun.sl.r_11, oddRun.sl.r_12, oddRun.sl.r_13, oddRun.sl.r_14, oddRun.sl.r_9, oddRun.sl.v127, oddRun.sl.v130, oddRun.sl.v133, oddRun.sl.v145, oddRun.sl.v148, oddRun.sl.v151, oddRun.sl.v163, oddRun.sl.v166, oddRun.sl.v169, oddRun.sl.v181, oddRun.sl.v184, oddRun.sl.v187, oddRun.sl.v199, oddRun.sl.v202, oddRun.sl.v205, oddRun.sl.v217, oddRun.sl.v220, oddRun.sl.v223, oddRun.sl.v231, oddRun.sl.v242, oddRun.sl.v253, oddRun.sl.v264, oddRun.sl.v275, oddRun.sl.v286, View.readCov_skip, View.readCov_cons_toLoadRect]
  simp (disch := exact rfl) only [fun n hn => (H n hn).acc' 0 ![0, 0, 0] rfl, fun n hn => (H n hn).acc' 1 ![1, 0, 0] rfl, fun n hn => (H n hn).acc' 2 ![2, 0, 0] rfl, fun n hn => (H n hn).acc' 3 ![3, 0, 0] rfl, fun n hn => (H n hn).acc' 4 ![4, 0, 0] rfl, fun n hn => (H n hn).acc' 5 ![5, 0, 0] rfl, fun n hn => (H n hn).p' 0 _ p0, fun n hn => (H n hn).p' 1 _ p1, fun n hn => (H n hn).p' 2 _ p2, fun n hn => (H n hn).p' 3 _ p3, fun n hn => (H n hn).p' 4 _ p4, fun n hn => (H n hn).p' 5 _ p5, fun n hn => (H n hn).al' 0 _ q0, fun n hn => (H n hn).al' 1 _ q1, fun n hn => (H n hn).al' 2 _ q2, fun n hn => (H n hn).al' 3 _ q3, fun n hn => (H n hn).al' 4 _ q4, fun n hn => (H n hn).al' 5 _ q5, load_v arg4 f4 _ 0 _ d0, load_v arg4 f4 _ 1 _ d1, load_v arg4 f4 _ 2 _ d2, load_v arg4 f4 _ 3 _ d3, load_v arg4 f4 _ 4 _ d4, load_v arg4 f4 _ 5 _ d5]
  simp only [hq]
  rfl

end Body

end Cert.Proof.MlaIdeal

end

end
-- ==== Proof.MlaIdeal.BodyEven.lean ====
/-
  One grid point of the attention kernel, run: the pieces it writes into the result's block.
-/
module

public import proofs.«01_k».proof.Proof.MlaIdeal.Loop
public import proofs.«01_k».proof.Proof.MlaIdeal.Offsets

@[expose] public section

set_option maxRecDepth 16384

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Slots

variable (t : Fin cfg0.N) [hc : Fact (k0_cond1 (grid0.coords t) = 1#1)]

instance : ClosedOff (k0_off56 (grid0.coords t)) := ⟨![0, 0, 0, 0], (off_even t hc.out).1.1⟩
instance : ClosedOff (k0_off57 (grid0.coords t)) := ⟨![0, 0, 0, 0], (off_even t hc.out).1.2⟩
instance : ClosedOff (k0_off59 (grid0.coords t)) := ⟨![0, 1, 0, 0], (off_even t hc.out).2.1.1⟩
instance : ClosedOff (k0_off60 (grid0.coords t)) := ⟨![0, 1, 0, 0], (off_even t hc.out).2.1.2⟩
instance : ClosedOff (k0_off62 (grid0.coords t)) := ⟨![0, 2, 0, 0], (off_even t hc.out).2.2.1.1⟩
instance : ClosedOff (k0_off63 (grid0.coords t)) := ⟨![0, 2, 0, 0], (off_even t hc.out).2.2.1.2⟩
instance : ClosedOff (k0_off65 (grid0.coords t)) := ⟨![0, 3, 0, 0], (off_even t hc.out).2.2.2.1.1⟩
instance : ClosedOff (k0_off66 (grid0.coords t)) := ⟨![0, 3, 0, 0], (off_even t hc.out).2.2.2.1.2⟩
instance : ClosedOff (k0_off68 (grid0.coords t)) := ⟨![0, 4, 0, 0], (off_even t hc.out).2.2.2.2.1.1⟩
instance : ClosedOff (k0_off69 (grid0.coords t)) := ⟨![0, 4, 0, 0], (off_even t hc.out).2.2.2.2.1.2⟩
instance : ClosedOff (k0_off71 (grid0.coords t)) := ⟨![0, 5, 0, 0], (off_even t hc.out).2.2.2.2.2.1⟩
instance : ClosedOff (k0_off72 (grid0.coords t)) := ⟨![0, 5, 0, 0], (off_even t hc.out).2.2.2.2.2.2⟩

end Slots

section Body

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)

set_option maxHeartbeats 40000000 in
/-- A point with a last chunk left over from the pairs. -/
@[irreducible] def evenRun (hc : k0_cond1 (grid0.coords t) = 1#1)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) :
    Σ' (L5 : List (View.Piece (Elt F) S1x256x768 .bf16)),
      iprop(heldAt c arg2 f2 ∗ heldAt c arg3 f3 ∗ heldAt c arg4 f4 ∗ heldAt c arg5 f5 ∗ heldAt c arg6 f6 ∗ heldAt c arg7 f7 ∗ heldAt c arg8 f8 ∗ heldAt c arg9 f9 ∗ heldAt c arg10 f10 ∗ heldAt c arg11 f11)
      ⊢ wp Idealize.ShloMosaic.frame (wpE (defs₀ (F := F)) 𝒱₀ (c : Thread nD τ) none) Set.univ
          (cc0_mla_attn (F := F) (grid0.coords t) arg2 harg2 arg3 harg3 arg4 harg4 arg5 harg5 arg6 harg6 arg7 harg7 arg8 harg8 arg9 harg9 arg10 harg10 arg11 harg11)
          (fun _ => iprop(heldAt c arg2 f2 ∗ heldAt c arg3 f3 ∗ heldAt c arg4 f4 ∗ heldAt c arg5 (arg5.view.writes (Elt F) f5 L5) ∗ (∃ g, heldAt c arg6 g) ∗ (∃ g, heldAt c arg7 g) ∗ (∃ g, heldAt c arg8 g) ∗ (∃ g, heldAt c arg9 g) ∗ (∃ g, heldAt c arg10 g) ∗ (∃ g, heldAt c arg11 g))) := by
  refine ⟨?_, ?run⟩
  case run =>
    iintro ⟨H2, H3, H4, H5, H6, H7, H8, H9, H10, H11⟩
    simp only [cc0_mla_attn_eq_skeleton]; unfold cc0_mla_attn_skel
    simp only [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    haveI : Fact (k0_cond1 (grid0.coords t) = 1#1) := ⟨hc⟩
    sl_exec (disch := sl_exact hc)
    sl_step
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Body

end Cert.Proof.MlaIdeal

end

end
-- ==== Proof.MlaIdeal.ReadEven.lean ====
/-
  What a point with an odd number of chunks leaves in the result block.
-/
module

public import proofs.«01_k».proof.Proof.MlaIdeal.LoopRead
public import proofs.«01_k».proof.Proof.MlaIdeal.BodyEven
import all proofs.«01_k».proof.Proof.MlaIdeal.BodyEven

@[expose] public section

set_option maxRecDepth 65536
set_option maxHeartbeats 4000000

noncomputable section

namespace Cert.Proof.MlaIdeal

open Cert.MlaIdeal Cert.MlaIdeal.Gen
open Idealize.ShloMosaic Idealize.ShloMosaic.TcCoe

variable {F : FTy → Type} [FloatOps F]

/-- A covered load at an offset known in closed form. -/
theorem readCov_off {κ : Kind} {sp : Space} {s : Shape} {e : EltTy} (v : View sig κ sp s e) (L : List (View.Piece (Elt F) s e)) (off off' size : Fin s.rank → ℕ)
    (inb : ∀ a, off a + size a ≤ s.size a) (inb' : ∀ a, off' a + size a ≤ s.size a) (h : off = off') :
    v.readCov (Val := Elt F) L (Rect.unit off size inb).toLoadRect = v.readCov (Val := Elt F) L (Rect.unit off' size inb').toLoadRect := by
  subst h; rfl

section Body

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)
  (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ))) (f11 : Buf (Elt F) (arg11.view.loc (c : Thread nD τ)))

/-- The logits of chunk 0, as the point's first stores leave them. -/
theorem even_logits (h : Fin 6) :
    arg6.view.readAt (Elt F) (R6 h).toLoadRect (arg6.view.writes (Elt F) arg6.view.junk (evenRun.sl.H6_6 c arg2 arg3 f2 f3))
      = lgAt (arg2.view.read (Elt F) f2) (arg3.view.read (Elt F) f3) h 0 := by
  revert h
  refine forall_six ?_ ?_ ?_ ?_ ?_ ?_
  all_goals
    simp only [lgAt, evenRun.sl.H6_6]
    try simp (disch := decide) only [readAt_skip]
    refine (readAt_hit _ _ _ _ _).trans ?_
    simp only [evenRun.sl.r, evenRun.sl.r_1, evenRun.sl.r_2, evenRun.sl.r_3, evenRun.sl.r_4, evenRun.sl.r_5, evenRun.sl.r_6, evenRun.sl.r_7, evenRun.sl.r_8, load_k arg3 f3 0 0 ![0, 0, 0] rfl, load_k arg3 f3 0 1 ![0, 0, 256] rfl, load_k arg3 f3 0 2 ![0, 0, 512] rfl, load_k arg3 f3 0 3 ![0, 0, 768] rfl, load_k arg3 f3 0 4 ![0, 0, 1024] rfl, load_k arg3 f3 0 5 ![0, 0, 1280] rfl, load_q arg2 f2 0 ![0, 0, 0] rfl, load_q arg2 f2 1 ![1, 0, 0] rfl, load_q arg2 f2 2 ![2, 0, 0] rfl, load_q arg2 f2 3 ![3, 0, 0] rfl, load_q arg2 f2 4 ![4, 0, 0] rfl, load_q arg2 f2 5 ![5, 0, 0] rfl]
    rfl

/-- The buffers as the point sets them up. -/
theorem even_start :
    Slices arg6 arg8 arg9 arg10 arg11 (arg6.view.writes (Elt F) arg6.view.junk (evenRun.sl.H6_6 c arg2 arg3 f2 f3))
      (arg8.view.writes (Elt F) f8 [⟨Rect.unit (s := S2x6x256x256) ![1, 0, 0, 0] S1x6x256x256.size inb_S2x6x256x256_S1x6x256x256_1_0_0_0, k0_pay293⟩])
      (arg9.view.writes (Elt F) f9 [⟨Rect.unit (s := S2x6x1x256) ![1, 0, 0, 0] S1x6x1x256.size inb_S2x6x1x256_S1x6x1x256_1_0_0_0, k0_pay294⟩])
      (arg10.view.writes (Elt F) arg10.view.junk evenRun.sl.H10_1) (arg11.view.writes (Elt F) arg11.view.junk evenRun.sl.H11_1)
      1 (fun h => lgAt (arg2.view.read (Elt F) f2) (arg3.view.read (Elt F) f3) h 0) (fun _ => zK) := by
  unfold evenRun.sl.H10_1 evenRun.sl.H11_1
  exact slices_start arg6 arg8 arg9 arg10 arg11 _ f8 f9 _ _ _ (even_logits c arg2 arg3 arg6 f2 f3) _ _ _ _

/-- The result's stores, in closed form. -/
theorem even_pieces (hc : k0_cond1 (grid0.coords t) = 1#1) :
    (evenRun c t arg2 harg2 arg3 harg3 arg4 harg4 arg5 harg5 arg6 harg6 arg7 harg7 arg8 harg8 arg9 harg9 arg10 harg10 arg11 harg11 hc f2 f3 f4 f5 f6 f7 f8 f9 f10 f11).1
      = outPieces (arg2.view.read (Elt F) f2) (arg3.view.read (Elt F) f3) (arg4.view.read (Elt F) f4) (t.val % 8) := by
  have e : 2 * (k0_t1_loop (grid0.coords t)).trips = t.val % 8 := by
    have h1 := trips1 t
    have h2 := (cond_iff t).1 hc
    omega
  have H := fun n hn => slices_bufs_of c t arg2 harg2 arg3 harg3 arg4 harg4 arg5 harg5 arg6 harg6 arg7 harg7 arg8 harg8 arg9 harg9 arg10 harg10 arg11 harg11 (BitVec.ofNat 32 (grid0.coords t 1).val) k0_pay290 (evenRun.sl.v77 t) 2#32 (evenRun.sl.v78 t) 1#32 1#32 0#1 f2 f3 f4
    (arg6.view.writes (Elt F) arg6.view.junk (evenRun.sl.H6_6 c arg2 arg3 f2 f3)) f7
      (arg8.view.writes (Elt F) f8 [⟨Rect.unit (s := S2x6x256x256) ![1, 0, 0, 0] S1x6x256x256.size inb_S2x6x256x256_S1x6x256x256_1_0_0_0, k0_pay293⟩])
      (arg9.view.writes (Elt F) f9 [⟨Rect.unit (s := S2x6x1x256) ![1, 0, 0, 0] S1x6x1x256.size inb_S2x6x1x256_S1x6x1x256_1_0_0_0, k0_pay294⟩])
      (arg10.view.writes (Elt F) arg10.view.junk evenRun.sl.H10_1) (arg11.view.writes (Elt F) arg11.view.junk evenRun.sl.H11_1)
    (even_start c arg2 arg3 arg6 arg8 arg9 arg10 arg11 f2 f3 f8 f9) n _ hn e
  obtain ⟨⟨p0, q0⟩, ⟨p1, q1⟩, ⟨p2, q2⟩, ⟨p3, q3⟩, ⟨p4, q4⟩, ⟨p5, q5⟩⟩ := off_even t hc
  obtain ⟨c0, c1, c2, c3, c4, c5⟩ := off_v3 t
  obtain ⟨d0, d1, d2, d3, d4, d5⟩ := off_v4 t
  have hq := coord1 t
  unfold evenRun outPieces headOut keptAll
  dsimp only
  simp (disch := decide) only [evenRun.sl.H11_10, evenRun.sl.H11_11, evenRun.sl.H11_12, evenRun.sl.H11_6, evenRun.sl.H11_7, evenRun.sl.H11_8, evenRun.sl.H11_9, evenRun.sl.H8_6, evenRun.sl.H9_6, evenRun.sl.r_10, evenRun.sl.r_11, evenRun.sl.r_12, evenRun.sl.r_13, evenRun.sl.r_14, evenRun.sl.r_15, evenRun.sl.r_16, evenRun.sl.r_17, evenRun.sl.r_18, evenRun.sl.r_19, evenRun.sl.r_20, evenRun.sl.r_21, evenRun.sl.r_22, evenRun.sl.r_23, evenRun.sl.r_24, evenRun.sl.r_25, evenRun.sl.r_26, evenRun.sl.r_27, evenRun.sl.r_9, evenRun.sl.v127, evenRun.sl.v130, evenRun.sl.v133, evenRun.sl.v145, evenRun.sl.v148, evenRun.sl.v151, evenRun.sl.v163, evenRun.sl.v166, evenRun.sl.v169, evenRun.sl.v181, evenRun.sl.v184, evenRun.sl.v187, evenRun.sl.v199, evenRun.sl.v202, evenRun.sl.v205, evenRun.sl.v217, evenRun.sl.v220, evenRun.sl.v223, evenRun.sl.v231, evenRun.sl.v242, evenRun.sl.v253, evenRun.sl.v264, evenRun.sl.v275, evenRun.sl.v286, evenRun.sl.v302, evenRun.sl.v305, evenRun.sl.v307, evenRun.sl.v318, evenRun.sl.v321, evenRun.sl.v323, evenRun.sl.v334, evenRun.sl.v337, evenRun.sl.v339, evenRun.sl.v350, evenRun.sl.v353, evenRun.sl.v355, evenRun.sl.v366, evenRun.sl.v369, evenRun.sl.v371, evenRun.sl.v382, evenRun.sl.v385, evenRun.sl.v387, evenRun.sl.v398, evenRun.sl.v401, evenRun.sl.v421, evenRun.sl.v424, evenRun.sl.v444, evenRun.sl.v447, evenRun.sl.v467, evenRun.sl.v470, evenRun.sl.v490, evenRun.sl.v493, evenRun.sl.v513, evenRun.sl.v516, readCov_off arg8.view _ _ ![0, 0, 0, 0] S1x1x256x256.size _ (by decide) p0, readCov_off arg9.view _ _ ![0, 0, 0, 0] S1x1x1x256.size _ (by decide) q0, readCov_off arg8.view _ _ ![0, 1, 0, 0] S1x1x256x256.size _ (by decide) p1, readCov_off arg9.view _ _ ![0, 1, 0, 0] S1x1x1x256.size _ (by decide) q1, readCov_off arg8.view _ _ ![0, 2, 0, 0] S1x1x256x256.size _ (by decide) p2, readCov_off arg9.view _ _ ![0, 2, 0, 0] S1x1x1x256.size _ (by decide) q2, readCov_off arg8.view _ _ ![0, 3, 0, 0] S1x1x256x256.size _ (by decide) p3, readCov_off arg9.view _ _ ![0, 3, 0, 0] S1x1x1x256.size _ (by decide) q3, readCov_off arg8.view _ _ ![0, 4, 0, 0] S1x1x256x256.size _ (by decide) p4, readCov_off arg9.view _ _ ![0, 4, 0, 0] S1x1x1x256.size _ (by decide) q4, readCov_off arg8.view _ _ ![0, 5, 0, 0] S1x1x256x256.size _ (by decide) p5, readCov_off arg9.view _ _ ![0, 5, 0, 0] S1x1x1x256.size _ (by decide) q5, View.readCov_skip, View.readCov_cons_toLoadRect]
  simp (disch := exact rfl) only [fun n hn => (H n hn).lg' 0 ![0, 0, 0] rfl, fun n hn => (H n hn).lg' 1 ![1, 0, 0] rfl, fun n hn => (H n hn).lg' 2 ![2, 0, 0] rfl, fun n hn => (H n hn).lg' 3 ![3, 0, 0] rfl, fun n hn => (H n hn).lg' 4 ![4, 0, 0] rfl, fun n hn => (H n hn).lg' 5 ![5, 0, 0] rfl, fun n hn => (H n hn).m' 0 ![0, 0, 0] rfl, fun n hn => (H n hn).m' 1 ![1, 0, 0] rfl, fun n hn => (H n hn).m' 2 ![2, 0, 0] rfl, fun n hn => (H n hn).m' 3 ![3, 0, 0] rfl, fun n hn => (H n hn).m' 4 ![4, 0, 0] rfl, fun n hn => (H n hn).m' 5 ![5, 0, 0] rfl, fun n hn => (H n hn).acc' 0 ![0, 0, 0] rfl, fun n hn => (H n hn).acc' 1 ![1, 0, 0] rfl, fun n hn => (H n hn).acc' 2 ![2, 0, 0] rfl, fun n hn => (H n hn).acc' 3 ![3, 0, 0] rfl, fun n hn => (H n hn).acc' 4 ![4, 0, 0] rfl, fun n hn => (H n hn).acc' 5 ![5, 0, 0] rfl, fun n hn => (H n hn).p' 0 ![1, 0, 0, 0] rfl, fun n hn => (H n hn).p' 1 ![1, 1, 0, 0] rfl, fun n hn => (H n hn).p' 2 ![1, 2, 0, 0] rfl, fun n hn => (H n hn).p' 3 ![1, 3, 0, 0] rfl, fun n hn => (H n hn).p' 4 ![1, 4, 0, 0] rfl, fun n hn => (H n hn).p' 5 ![1, 5, 0, 0] rfl, fun n hn => (H n hn).al' 0 ![1, 0, 0, 0] rfl, fun n hn => (H n hn).al' 1 ![1, 1, 0, 0] rfl, fun n hn => (H n hn).al' 2 ![1, 2, 0, 0] rfl, fun n hn => (H n hn).al' 3 ![1, 3, 0, 0] rfl, fun n hn => (H n hn).al' 4 ![1, 4, 0, 0] rfl, fun n hn => (H n hn).al' 5 ![1, 5, 0, 0] rfl, load_v arg4 f4 _ 0 _ c0, load_v arg4 f4 _ 1 _ c1, load_v arg4 f4 _ 2 _ c2, load_v arg4 f4 _ 3 _ c3, load_v arg4 f4 _ 4 _ c4, load_v arg4 f4 _ 5 _ c5, load_v arg4 f4 _ 0 _ d0, load_v arg4 f4 _ 1 _ d1, load_v arg4 f4 _ 2 _ d2, load_v arg4 f4 _ 3 _ d3, load_v arg4 f4 _ 4 _ d4, load_v arg4 f4 _ 5 _ d5, Nat.min_self]
  simp only [hq]
  rfl

end Body

end Cert.Proof.MlaIdeal

end

end
-- ==== Proof.MlaIdeal.Frame.lean ====
/-
  The attention call's frame: every point leaves its result block at the closed form of what it stores, so the call
  ends with its arguments unchanged and its result at those blocks.
-/
module

public import proofs.«01_k».proof.Proof.MlaIdeal.ReadOdd
public import proofs.«01_k».proof.Proof.MlaIdeal.ReadEven
public import proofs.«01_k».proof.Proof.Gen.MlaIdeal.Frame
public import Idealize.ShloMosaic.Lib.Claim

@[expose] public section

set_option maxRecDepth 65536

noncomputable section

namespace Cert.Proof.MlaIdeal

open Cert.MlaIdeal Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Point

variable (c : Dev nD) (t : Fin cfg0.N)
  (arg2 : Memref sig .tc .vmem S6x256x256 .bf16) (harg2 : arg2.IsWhole)
  (arg3 : Memref sig .tc .vmem S1x2048x1536 .bf16) (harg3 : arg3.IsWhole)
  (arg4 : Memref sig .tc .vmem S6x8x144x256 .bf16) (harg4 : arg4.IsWhole)
  (arg5 : Memref sig .tc .vmem S1x256x768 .bf16) (harg5 : arg5.IsWhole)
  (arg6 : Memref sig .tc .vmem S6x256x256 .f32) (harg6 : arg6.IsWhole)
  (arg7 : Memref sig .tc .vmem S6x256x256 .f32) (harg7 : arg7.IsWhole)
  (arg8 : Memref sig .tc .vmem S2x6x256x256 .bf16) (harg8 : arg8.IsWhole)
  (arg9 : Memref sig .tc .vmem S2x6x1x256 .f32) (harg9 : arg9.IsWhole)
  (arg10 : Memref sig .tc .vmem S6x1x256 .f32) (harg10 : arg10.IsWhole)
  (arg11 : Memref sig .tc .vmem S6x144x256 .f32) (harg11 : arg11.IsWhole)

/-- One point of the grid, whichever case it is in. -/
theorem point_run
  (f2 : Buf (Elt F) (arg2.view.loc (c : Thread nD τ)))
  (f3 : Buf (Elt F) (arg3.view.loc (c : Thread nD τ)))
  (f4 : Buf (Elt F) (arg4.view.loc (c : Thread nD τ)))
  (f5 : Buf (Elt F) (arg5.view.loc (c : Thread nD τ)))
  (f6 : Buf (Elt F) (arg6.view.loc (c : Thread nD τ)))
  (f7 : Buf (Elt F) (arg7.view.loc (c : Thread nD τ)))
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ))) :
    iprop(heldAt c arg2 f2 ∗ heldAt c arg3 f3 ∗ heldAt c arg4 f4 ∗ heldAt c arg5 f5 ∗ heldAt c arg6 f6 ∗ heldAt c arg7 f7 ∗ heldAt c arg8 f8 ∗ heldAt c arg9 f9 ∗ heldAt c arg10 f10 ∗ heldAt c arg11 f11)
      ⊢ wp Idealize.ShloMosaic.frame (wpE (defs₀ (F := F)) 𝒱₀ (c : Thread nD τ) none) Set.univ
          (cc0_mla_attn (F := F) (grid0.coords t) arg2 harg2 arg3 harg3 arg4 harg4 arg5 harg5 arg6 harg6 arg7 harg7 arg8 harg8 arg9 harg9 arg10 harg10 arg11 harg11)
          (fun _ => iprop(heldAt c arg2 f2 ∗ heldAt c arg3 f3 ∗ heldAt c arg4 f4 ∗ heldAt c arg5 (arg5.view.writes (Elt F) f5 (outPieces (arg2.view.read (Elt F) f2) (arg3.view.read (Elt F) f3) (arg4.view.read (Elt F) f4) (t.val % 8))) ∗ (∃ g, heldAt c arg6 g) ∗ (∃ g, heldAt c arg7 g) ∗ (∃ g, heldAt c arg8 g) ∗ (∃ g, heldAt c arg9 g) ∗ (∃ g, heldAt c arg10 g) ∗ (∃ g, heldAt c arg11 g))) := by
  by_cases hc : k0_cond1 (grid0.coords t) = 1#1
  · rw [← even_pieces c t arg2 harg2 arg3 harg3 arg4 harg4 arg5 harg5 arg6 harg6 arg7 harg7 arg8 harg8 arg9 harg9 arg10 harg10 arg11 harg11 f2 f3 f4 f5 f6 f7 f8 f9 f10 f11 hc]
    exact (evenRun c t arg2 harg2 arg3 harg3 arg4 harg4 arg5 harg5 arg6 harg6 arg7 harg7 arg8 harg8 arg9 harg9 arg10 harg10 arg11 harg11 hc f2 f3 f4 f5 f6 f7 f8 f9 f10 f11).2
  · rw [← odd_pieces c t arg2 harg2 arg3 harg3 arg4 harg4 arg5 harg5 arg6 harg6 arg7 harg7 arg8 harg8 arg9 harg9 arg10 harg10 arg11 harg11 f2 f3 f4 f5 f6 f7 f8 f9 f10 f11 hc]
    exact (oddRun c t arg2 harg2 arg3 harg3 arg4 harg4 arg5 harg5 arg6 harg6 arg7 harg7 arg8 harg8 arg9 harg9 arg10 harg10 arg11 harg11 hc f2 f3 f4 f5 f6 f7 f8 f9 f10 f11).2

end Point

/-- The six stores cover the result block. -/
theorem out_cover (x0 : Vec F S6x256x256 .bf16) (x1 : Vec F S1x2048x1536 .bf16) (x2 : Vec F S6x8x144x256 .bf16) (n : ℕ)
    (y : S1x256x768.Idx) : ∃ p ∈ outPieces x0 x1 x2 n, y ∈ p.1.set :=
  View.cover_of_tiled (outPieces x0 x1 x2 n) S1x256x128.size (by rfl) y

/-- The result block of query block `n`. -/
def outBlock (x0 : Vec F S6x256x256 .bf16) (x1 : Vec F S1x2048x1536 .bf16) (x2 : Vec F S6x8x144x256 .bf16) (n : ℕ) :
    Vec F S1x256x768 .bf16 :=
  View.canon (outPieces x0 x1 x2 n)

/-- A buffer held at some contents is owned at what it reads. -/
theorem owns_of_held (c : Dev nD) {s : Shape} {e : EltTy} (M : Memref sig .tc .vmem s e) :
    iprop(∃ g, heldAt (F := F) c M g) ⊢ (iprop(∃ d, owns (c : Thread nD τ) M fullShare d) : sProp 𝕄) := by
  iintro ⟨%g, H⟩
  unfold owns
  iexists (M.view.read (Elt F) g); iexists g
  isplitr
  · ipureintro; rfl
  iexact H

variable (m : (ℓ : Loc nD τ sig) → Buf (Elt F) ℓ) (ρ : Dev nD → PrngReg)

/-- What the call leaves, window by window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t) (t.val % 8)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) (t.val % 8) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant: the scratch buffers at some contents, and the generator register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it gives back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 4000000 in
/-- The body at any point. -/
theorem point_body (c : Dev nD) (t : Fin cfg0.N) :
    pointPre m c t ⊢ wp Idealize.ShloMosaic.frame (wpE (defs₀ (F := F)) Variants.none c none) Set.univ (bodyAt0 t) (fun _ => pointPost m c t) := by
  unfold pointPre pointPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, inv_eq]
  generalize iblk m c 0 t = x0
  generalize iblk m c 1 t = x1
  generalize iblk m c 2 t = x2
  unfold owns
  iintro ⟨⟨⟨⟨%s0, %g0, %_, S0⟩, ⟨%s1, %g1, %_, S1⟩, ⟨%s2, %g2, %_, S2⟩, ⟨%s3, %g3, %_, S3⟩, ⟨%s4, %g4, %_, S4⟩, ⟨%s5, %g5, %_, S5⟩⟩, Hg⟩, Ho, ⟨%d0, %e0, %h0, H0⟩, ⟨%d1, %e1, %h1, H1⟩, ⟨%d2, %e2, %h2, H2⟩, ⟨%d3, %e3, %_, H3⟩⟩
  subst h0 h1 h2
  iapply (wp_wand_r Idealize.ShloMosaic.frame (wpE (defs₀ (F := F)) Variants.none c none) Set.univ)
  isplitl [S0 S1 S2 S3 S4 S5 H0 H1 H2 H3]
  · iapply (point_run c t _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) e0 e1 e2 e3 g0 g1 g2 g3 g4 g5)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    iexact S5
  iintro %_ ⟨H0, H1, H2, H3, ⟨%g6, S0⟩, ⟨%g7, S1⟩, ⟨%g8, S2⟩, ⟨%g9, S3⟩, ⟨%g10, S4⟩, ⟨%g11, S5⟩⟩
  isplitl [S0 S1 S2 S3 S4 S5 Hg]
  · isplitl [S0 S1 S2 S3 S4 S5]
    · isplitl [S0]; · iexists _; iexists g6; isplitr; (· ipureintro; rfl); iexact S0
      isplitl [S1]; · iexists _; iexists g7; isplitr; (· ipureintro; rfl); iexact S1
      isplitl [S2]; · iexists _; iexists g8; isplitr; (· ipureintro; rfl); iexact S2
      isplitl [S3]; · iexists _; iexists g9; isplitr; (· ipureintro; rfl); iexact S3
      isplitl [S4]; · iexists _; iexists g10; isplitr; (· ipureintro; rfl); iexact S4
      iexists _; iexists g11; isplitr; (· ipureintro; rfl); iexact S5
    iexact Hg
  isplitl [Ho]; · iexact Ho
  isplitl [H0]; · iexists e0; isplitr; (· ipureintro; rfl); iexact H0
  isplitl [H1]; · iexists e1; isplitr; (· ipureintro; rfl); iexact H1
  isplitl [H2]; · iexists e2; isplitr; (· ipureintro; rfl); iexact H2
  iexists _; isplitr; swap
  · iexact H3
  ipureintro
  exact View.read_writes_eq_canon _ _ _ (out_cover _ _ _ _)

/-- The body table's row at point `t`'s slots. -/
theorem row_eq (t : Fin cfg0.N) :
    defs₀ (F := F) .tc cfg0.body (cfg0.bodyArgs t (cfg0.slots t)) = bodyAt0 t := by
  unfold defs₀; rw [Defs.onTc_tc]

/-- The library's obligation for the body. -/
theorem obligation (c : Dev nD) : BodyObligation (dats (F := F) m 0 c) (defs₀ (F := F)) Variants.none () Set.univ := fun t => by
  rw [bigSep_W0, bigSep_W0, row_eq]
  exact triple_restated (point_body m c t) rfl .rfl fun _ => .rfl

set_option backward.isDefEq.respectTransparency.types false in
set_option maxHeartbeats 800000 in
/-- The launch: every execution ends with the windows' arrays at the blocks' contents and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c w => by unfold Pipeline.Dat.share; split <;> rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_quiet m ρ)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.Proof.MlaIdeal

end

end
-- ==== Proof.MlaIdeal.Value.lean ====
/-
  The attention call at the extended reals: the array a run of `MlaIdeal` leaves is, element by element, the causal
  softmax-weighted sum of the values — each grid point's block read off its own blocks of the arguments, and the blocks
  tiling the array.
-/
module

public import proofs.«01_k».proof.Proof.MlaIdeal.Col
public import proofs.«01_k».proof.Proof.MlaIdeal.Frame

@[expose] public section

set_option maxRecDepth 16384

noncomputable section

namespace Cert.Proof.MlaIdeal

open Cert.MlaIdeal Cert.MlaIdeal.Gen
open Idealize.ShloMosaic Idealize.ShloMosaic.TcCoe Idealize.SL.Sem
open Idealize.ShloMosaic.Pipeline (Dat)

/-! ## The attention, element by element -/

/-- The logit of key `k` for query `s`, in batch `b` and head `h`. -/
def lgFull (a0 : S6x256x16384.Idx → EReal) (a1 : S8x2048x1536.Idx → EReal) (b : Fin 8) (h : Fin 6) (s k : Fin 2048) : EReal :=
  ∑ d : Fin 256, a1 (ix3 b k (⟨256 * h.val + d.val, by omega⟩ : Fin 1536)) * a0 (ix3 h d (⟨2048 * b.val + s.val, by omega⟩ : Fin 16384))

/-- Key `j` of chunk `c` (the last chunk past the end). -/
def keyOf (c : ℕ) (j : Fin 256) : Fin 2048 := ⟨256 * min c 7 + j.val, by omega⟩

/-- The attention of query `s` in batch `b` and head `h`, at feature `r`: over the eight chunks of keys. -/
def attnAt (a0 : S6x256x16384.Idx → EReal) (a1 : S8x2048x1536.Idx → EReal) (a2 : S6x64x144x256.Idx → EReal)
    (b : Fin 8) (h : Fin 6) (s : Fin 2048) (r : Fin 128) : EReal :=
  soft (fun c j => (lgFull a0 a1 b h s (keyOf c j)).toReal) (vis (s.val / 256) ⟨s.val % 256, by omega⟩)
    (fun c j => a2 (ix4 h (⟨8 * b.val + min c 7, by omega⟩ : Fin 64) (⟨r.val, by omega⟩ : Fin 144) j)) 8

/-- The whole array. -/
def attn (a0 : S6x256x16384.Idx → EReal) (a1 : S8x2048x1536.Idx → EReal) (a2 : S6x64x144x256.Idx → EReal) : S8x2048x768.Idx → EReal := fun i =>
  attnAt a0 a1 a2 (i 0) ⟨(i 2).val / 128, by have : (i 2).val < 768 := (i 2).isLt; omega⟩ (i 1) ⟨(i 2).val % 128, by omega⟩

/-- A logit of real queries and keys is real. -/
theorem lgFull_real (a0 : S6x256x16384.Idx → EReal) (a1 : S8x2048x1536.Idx → EReal) (hq : ∀ i, ∃ r : ℝ, a0 i = r)
    (hk : ∀ i, ∃ r : ℝ, a1 i = r) (b : Fin 8) (h : Fin 6) (s k : Fin 2048) :
    lgFull a0 a1 b h s k = (((lgFull a0 a1 b h s k).toReal : ℝ) : EReal) := by
  have e : ∃ r : ℝ, lgFull a0 a1 b h s k = r := by
    unfold lgFull
    refine sum_real _ _ fun d => ?_
    obtain ⟨x, hx⟩ := hk (ix3 b k (⟨256 * h.val + d.val, by omega⟩ : Fin 1536))
    obtain ⟨y, hy⟩ := hq (ix3 h d (⟨2048 * b.val + s.val, by omega⟩ : Fin 16384))
    exact ⟨x * y, by rw [hx, hy, EReal.coe_mul]⟩
  obtain ⟨r, hr⟩ := e
  rw [hr, EReal.toReal_coe]

/-! ## The blocks -/

variable (m : (ℓ : Loc nD τ sig) → Buf (Elt Ideal) ℓ) (ρ : Dev nD → PrngReg)

theorem q_index : ∀ t : Fin cfg0.N, win0_0.index t = ![0, 0, t.val] :=
  (by decide +kernel : ∀ t : Fin grid0.N, win0_0.index t = ![0, 0, t.val])
theorem k_index : ∀ t : Fin cfg0.N, win0_1.index t = ![t.val / 8, 0, 0] :=
  (by decide +kernel : ∀ t : Fin grid0.N, win0_1.index t = ![t.val / 8, 0, 0])
theorem v_index : ∀ t : Fin cfg0.N, win0_2.index t = ![0, t.val / 8, 0, 0] :=
  (by decide +kernel : ∀ t : Fin grid0.N, win0_2.index t = ![0, t.val / 8, 0, 0])
theorem o_index : ∀ t : Fin cfg0.N, win0_3.index t = ![t.val / 8, t.val % 8, 0] :=
  (by decide +kernel : ∀ t : Fin grid0.N, win0_3.index t = ![t.val / 8, t.val % 8, 0])

/-- A point's queries, read off the argument. -/
theorem q_block (c : Dev nD) (t : Fin cfg0.N) (j : S6x256x256.Idx) (q : S6x256x16384.Idx)
    (q0 : (q 0).val = (j 0).val) (q1 : (q 1).val = (j 1).val) (q2 : (q 2).val = t.val * 256 + (j 2).val) :
    iblk m c 0 t j = m ((c : Thread nD τ).loc main_arg0) q := by
  unfold iblk
  rw [View.read_apply]
  show m ((c : Thread nD τ).loc main_arg0) _ = _
  congr 1
  funext a
  apply Fin.ext
  match a with
  | ⟨0, _⟩ => show win0_0.index t 0 * 6 + 1 * (j 0).val = (q 0).val
              rw [q_index t, q0]; show 0 * 6 + 1 * (j 0).val = _; omega
  | ⟨1, _⟩ => show win0_0.index t 1 * 256 + 1 * (j 1).val = (q 1).val
              rw [q_index t, q1]; show 0 * 256 + 1 * (j 1).val = _; omega
  | ⟨2, _⟩ => show win0_0.index t 2 * 256 + 1 * (j 2).val = (q 2).val
              rw [q_index t, q2]; show t.val * 256 + 1 * (j 2).val = _; omega

/-- A point's keys, read off the argument. -/
theorem k_block (c : Dev nD) (t : Fin cfg0.N) (j : S1x2048x1536.Idx) (q : S8x2048x1536.Idx)
    (q0 : (q 0).val = t.val / 8) (q1 : (q 1).val = (j 1).val) (q2 : (q 2).val = (j 2).val) :
    iblk m c 1 t j = m ((c : Thread nD τ).loc main_arg1) q := by
  unfold iblk
  rw [View.read_apply]
  show m ((c : Thread nD τ).loc main_arg1) _ = _
  congr 1
  funext a
  apply Fin.ext
  have hj0 : (j 0).val < 1 := (j 0).isLt
  match a with
  | ⟨0, _⟩ => show win0_1.index t 0 * 1 + 1 * (j 0).val = (q 0).val
              rw [k_index t, q0]; show t.val / 8 * 1 + 1 * (j 0).val = _; omega
  | ⟨1, _⟩ => show win0_1.index t 1 * 2048 + 1 * (j 1).val = (q 1).val
              rw [k_index t, q1]; show 0 * 2048 + 1 * (j 1).val = _; omega
  | ⟨2, _⟩ => show win0_1.index t 2 * 1536 + 1 * (j 2).val = (q 2).val
              rw [k_index t, q2]; show 0 * 1536 + 1 * (j 2).val = _; omega

/-- A point's values, read off the argument. -/
theorem v_block (c : Dev nD) (t : Fin cfg0.N) (j : S6x8x144x256.Idx) (q : S6x64x144x256.Idx)
    (q0 : (q 0).val = (j 0).val) (q1 : (q 1).val = t.val / 8 * 8 + (j 1).val) (q2 : (q 2).val = (j 2).val) (q3 : (q 3).val = (j 3).val) :
    iblk m c 2 t j = m ((c : Thread nD τ).loc main_arg2) q := by
  unfold iblk
  rw [View.read_apply]
  show m ((c : Thread nD τ).loc main_arg2) _ = _
  congr 1
  funext a
  apply Fin.ext
  match a with
  | ⟨0, _⟩ => show win0_2.index t 0 * 6 + 1 * (j 0).val = (q 0).val
              rw [v_index t, q0]; show 0 * 6 + 1 * (j 0).val = _; omega
  | ⟨1, _⟩ => show win0_2.index t 1 * 8 + 1 * (j 1).val = (q 1).val
              rw [v_index t, q1]; show t.val / 8 * 8 + 1 * (j 1).val = _; omega
  | ⟨2, _⟩ => show win0_2.index t 2 * 144 + 1 * (j 2).val = (q 2).val
              rw [v_index t, q2]; show 0 * 144 + 1 * (j 2).val = _; omega
  | ⟨3, _⟩ => show win0_2.index t 3 * 256 + 1 * (j 3).val = (q 3).val
              rw [v_index t, q3]; show 0 * 256 + 1 * (j 3).val = _; omega

/-- The result block of the heads' results: head `y 2 / 128` at the query and the feature. -/
def heads (x0 : Vec Ideal S6x256x256 .bf16) (x1 : Vec Ideal S1x2048x1536 .bf16) (x2 : Vec Ideal S6x8x144x256 .bf16) (n : ℕ)
    (y : S1x256x768.Idx) : EReal :=
  headOut x0 x1 x2 n ⟨(y 2).val / 128, by have : (y 2).val < 768 := (y 2).isLt; omega⟩
    (ix3 (0 : Fin 1) (⟨(y 1).val, (y 1).isLt⟩ : Fin 256) (⟨(y 2).val % 128, by omega⟩ : Fin 128))

/-- Head `h`'s store is those columns. -/
theorem heads_piece (x0 : Vec Ideal S6x256x256 .bf16) (x1 : Vec Ideal S1x2048x1536 .bf16) (x2 : Vec Ideal S6x8x144x256 .bf16) (n : ℕ)
    (h : Fin 6) (off : Fin 3 → ℕ) (he : off = ![0, 0, 128 * h.val]) (inb : ∀ a, off a + S1x256x128.size a ≤ S1x256x768.size a) (x : S1x256x128.Idx) :
    headOut x0 x1 x2 n h x = heads x0 x1 x2 n ((Rect.unit (s := S1x256x768) off S1x256x128.size inb).emb x) := by
  subst he
  have hx0 : (x 0).val < 1 := (x 0).isLt
  have hx1 : (x 1).val < 256 := (x 1).isLt
  have hx2 : (x 2).val < 128 := (x 2).isLt
  have key : ∀ (h' : Fin 6) (j : S1x256x128.Idx), h' = h → j = x → headOut x0 x1 x2 n h x = headOut x0 x1 x2 n h' j := by
    rintro _ _ rfl rfl; rfl
  have e1 : (((Rect.unit (s := S1x256x768) ![0, 0, 128 * h.val] S1x256x128.size inb).emb x) 1).val = (x 1).val := by
    show 0 + 1 * (x 1).val = _; omega
  have e2 : (((Rect.unit (s := S1x256x768) ![0, 0, 128 * h.val] S1x256x128.size inb).emb x) 2).val = 128 * h.val + (x 2).val := by
    show 128 * h.val + 1 * (x 2).val = _; omega
  unfold heads
  refine key _ _ (Fin.ext ?_) (funext fun a => Fin.ext ?_)
  · show (((Rect.unit (s := S1x256x768) ![0, 0, 128 * h.val] S1x256x128.size inb).emb x) 2).val / 128 = h.val
    rw [e2]; omega
  · match a with
    | ⟨0, _⟩ => show 0 = (x 0).val; omega
    | ⟨1, _⟩ => exact e1
    | ⟨2, _⟩ =>
      show (((Rect.unit (s := S1x256x768) ![0, 0, 128 * h.val] S1x256x128.size inb).emb x) 2).val % 128 = (x 2).val
      rw [e2]; omega

/-- The result block, element by element. -/
theorem outBlock_apply (x0 : Vec Ideal S6x256x256 .bf16) (x1 : Vec Ideal S1x2048x1536 .bf16) (x2 : Vec Ideal S6x8x144x256 .bf16) (n : ℕ)
    (y : S1x256x768.Idx) : outBlock x0 x1 x2 n y = heads x0 x1 x2 n y := by
  unfold outBlock
  refine View.canon_apply_of_pieces (heads x0 x1 x2 n) (outPieces x0 x1 x2 n) ?_ y (out_cover x0 x1 x2 n y)
  intro p hp
  simp only [outPieces, List.mem_cons, List.not_mem_nil, or_false] at hp
  rcases hp with rfl | rfl | rfl | rfl | rfl | rfl
  · exact heads_piece x0 x1 x2 n 5 _ rfl (by decide)
  · exact heads_piece x0 x1 x2 n 4 _ rfl (by decide)
  · exact heads_piece x0 x1 x2 n 3 _ rfl (by decide)
  · exact heads_piece x0 x1 x2 n 2 _ rfl (by decide)
  · exact heads_piece x0 x1 x2 n 1 _ rfl (by decide)
  · exact heads_piece x0 x1 x2 n 0 _ rfl (by decide)

/-! ## The array -/

/-- The result array as named by the attention of the three arguments. -/
def out (c : Dev nD) : Buf (Elt Ideal) ((c : Thread nD τ).loc main_v0) :=
  attn (m ((c : Thread nD τ).loc main_arg0)) (m ((c : Thread nD τ).loc main_arg1)) (m ((c : Thread nD τ).loc main_arg2))

/-- What is asked of the arguments: queries and keys are real, and the values' rows from 128 on are ones. -/
def Real3 (a0 : S6x256x16384.Idx → EReal) (a1 : S8x2048x1536.Idx → EReal) (a2 : S6x64x144x256.Idx → EReal) : Prop :=
  (∀ i, ∃ r : ℝ, a0 i = r) ∧ (∀ i, ∃ r : ℝ, a1 i = r) ∧ ∀ (h : Fin 6) (b : Fin 64) (j : Fin 256), a2 (ix4 h b (128 : Fin 144) j) = 1

section

variable (c : Dev nD)
  (hpre : Real3 (m ((c : Thread nD τ).loc main_arg0)) (m ((c : Thread nD τ).loc main_arg1)) (m ((c : Thread nD τ).loc main_arg2)))

include hpre in
/-- A head's result at a point is the attention of the point's batch and query block. -/
theorem head_attn (t : Fin cfg0.N) (b : Fin 8) (hb : b.val = t.val / 8) (h : Fin 6) (s : Fin 256) (s' : Fin 2048)
    (hs : s'.val = t.val % 8 * 256 + s.val) (r : Fin 128) :
    headOut (iblk m c 0 t) (iblk m c 1 t) (iblk m c 2 t) (t.val % 8) h (ix3 (0 : Fin 1) s r)
      = attnAt (m ((c : Thread nD τ).loc main_arg0)) (m ((c : Thread nD τ).loc main_arg1)) (m ((c : Thread nD τ).loc main_arg2)) b h s' r := by
  have hN : cfg0.N = 64 := N_0
  have ht := t.isLt
  have hs8 : t.val % 8 * 256 + s.val < 2048 := by omega
  obtain rfl : s' = ⟨t.val % 8 * 256 + s.val, hs8⟩ := Fin.ext hs
  obtain ⟨hq, hk, hv⟩ := hpre
  have hval : ∀ ch r j, vCol (iblk m c 2 t) h ch r j
      = m ((c : Thread nD τ).loc main_arg2) (ix4 h (⟨8 * b.val + min ch 7, by omega⟩ : Fin 64) r j) := fun ch r j => by
    refine v_block m c t _ _ rfl ?_ rfl rfl
    show 8 * b.val + min ch 7 = t.val / 8 * 8 + min ch 7
    omega
  have hlg : ∀ (ch : ℕ) (j u : Fin 256) (u' : Fin 2048), u'.val = t.val % 8 * 256 + u.val → lgAt (iblk m c 0 t) (iblk m c 1 t) h ch (ix3 (0 : Fin 1) j u)
      = lgFull (m ((c : Thread nD τ).loc main_arg0)) (m ((c : Thread nD τ).loc main_arg1)) b h u' (keyOf ch j) := fun ch j u u' hu => by
    unfold lgAt
    rw [lgOf_apply]
    unfold lgFull
    refine Finset.sum_congr rfl fun d _ => ?_
    congr 1
    · exact k_block m c t _ _ hb rfl rfl
    · refine q_block m c t _ _ rfl rfl ?_
      show 2048 * b.val + u'.val = t.val * 256 + u.val
      omega
  have hL : ∀ ch, ch ≤ t.val % 8 → ∀ j u : Fin 256, lgAt (iblk m c 0 t) (iblk m c 1 t) h ch (ix3 (0 : Fin 1) j u)
      = (((lgFull (m ((c : Thread nD τ).loc main_arg0)) (m ((c : Thread nD τ).loc main_arg1)) b h
        ⟨t.val % 8 * 256 + u.val, by omega⟩ (keyOf ch j)).toReal : ℝ) : EReal) := fun ch _ j u => by
    rw [hlg ch j u ⟨t.val % 8 * 256 + u.val, by omega⟩ rfl]
    exact lgFull_real _ _ hq hk _ _ _ _
  rw [headOut_apply (iblk m c 0 t) (iblk m c 1 t) (iblk m c 2 t) (t.val % 8) (by omega) h _ hL
    (fun ch _ j => (hval ch 128 j).trans (hv _ _ _)) s r]
  unfold attnAt
  have e1 : (t.val % 8 * 256 + s.val) / 256 = t.val % 8 := by omega
  have e2 : (⟨(t.val % 8 * 256 + s.val) % 256, by omega⟩ : Fin 256) = s := Fin.ext (show (t.val % 8 * 256 + s.val) % 256 = s.val by omega)
  simp only [e1, e2, hval]

include hpre in
/-- What a point writes back is its block of the attention. -/
theorem flushed_out (t : Fin cfg0.N) :
    (dats m 0 c).flushed 3 t = ((cfg0.win 3).blk t).view.read (Elt Ideal) (out m c) := by
  have hN : cfg0.N = 64 := N_0
  have ht := t.isLt
  show (cfg0.win 3).cut (grid0.coords t) ((dats m 0 c).after 3 t) = _
  rw [after0_3]
  funext y
  rw [View.read_apply]
  show outBlock (iblk m c 0 t) (iblk m c 1 t) (iblk m c 2 t) (t.val % 8) ((cfg0.win 3).xinj (grid0.coords t) y) = _
  rw [outBlock_apply]
  have hy0 : (y 0).val < 1 := (y 0).isLt
  have hy1 : (y 1).val < 256 := (y 1).isLt
  have hy2 : (y 2).val < 768 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 256 + 1 * (y 1).val := rfl
  have hb2 : (((cfg0.win 3).blk t).view.emb y 2).val = win0_3.index t (2 : Fin 3) * 768 + 1 * (y 2).val := rfl
  rw [o_index t] at hb0 hb1 hb2
  have hb0' : (((cfg0.win 3).blk t).view.emb y 0).val = t.val / 8 * 1 + 1 * (y 0).val := hb0
  have hb1' : (((cfg0.win 3).blk t).view.emb y 1).val = t.val % 8 * 256 + 1 * (y 1).val := hb1
  have hb2' : (((cfg0.win 3).blk t).view.emb y 2).val = 0 * 768 + 1 * (y 2).val := hb2
  have hz : (((cfg0.win 3).blk t).view.emb y 2).val = (y 2).val := by omega
  show _ = attnAt _ _ _ (((cfg0.win 3).blk t).view.emb y 0) ⟨(((cfg0.win 3).blk t).view.emb y 2).val / 128, _⟩
    (((cfg0.win 3).blk t).view.emb y 1) ⟨(((cfg0.win 3).blk t).view.emb y 2).val % 128, _⟩
  simp only [hz]
  refine head_attn m c hpre t _ ?_ _ _ _ ?_ _
  · rw [hb0']; omega
  · rw [hb1']; show _ = t.val % 8 * 256 + (y 1).val; omega

theorem mem_blk (t : Fin cfg0.N) (i : S8x2048x768.Idx) :
    i ∈ ((cfg0.win 3).blk t).view.set ↔ ∀ a : Fin 3, win0_3.index t a * S1x256x768.size a ≤ (i a).val ∧ (i a).val < win0_3.index t a * S1x256x768.size a + S1x256x768.size a := by
  show i ∈ ((View.whole main_v0).slice (win0_3.rect t)).set ↔ _
  rw [View.set_slice_whole, Rect.mem_set_unit]
  exact Iff.rfl

theorem flushes : ∀ t : Fin cfg0.N, (cfg0.win 3).flush t = true := (by decide +kernel : ∀ t : Fin grid0.N, win0_3.flush t = true)

theorem covered (i : S8x2048x768.Idx) : ∃ t : Fin cfg0.N, (cfg0.win 3).flush t = true ∧ i ∈ ((cfg0.win 3).blk t).view.set := by
  have hN : cfg0.N = 64 := N_0
  have h0 : (i 0).val < 8 := (i 0).isLt
  have h1 : (i 1).val < 2048 := (i 1).isLt
  have h2 : (i 2).val < 768 := (i 2).isLt
  refine ⟨⟨8 * (i 0).val + (i 1).val / 256, by omega⟩, flushes _, ?_⟩
  rw [mem_blk, o_index]
  have e1 : (8 * (i 0).val + (i 1).val / 256) / 8 = (i 0).val := by omega
  have e2 : (8 * (i 0).val + (i 1).val / 256) % 8 = (i 1).val / 256 := by omega
  intro a
  match a with
  | ⟨0, _⟩ => show (8 * (i 0).val + (i 1).val / 256) / 8 * 1 ≤ (i 0).val ∧ (i 0).val < (8 * (i 0).val + (i 1).val / 256) / 8 * 1 + 1; omega
  | ⟨1, _⟩ => show (8 * (i 0).val + (i 1).val / 256) % 8 * 256 ≤ (i 1).val ∧ (i 1).val < (8 * (i 0).val + (i 1).val / 256) % 8 * 256 + 256; omega
  | ⟨2, _⟩ => show 0 * 768 ≤ (i 2).val ∧ (i 2).val < 0 * 768 + 768; omega

include hpre in
/-- The array the run leaves. -/
theorem final_out : (dats m 0 c).arrAt 3 cfg0.N = out m c :=
  (dats m 0 c).arrAt_eq_of_cover 3 _ (fun t _ => flushed_out m c hpre t) (fun i => covered i)

end

/-- The run: the result array is the attention of the arguments, which are left as they were. -/
theorem run (hpre : ∀ c : Dev nD, Real3 (m ((c : Thread nD τ).loc main_arg0)) (m ((c : Thread nD τ).loc main_arg1)) (m ((c : Thread nD τ).loc main_arg2))) :
    θ_run defs (onTc (τ := τ) (main (F := Ideal))) ⟨m, fun _ => 0, ρ⟩ (fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h c).1 3).trans (final_out m c (hpre c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Proof.MlaIdeal

end

end
-- ==== Proof.MlaIdeal.RefRead.lean ====
/-
  The attention's reference read at an index: queries, keys and values after their reshapes, the logits, the constant
  `log 2`, the causal mask, and the masked logits.
-/
module

public import proofs.«01_k».proof.Proof.MlaIdeal.Value
public import proofs.«01_k».proof.Proof.Gen.MlaRefIdeal.Read
public import Idealize.ShloMosaic.Lib.WordCmp
public import Idealize.ShloMosaic.Lib.Affine

@[expose] public section

set_option maxRecDepth 16384

noncomputable section

namespace Cert.Proof.MlaIdeal

open Cert.MlaRefIdeal Cert.MlaRefIdeal.Gen Cert.MlaRefIdeal.Read
open Idealize.ShloMosaic

variable (x0 : S6x256x16384.Idx → EReal) (x1 : S8x2048x1536.Idx → EReal) (x2 : S6x64x144x256.Idx → EReal)

theorem q_read (i : S6x256x8x2048.Idx) :
    val_main_v1 (F := Ideal) x0 i = x0 (ix3 (i 0) (i 1) (⟨2048 * (i 2).val + (i 3).val, by
      have h2 : (i 2).val < 8 := (i 2).isLt; have h3 : (i 3).val < 2048 := (i 3).isLt; omega⟩ : Fin 16384)) := by
  have h0 : (i 0).val < 6 := (i 0).isLt
  have h1 : (i 1).val < 256 := (i 1).isLt
  have h2 : (i 2).val < 8 := (i 2).isLt
  have h3 : (i 3).val < 2048 := (i 3).isLt
  rw [val_main_v1_apply]
  show x0 (idx_main_v1 i) = _
  congr 1
  funext a
  refine Fin.ext ?_
  match a with
  | ⟨0, _⟩ => show ((((i 0).val * 256 + (i 1).val) * 8 + (i 2).val) * 2048 + (i 3).val) / 4194304 = (i 0).val; omega
  | ⟨1, _⟩ => show ((((i 0).val * 256 + (i 1).val) * 8 + (i 2).val) * 2048 + (i 3).val) / 16384 % 256 = (i 1).val; omega
  | ⟨2, _⟩ => show ((((i 0).val * 256 + (i 1).val) * 8 + (i 2).val) * 2048 + (i 3).val) % 16384 = 2048 * (i 2).val + (i 3).val; omega

theorem k_read (i : S8x2048x6x256.Idx) :
    val_main_v3 (F := Ideal) x1 i = x1 (ix3 (i 0) (i 1) (⟨256 * (i 2).val + (i 3).val, by
      have h2 : (i 2).val < 6 := (i 2).isLt; have h3 : (i 3).val < 256 := (i 3).isLt; omega⟩ : Fin 1536)) := by
  have h0 : (i 0).val < 8 := (i 0).isLt
  have h1 : (i 1).val < 2048 := (i 1).isLt
  have h2 : (i 2).val < 6 := (i 2).isLt
  have h3 : (i 3).val < 256 := (i 3).isLt
  rw [val_main_v3_apply]
  show x1 (idx_main_v3 i) = _
  congr 1
  funext a
  refine Fin.ext ?_
  match a with
  | ⟨0, _⟩ => show ((((i 0).val * 2048 + (i 1).val) * 6 + (i 2).val) * 256 + (i 3).val) / 3145728 = (i 0).val; omega
  | ⟨1, _⟩ => show ((((i 0).val * 2048 + (i 1).val) * 6 + (i 2).val) * 256 + (i 3).val) / 1536 % 2048 = (i 1).val; omega
  | ⟨2, _⟩ => show ((((i 0).val * 2048 + (i 1).val) * 6 + (i 2).val) * 256 + (i 3).val) % 1536 = 256 * (i 2).val + (i 3).val; omega

/-- The values by head, batch, block, feature and key. -/
theorem v6_read (i : S6x8x8x128x256.Idx) :
    val_main_v6 (F := Ideal) x2 i = x2 (ix4 (i 0) (⟨8 * (i 1).val + (i 2).val, by
      have h1 : (i 1).val < 8 := (i 1).isLt; have h2 : (i 2).val < 8 := (i 2).isLt; omega⟩ : Fin 64)
      (⟨(i 3).val, by have h3 : (i 3).val < 128 := (i 3).isLt; omega⟩ : Fin 144) (i 4)) := by
  have h0 : (i 0).val < 6 := (i 0).isLt
  have h1 : (i 1).val < 8 := (i 1).isLt
  have h2 : (i 2).val < 8 := (i 2).isLt
  have h3 : (i 3).val < 128 := (i 3).isLt
  have h4 : (i 4).val < 256 := (i 4).isLt
  rw [val_main_v6_apply, val_main_v5_apply]
  show x2 (idx_main_v5 (idx_main_v6 i)) = _
  congr 1
  funext a
  refine Fin.ext ?_
  match a with
  | ⟨0, _⟩ => show (((((i 0).val * 8 + (i 1).val) * 8 + (i 2).val) * 128 + (i 3).val) * 256 + (i 4).val) / 2097152 = (i 0).val; omega
  | ⟨1, _⟩ => show (((((i 0).val * 8 + (i 1).val) * 8 + (i 2).val) * 128 + (i 3).val) * 256 + (i 4).val) / 32768 % 64 = 8 * (i 1).val + (i 2).val; omega
  | ⟨2, _⟩ => show (((((i 0).val * 8 + (i 1).val) * 8 + (i 2).val) * 128 + (i 3).val) * 256 + (i 4).val) / 256 % 128 = (i 3).val; omega
  | ⟨3, _⟩ => show (((((i 0).val * 8 + (i 1).val) * 8 + (i 2).val) * 128 + (i 3).val) * 256 + (i 4).val) % 256 = (i 4).val; omega

theorem v_read (i : S6x8x2048x128.Idx) :
    val_main_v8 (F := Ideal) x2 i = x2 (ix4 (i 0) (⟨8 * (i 1).val + (i 2).val / 256, by
      have h1 : (i 1).val < 8 := (i 1).isLt; have h2 : (i 2).val < 2048 := (i 2).isLt; omega⟩ : Fin 64)
      (⟨(i 3).val, by have h3 : (i 3).val < 128 := (i 3).isLt; omega⟩ : Fin 144)
      (⟨(i 2).val % 256, by omega⟩ : Fin 256)) := by
  have h0 : (i 0).val < 6 := (i 0).isLt
  have h1 : (i 1).val < 8 := (i 1).isLt
  have h2 : (i 2).val < 2048 := (i 2).isLt
  have h3 : (i 3).val < 128 := (i 3).isLt
  rw [val_main_v8_apply, val_main_v7_apply, v6_read]
  congr 1
  funext a
  refine Fin.ext ?_
  match a with
  | ⟨0, _⟩ => show ((((i 0).val * 8 + (i 1).val) * 2048 + (i 2).val) * 128 + (i 3).val) / 2097152 = (i 0).val; omega
  | ⟨1, _⟩ => show 8 * (((((i 0).val * 8 + (i 1).val) * 2048 + (i 2).val) * 128 + (i 3).val) / 262144 % 8) + ((((i 0).val * 8 + (i 1).val) * 2048 + (i 2).val) * 128 + (i 3).val) / 32768 % 8 = 8 * (i 1).val + (i 2).val / 256; omega
  | ⟨2, _⟩ => show ((((i 0).val * 8 + (i 1).val) * 2048 + (i 2).val) * 128 + (i 3).val) % 128 = (i 3).val; omega
  | ⟨3, _⟩ => show ((((i 0).val * 8 + (i 1).val) * 2048 + (i 2).val) * 128 + (i 3).val) / 128 % 256 = (i 2).val % 256; omega

/-- A logit is the kernel's. -/
theorem lg_read (b : Fin 8) (h : Fin 6) (s k : Fin 2048) :
    val_main_v9 (F := Ideal) x0 x1 (ix4 b h s k) = lgFull x0 x1 b h s k := by
  rw [val_main_v9_apply]
  unfold lgFull
  refine Finset.sum_congr rfl fun d _ => ?_
  rw [q_read, k_read, mul_comm]
  rfl

/-- The constant the logits are scaled by. -/
theorem ln2_read (i : S8x6x2048x2048.Idx) : val_main_v11 (F := Ideal) i = ((Real.log 2 : ℝ) : EReal) := by
  have h2 : Ideal.ofBits .f32 0x40000000#32 = ((2 : ℝ) : EReal) := by
    simp [Ideal.ofBits, Ideal.ieee, -EReal.coe_mul]
    norm_num
  rw [val_main_v11_apply, val_main_v10_apply, val_main_cst_apply]
  show Ideal.log (Ideal.ofBits .f32 0x40000000#32) = _
  rw [h2]
  show (if (2 : ℝ) ≤ 0 then (⊥ : EReal) else ((Real.log 2 : ℝ) : EReal)) = _
  rw [if_neg (by norm_num)]

/-- A key is kept when it does not come after the query. -/
theorem mask_read (b : Fin 8) (h : Fin 6) (s k : Fin 2048) :
    val_main_call0_v1 (F := Ideal) (ix4 b h s k) = 1#1 ↔ k ≤ s := by
  have hs := s.isLt
  have hk := k.isLt
  rw [val_main_call0_v1_apply, val_main_v19_apply, val_main_v18_apply, val_main_v16_apply, val_main_v17_apply, val_main_v14_apply,
    val_main_v15_apply, val_main_v13_apply, val_main_v13_apply]
  show IntOp.cmpi .sle (BitVec.ofNat 32 k.val) (BitVec.ofNat 32 s.val) = 1#1 ↔ _
  rw [IntOp.cmpi_sle, WordCmp.toInt_ofNat_of_lt (by omega), WordCmp.toInt_ofNat_of_lt (by omega), Fin.le_def]
  exact Int.ofNat_le

/-- A masked logit. -/
theorem masked_read (hq : ∀ i, ∃ r : ℝ, x0 i = r) (hk : ∀ i, ∃ r : ℝ, x1 i = r) (b : Fin 8) (h : Fin 6) (s k : Fin 2048) :
    val_main_v20 (F := Ideal) x0 x1 (ix4 b h s k)
      = if k ≤ s then (((lgFull x0 x1 b h s k).toReal * Real.log 2 : ℝ) : EReal) else ⊥ := by
  rw [val_main_v20_apply]
  unfold Scalar.select
  have e1 : val_main_v12 (F := Ideal) x0 x1 (ix4 b h s k) = (((lgFull x0 x1 b h s k).toReal * Real.log 2 : ℝ) : EReal) := by
    rw [val_main_v12_apply]
    show val_main_v9 (F := Ideal) x0 x1 (ix4 b h s k) * val_main_v11 (F := Ideal) (ix4 b h s k) = _
    rw [lg_read, ln2_read, lgFull_real x0 x1 hq hk b h s k, EReal.toReal_coe, EReal.coe_mul]
  have e2 : val_main_call0_v2 (F := Ideal) (ix4 b h s k) = (⊥ : EReal) := by
    rw [val_main_call0_v2_apply]
    exact neg_inf
  rw [e1, e2]
  show (if val_main_call0_v1 (F := Ideal) (ix4 b h s k) = 1#1 then _ else _) = _
  by_cases hc : k ≤ s
  · rw [if_pos ((mask_read b h s k).2 hc), if_pos hc]
  · rw [if_neg (fun e => hc ((mask_read b h s k).1 e)), if_neg hc]

/-- A query's maximum is real: its own key is kept. -/
theorem max_read (hq : ∀ i, ∃ r : ℝ, x0 i = r) (hk : ∀ i, ∃ r : ℝ, x1 i = r) (b : Fin 8) (h : Fin 6) (s : Fin 2048) :
    ∃ M : ℝ, val_main_v21 (F := Ideal) x0 x1 (ix3 b h s) = (M : EReal) := by
  have hlt : ∀ i : S8x6x2048x2048.Idx, val_main_v20 (F := Ideal) x0 x1 i < (⊤ : EReal) := fun i => by
    have e : i = ix4 (i 0) (i 1) (i 2) (i 3) := funext fun a => Fin.ext (by match a with | ⟨0, _⟩ => rfl | ⟨1, _⟩ => rfl | ⟨2, _⟩ => rfl | ⟨3, _⟩ => rfl)
    rw [e]
    refine (masked_read x0 x1 hq hk _ _ _ _).trans_lt ?_
    split
    · exact EReal.coe_lt_top _
    · exact bot_lt_top
  unfold val_main_v21
  haveI : Std.Commutative (max : EReal → EReal → EReal) := ⟨max_comm⟩
  haveI : Std.Associative (max : EReal → EReal → EReal) := ⟨max_assoc⟩
  have hf := Host.reduce_eq_fold (max : EReal → EReal → EReal) (val_main_v20 (F := Ideal) x0 x1) (val_main_cst_1 (F := Ideal)) reducesTo_S8x6x2048x2048_S8x6x2048_d3 h_S_ (ix3 b h s)
  have hi : val_main_cst_1 (F := Ideal) (Shape.Idx.first h_S_) = (⊥ : EReal) := neg_inf
  rw [hi] at hf
  obtain ⟨M, hM⟩ := fold_max_real (Finset.univ.filter fun i => reducesTo_S8x6x2048x2048_S8x6x2048_d3.drop i = ix3 b h s) (val_main_v20 (F := Ideal) x0 x1) (fun i _ => hlt i) (ix4 b h s s)
    (Finset.mem_filter.2 ⟨Finset.mem_univ _, funext fun a => Fin.ext (by match a with | 0 => rfl | 1 => rfl | 2 => rfl)⟩)
    (by rw [masked_read x0 x1 hq hk, if_pos (le_refl _)]; exact EReal.bot_lt_coe _)
  exact ⟨M, hf.trans hM⟩

end Cert.Proof.MlaIdeal

end

end
-- ==== Proof.MlaIdeal.Ref.lean ====
/-
  The attention's reference is the attention: its exponentials are the powers of two the kernel takes, up to the factor
  its maximum is, which the quotient cancels; and its sums over 2048 keys are sums over eight chunks of 256.
-/
module

public import proofs.«01_k».proof.Proof.MlaIdeal.RefRead

@[expose] public section

set_option maxRecDepth 16384

noncomputable section

namespace Cert.Proof.MlaIdeal

open Cert.MlaRefIdeal Cert.MlaRefIdeal.Gen Cert.MlaRefIdeal.Read
open Idealize.ShloMosaic

/-- A sum over the keys is a sum over the chunks. -/
theorem sum_keys {A : Type} [AddCommMonoid A] (f : Fin 2048 → A) :
    ∑ k, f k = ∑ c ∈ Finset.range 8, ∑ j : Fin 256, f (keyOf c j) := by
  rw [Finset.sum_range, ← Fintype.sum_prod_type' (f := fun (c : Fin 8) (j : Fin 256) => f (keyOf c.val j))]
  refine (Fintype.sum_equiv (finProdFinEquiv (m := 8) (n := 256)) _ _ fun p => ?_).symm
  congr 1
  refine Fin.ext ?_
  have h1 := p.1.isLt
  show 256 * min p.1.val 7 + p.2.val = p.2.val + 256 * p.1.val
  omega

/-- A query's exponentials before the shift by the maximum. -/
def expo (L : Fin 2048 → ℝ) (s k : Fin 2048) : ℝ := if k ≤ s then Real.exp (L k * Real.log 2) else 0

/-- They are the weights of the chunked softmax. -/
theorem expo_eq (L : Fin 2048 → ℝ) (s : Fin 2048) (c : ℕ) (hc : c < 8) (j : Fin 256) :
    expo L s (keyOf c j) = wt (fun c j => L (keyOf c j)) (vis (s.val / 256) ⟨s.val % 256, by omega⟩) 0 c j := by
  unfold expo wt
  have hiff : keyOf c j ≤ s ↔ vis (s.val / 256) ⟨s.val % 256, by omega⟩ c j := by
    show 256 * min c 7 + j.val ≤ s.val ↔ c < s.val / 256 ∨ (c = s.val / 256 ∧ j.val ≤ s.val % 256)
    have := j.isLt
    omega
  by_cases h : keyOf c j ≤ s
  · rw [if_pos h, if_pos (hiff.1 h), sub_zero]
    show _ = (2 : ℝ) ^ (L (keyOf c j))
    rw [Real.rpow_def_of_pos (by norm_num), mul_comm]
  · rw [if_neg h, if_neg (fun e => h (hiff.2 e))]

theorem expo_sum (L : Fin 2048 → ℝ) (s : Fin 2048) :
    ∑ k, expo L s k = wtot (fun c j => L (keyOf c j)) (vis (s.val / 256) ⟨s.val % 256, by omega⟩) 0 8 := by
  rw [sum_keys]
  unfold wtot
  exact Finset.sum_congr rfl fun c hc => Finset.sum_congr rfl fun j _ => expo_eq L s c (Finset.mem_range.1 hc) j

theorem expo_pos (L : Fin 2048 → ℝ) (s : Fin 2048) : 0 < ∑ k, expo L s k := by
  refine Finset.sum_pos' (fun k _ => ?_) ⟨s, Finset.mem_univ _, ?_⟩
  · unfold expo
    split
    · exact (Real.exp_pos _).le
    · exact le_refl _
  · unfold expo
    rw [if_pos (le_refl _)]
    exact Real.exp_pos _

variable (x0 : S6x256x16384.Idx → EReal) (x1 : S8x2048x1536.Idx → EReal) (x2 : S6x64x144x256.Idx → EReal)

/-- A probability of the reference. -/
theorem prob_read (hq : ∀ i, ∃ r : ℝ, x0 i = r) (hk : ∀ i, ∃ r : ℝ, x1 i = r) (b : Fin 8) (h : Fin 6) (s k : Fin 2048) :
    val_main_v29 (F := Ideal) x0 x1 (ix4 b h s k)
      = ((expo (fun k => (lgFull x0 x1 b h s k).toReal) s k / ∑ k, expo (fun k => (lgFull x0 x1 b h s k).toReal) s k : ℝ) : EReal) := by
  obtain ⟨M, hM⟩ := max_read x0 x1 hq hk b h s
  have hm : ∀ k, val_main_v23 (F := Ideal) x0 x1 (ix4 b h s k) = (M : EReal) := fun k => by
    rw [val_main_v23_apply, val_main_v22_apply]
    refine Eq.trans (congrArg _ ?_) hM
    exact funext fun a => Fin.ext (by match a with | 0 => rfl | 1 => rfl | 2 => rfl)
  have he : ∀ k, val_main_v25 (F := Ideal) x0 x1 (ix4 b h s k)
      = ((expo (fun k => (lgFull x0 x1 b h s k).toReal) s k * Real.exp (-M) : ℝ) : EReal) := fun k => by
    rw [val_main_v25_apply, val_main_v24_apply]
    show Ideal.exp (val_main_v20 (F := Ideal) x0 x1 (ix4 b h s k) - val_main_v23 (F := Ideal) x0 x1 (ix4 b h s k)) = _
    rw [hm, masked_read x0 x1 hq hk]
    unfold expo
    split
    · rw [← EReal.coe_sub]
      show ((Real.exp _ : ℝ) : EReal) = _
      rw [sub_eq_add_neg, Real.exp_add]
    · rw [EReal.bot_sub, zero_mul]
      rfl
  have ht : val_main_v28 (F := Ideal) x0 x1 (ix4 b h s k)
      = (((∑ k, expo (fun k => (lgFull x0 x1 b h s k).toReal) s k) * Real.exp (-M) : ℝ) : EReal) := by
    rw [val_main_v28_apply, val_main_v27_apply, val_main_v26_apply]
    have h0 : val_main_cst_2 (F := Ideal) (Shape.Idx.first h_S_) = (0 : EReal) := Ideal.ofBits_zero .f32
    rw [h0, zero_add, Finset.sum_mul, ← sum_coe]
    refine Finset.sum_congr rfl fun k _ => ?_
    refine Eq.trans (congrArg _ ?_) (he k)
    exact funext fun a => Fin.ext (by match a with | 0 => rfl | 1 => rfl | 2 => rfl | 3 => rfl)
  rw [val_main_v29_apply]
  show Ideal.div (val_main_v25 (F := Ideal) x0 x1 (ix4 b h s k)) (val_main_v28 (F := Ideal) x0 x1 (ix4 b h s k)) = _
  rw [he, ht]
  have hp : 0 < (∑ k, expo (fun k => (lgFull x0 x1 b h s k).toReal) s k) * Real.exp (-M) := mul_pos (expo_pos _ _) (Real.exp_pos _)
  unfold Ideal.div
  rw [if_neg (fun e => hp.ne' (EReal.coe_eq_zero.mp e)), ← EReal.coe_inv, ← EReal.coe_mul, ← div_eq_mul_inv,
    mul_div_mul_right _ _ (Real.exp_pos (-M)).ne']

/-- A probability of the reference, its key counted by chunks. -/
theorem prob_chunk (hq : ∀ i, ∃ r : ℝ, x0 i = r) (hk : ∀ i, ∃ r : ℝ, x1 i = r) (b : Fin 8) (h : Fin 6) (s : Fin 2048) (c : ℕ) (hc : c < 8)
    (j : Fin 256) :
    val_main_v29 (F := Ideal) x0 x1 (ix4 b h s (keyOf c j))
      = ((wt (fun c j => (lgFull x0 x1 b h s (keyOf c j)).toReal) (vis (s.val / 256) ⟨s.val % 256, by omega⟩) 0 c j
        / wtot (fun c j => (lgFull x0 x1 b h s (keyOf c j)).toReal) (vis (s.val / 256) ⟨s.val % 256, by omega⟩) 0 8 : ℝ) : EReal) := by
  rw [prob_read x0 x1 hq hk, expo_sum, expo_eq _ _ c hc j]

/-- The reference's sum over the keys, at one element. -/
theorem sum_read (hq : ∀ i, ∃ r : ℝ, x0 i = r) (hk : ∀ i, ∃ r : ℝ, x1 i = r) (i : S8x6x128x2048.Idx) :
    val_main_v30 (F := Ideal) x0 x1 x2 i = attnAt x0 x1 x2 (i 0) (i 1) (i 3) (i 2) := by
  have h0 : (i 0).val < 8 := (i 0).isLt
  rw [val_main_v30_apply, sum_keys]
  unfold attnAt soft
  refine Finset.sum_congr rfl fun c hc => Finset.sum_congr rfl fun j _ => ?_
  have hc8 := Finset.mem_range.1 hc
  have hj := j.isLt
  rw [v_read]
  have er : ridx_main_v30 i (keyOf c j) = ix4 (i 0) (i 1) (i 3) (keyOf c j) :=
    funext fun a => Fin.ext (by match a with | 0 => rfl | 1 => rfl | 2 => rfl | 3 => rfl)
  rw [er]
  refine congrArg₂ (fun (x y : EReal) => x * y) ?_ ?_
  · congr 1
    funext a
    refine Fin.ext ?_
    match a with
    | 0 => rfl
    | 1 => show 8 * (i 0).val + (256 * min c 7 + j.val) / 256 = 8 * (i 0).val + min c 7; omega
    | 2 => rfl
    | 3 => show (256 * min c 7 + j.val) % 256 = j.val; omega
  · exact prob_chunk x0 x1 hq hk (i 0) (i 1) (i 3) c hc8 j

/-- The reference's result is the attention. -/
theorem ref_out (hx : Real3 x0 x1 x2) : val_main_v33 (F := Ideal) x0 x1 x2 = attn x0 x1 x2 := by
  obtain ⟨hq, hk, -⟩ := hx
  funext i
  have h0 : (i 0).val < 8 := (i 0).isLt
  have h1 : (i 1).val < 2048 := (i 1).isLt
  have h2 : (i 2).val < 768 := (i 2).isLt
  rw [val_main_v33_apply]
  show val_main_v32 (F := Ideal) x0 x1 x2 i = _
  rw [val_main_v32_apply, val_main_v31_apply, sum_read x0 x1 x2 hq hk]
  unfold attn
  have e0 : idx_main_v31 (idx_main_v32 i) 0 = i 0 := Fin.ext (by
    show (((i 0).val * 2048 + (i 1).val) * 768 + (i 2).val) / 1572864 = (i 0).val; omega)
  have e1 : idx_main_v31 (idx_main_v32 i) 1 = (⟨(i 2).val / 128, by omega⟩ : Fin 6) := Fin.ext (by
    show (((i 0).val * 2048 + (i 1).val) * 768 + (i 2).val) / 128 % 6 = (i 2).val / 128; omega)
  have e2 : idx_main_v31 (idx_main_v32 i) 2 = (⟨(i 2).val % 128, by omega⟩ : Fin 128) := Fin.ext (by
    show (((i 0).val * 2048 + (i 1).val) * 768 + (i 2).val) % 128 = (i 2).val % 128; omega)
  have e3 : idx_main_v31 (idx_main_v32 i) 3 = i 1 := Fin.ext (by
    show (((i 0).val * 2048 + (i 1).val) * 768 + (i 2).val) / 768 % 2048 = (i 1).val; omega)
  rw [e0, e1, e2, e3]

end Cert.Proof.MlaIdeal

end

end
-- ==== Proof.MlaIdeal.Pre.lean ====
/-
  The attention's precondition read back: the queries and keys are real numbers, and the rows below the values are ones.
-/
module

public import proofs.«01_k».proof.Pre_mla_pre
public import proofs.«01_k».proof.Proof.Gen.Pre_mla_pre
public import proofs.«01_k».proof.Proof.MlaIdeal.Value
public import Idealize.ShloMosaic.Lib.ReduceAll

@[expose] public section

set_option maxRecDepth 16384

noncomputable section

namespace Cert.Proof.MlaIdeal

open Cert.Pre_mla_pre Cert.Pre_mla_pre.Gen
open Idealize.ShloMosaic

theorem pos_inf : Ideal.ofBits .f32 0x7F800000#32 = (⊤ : EReal) := by
  simp [Ideal.ofBits, Ideal.ieee, -EReal.coe_mul]

theorem one_word : Ideal.ofBits .f32 0x3F800000#32 = (1 : EReal) := by
  simp [Ideal.ofBits, Ideal.ieee, -EReal.coe_mul]
  norm_num

/-- A conjunction of one-bit words. -/
theorem andi_one (x y : BitVec 1) : IntOp.andi x y = 1#1 ↔ x = 1#1 ∧ y = 1#1 := by
  revert x y
  decide

/-- An absolute value below `⊤` is a real number's. -/
theorem real_of_abs (x : EReal) (h : max x (-x) < ⊤) : ∃ r : ℝ, x = r := by
  induction x with
  | bot => simp at h
  | top => simp at h
  | coe r => exact ⟨r, rfl⟩

instance : Subsingleton S_.Idx := ⟨fun a b => funext fun k => k.elim0⟩

theorem real3_of_pre (x0 : S6x256x16384.Idx → EReal) (x1 : S8x2048x1536.Idx → EReal) (x2 : S6x64x144x256.Idx → EReal)
    (h : Cert.Pre_mla_pre.fn (F := Ideal) x0 x1 x2 = fun _ => 1#1) : Real3 x0 x1 x2 := by
  have h := congrFun h (fun a => a.elim0)
  obtain ⟨h01, h2⟩ := (andi_one _ _).1 h
  obtain ⟨h0, h1⟩ := (andi_one _ _).1 h01
  refine ⟨fun i => ?_, fun i => ?_, fun hh b j => ?_⟩
  · have e := Host.reduce_andi_all _ _ _ _ _ h0 i
    refine real_of_abs _ ?_
    have e' : BitVec.ofBool (decide (max (x0 i) (-(x0 i)) < Ideal.ofBits .f32 0x7F800000#32)) = 1#1 := e
    rw [pos_inf] at e'
    by_contra hn
    rw [decide_eq_false hn] at e'
    exact absurd e' (by decide)
  · have e := Host.reduce_andi_all _ _ _ _ _ h1 i
    refine real_of_abs _ ?_
    have e' : BitVec.ofBool (decide (max (x1 i) (-(x1 i)) < Ideal.ofBits .f32 0x7F800000#32)) = 1#1 := e
    rw [pos_inf] at e'
    by_contra hn
    rw [decide_eq_false hn] at e'
    exact absurd e' (by decide)
  · have e := Host.reduce_andi_all _ _ _ _ _ h2 (ix4 hh b (0 : Fin 16) j)
    have e' : BitVec.ofBool (decide (extractStridedSlice S6x64x16x256 ![0, 0, 128, 0] x2 Facts.slices_S6x64x144x256_S6x64x16x256_0_0_128_0 (ix4 hh b (0 : Fin 16) j) = Ideal.ofBits .f32 0x3F800000#32)) = 1#1 := e
    rw [one_word, extractStridedSlice_apply ![0, 0, 128, 0] x2 _ (ix4 hh b (0 : Fin 16) j) (ix4 hh b (128 : Fin 144) j)
      (fun a => by match a with | 0 => simp [ix4] | 1 => simp [ix4] | 2 => simp [ix4] | 3 => simp [ix4])] at e'
    by_contra hn
    rw [decide_eq_false hn] at e'
    exact absurd e' (by decide)

end Cert.Proof.MlaIdeal

end

end
-- ==== Proof.MlaIdeal.Claim.lean ====
/-
  The attention: the frames of its three programs, and the claim that, where the precondition holds, the kernel and the
  reference leave the same array.
-/
module

public import proofs.«01_k».proof.Defs
public import proofs.«01_k».proof.Proof.Mla.Frame
public import proofs.«01_k».proof.Proof.MlaIdeal.Ref
public import proofs.«01_k».proof.Proof.MlaIdeal.Pre
public import proofs.«01_k».proof.Proof.Gen.MlaRefIdeal.Run

@[expose] public section

set_option maxRecDepth 16384

noncomputable section

open Idealize.ShloMosaic Idealize.ShloMosaic.TcCoe Idealize.SL.Sem

namespace Cert.Proof.MlaIdeal

theorem frame_bits : Cert.quiescent_Mla := fun m ρ _ => Cert.Proof.Mla.frame_run m ρ

theorem frame_ideal : Cert.quiescent_MlaIdeal := fun m ρ _ => Cert.Proof.MlaIdeal.frame_run m ρ

theorem frame_ideal_pre : Cert.quiescent_MlaIdeal_pre_mla_pre := fun m ρ _ => Cert.Proof.MlaIdeal.frame_run m ρ

theorem frame_ref : Cert.quiescent_MlaRefIdeal := fun m ρ _ =>
  (θ_run _ _ _).mono (fun r h => ⟨fun c => (h c).2, sem_eq_zero_of_no_sems (by decide) r.2⟩)
    (Cert.MlaRefIdeal.Value.run m ρ)

theorem frame_ref_pre : Cert.quiescent_MlaRefIdeal_pre_mla_pre := fun m ρ _ => frame_ref m ρ trivial

theorem algebraic : Cert.algebraic_MlaIdeal_MlaRefIdeal_pre_mla_pre := by
  intro m g m' g' hpre hagree
  refine ⟨fun c => out m c, ?_, ?_⟩
  · exact run m g fun c => real3_of_pre _ _ _ (hpre c)
  · refine (θ_run _ _ _).mono (fun r h c => ⟨(h c).1.trans ?_, (h c).2⟩) (Cert.MlaRefIdeal.Value.run m' g')
    obtain ⟨h0, h1, h2⟩ := hagree c
    rw [Cert.MlaRefIdeal.Read.val_main_v33_eq, h0, h1, h2]
    exact ref_out _ _ _ (real3_of_pre _ _ _ (hpre c))

end Cert.Proof.MlaIdeal

end

end
-- ==== Proof.Ffn.Body.lean ====
/-
  The feed-forward call, one grid point at a time, at every float instance: what the body leaves in its three result
  blocks and in the scratch that keeps the cast row block, as the kernel's own payloads of the blocks it reads.

  `chain` is the running sum over the eleven hidden blocks; `outs_eq` says that the run leaves it, its normalisation
  at the last hidden block, and the two cast weight blocks.
-/
module

public import proofs.«01_k».proof.Proof.Gen.FfnIdeal.Value
public import Idealize.ShloMosaic.Lib.ValueIdx

@[expose] public section

set_option maxRecDepth 16384

noncomputable section

open Idealize.ShloMosaic Idealize.ShloMosaic.TcCoe Idealize.SL.Sem
open Idealize.ShloMosaic.Pipeline (Dat)

namespace Cert.Proof.Ffn

open Cert.FfnIdeal Cert.FfnIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

variable {F : FTy → Type} [FloatOps F]

section Cases

variable (c : Dev nD) (i : grid0.Coords)
  (a2 : Memref sig .tc .vmem S1024x2048 .f32) (h2 : a2.IsWhole) (a3 : Memref sig .tc .vmem S2048x512 .bf16) (h3 : a3.IsWhole)
  (a4 : Memref sig .tc .vmem S2048x512 .bf16) (h4 : a4.IsWhole) (a5 : Memref sig .tc .vmem S512x2048 .bf16) (h5 : a5.IsWhole)
  (a6 : Memref sig .tc .vmem S1x1x2048 .f32) (h6 : a6.IsWhole) (a7 : Memref sig .tc .vmem S1x1x2048 .f32) (h7 : a7.IsWhole)
  (a8 : Memref sig .tc .vmem S1x128x1024 .f32) (h8 : a8.IsWhole) (a9 : Memref sig .tc .vmem S1x512x128 .f32) (h9 : a9.IsWhole)
  (a10 : Memref sig .tc .vmem S1024x2048 .f32) (h10 : a10.IsWhole) (a11 : Memref sig .tc .vmem S128x1024 .bf16) (h11 : a11.IsWhole)
  (a12 : Memref sig .tc .vmem S512x128 .bf16) (h12 : a12.IsWhole) (a13 : Memref sig .tc .vmem S1024x2048 .bf16) (h13 : a13.IsWhole)
  (x : Vec F S1024x2048 .f32) (wg wu : Vec F S2048x512 .bf16) (wd : Vec F S512x2048 .bf16) (g b : Vec F S1x1x2048 .f32)
  (nu : Vec F S1x128x1024 .f32) (nd : Vec F S1x512x128 .f32) (acc : Vec F S1024x2048 .f32) (kept : Vec F S1024x2048 .bf16)

/-- At the first hidden block: the scaled rows plus the first term. -/
theorem first_sum (hc0 : cond0_0 i) (hc1 : ¬cond0_1 i) :
    out0_A_8 c i a2 h2 a3 h3 a4 h4 a5 h5 a6 h6 a7 h7 a8 h8 a9 h9 a10 h10 a11 h11 a12 h12 a13 h13 hc0 hc1 x wg wu wd g b nu nd
      = k0_pay5 (k0_pay3 x) wg wu (k0_pay4 x) wd := by
  unfold out0_A_8
  refine (View.read_writes_eq_canon _ _ _ (fun y => cover0_A_8 ..)).trans ?_
  unfold kernelRun0_A
  dsimp only
  sl_unfold_words
  rw [View.canon_cons_unit_zero (S := S1024x2048) zero2]
  simp only [View.readCov_unit_zero (S := S1024x2048) _ zero2]
  simp only [View.readAt_eq_ld, h2.read_unread, h3.read_unread, h4.read_unread, h5.read_unread,
    View.ld_unit_zero (S := S1024x2048) zero2, View.ld_unit_zero (S := S2048x512) zero2, View.ld_unit_zero (S := S512x2048) zero2,
    shapeCast_self]

/-- … and the cast rows kept in scratch. -/
theorem first_kept (hc0 : cond0_0 i) (hc1 : ¬cond0_1 i) :
    sout0_A_0 c i a2 h2 a3 h3 a4 h4 a5 h5 a6 h6 a7 h7 a8 h8 a9 h9 a10 h10 a11 h11 a12 h12 a13 h13 hc0 hc1 x wg wu wd g b nu nd
      = k0_pay3 x := by
  unfold sout0_A_0
  refine (View.read_writes_eq_canon _ _ _ (fun y => scover0_A_0 ..)).trans ?_
  unfold kernelRun0_A
  dsimp only
  sl_unfold_words
  rw [View.canon_unit_zero (S := S1024x2048) zero2]
  simp only [View.readAt_eq_ld, h2.read_unread, View.ld_unit_zero (S := S1024x2048) zero2, shapeCast_self]

theorem first_up (hc0 : cond0_0 i) (hc1 : ¬cond0_1 i) :
    out0_A_9 c i a2 h2 a3 h3 a4 h4 a5 h5 a6 h6 a7 h7 a8 h8 a9 h9 a10 h10 a11 h11 a12 h12 a13 h13 hc0 hc1 x wg wu wd g b nu nd
      = k0_pay6 nu := by
  unfold out0_A_9
  refine (View.read_writes_eq_canon _ _ _ (fun y => cover0_A_9 ..)).trans ?_
  unfold kernelRun0_A
  dsimp only
  sl_unfold_words
  rw [View.canon_unit_zero (S := S128x1024) zero2]
  simp only [View.readAt_eq_ld, h8.read_unread, View.ld_unit_zero (S := S1x128x1024) zero3, shapeCast_self]

theorem first_down (hc0 : cond0_0 i) (hc1 : ¬cond0_1 i) :
    out0_A_10 c i a2 h2 a3 h3 a4 h4 a5 h5 a6 h6 a7 h7 a8 h8 a9 h9 a10 h10 a11 h11 a12 h12 a13 h13 hc0 hc1 x wg wu wd g b nu nd
      = k0_pay1 nd := by
  unfold out0_A_10
  refine (View.read_writes_eq_canon _ _ _ (fun y => cover0_A_10 ..)).trans ?_
  unfold kernelRun0_A
  dsimp only
  sl_unfold_words
  rw [View.canon_unit_zero (S := S512x128) zero2]
  simp only [View.readAt_eq_ld, h9.read_unread, View.ld_unit_zero (S := S1x512x128) zero3, shapeCast_self]

/-- At an inner hidden block: the running sum plus its term. -/
theorem inner_sum (hc0 : ¬cond0_0 i) (hc1 : ¬cond0_1 i) :
    out0_B_8 c i a2 h2 a3 h3 a4 h4 a5 h5 a6 h6 a7 h7 a8 h8 a9 h9 a10 h10 a11 h11 a12 h12 a13 h13 hc0 hc1 x wg wu wd g b nu nd acc kept
      = k0_pay5 kept wg wu acc wd := by
  unfold out0_B_8
  refine (View.read_writes_eq_canon _ _ _ (fun y => cover0_B_8 ..)).trans ?_
  unfold kernelRun0_B
  dsimp only
  sl_unfold_words
  rw [View.canon_unit_zero (S := S1024x2048) zero2]
  simp only [View.readAt_eq_ld, h3.read_unread, h4.read_unread, h5.read_unread, h10.read_unread, h13.read_unread,
    View.ld_unit_zero (S := S1024x2048) zero2, View.ld_unit_zero (S := S2048x512) zero2, View.ld_unit_zero (S := S512x2048) zero2,
    shapeCast_self]

theorem inner_up (hc0 : ¬cond0_0 i) (hc1 : ¬cond0_1 i) :
    out0_B_9 c i a2 h2 a3 h3 a4 h4 a5 h5 a6 h6 a7 h7 a8 h8 a9 h9 a10 h10 a11 h11 a12 h12 a13 h13 hc0 hc1 x wg wu wd g b nu nd acc kept
      = k0_pay6 nu := by
  unfold out0_B_9
  refine (View.read_writes_eq_canon _ _ _ (fun y => cover0_B_9 ..)).trans ?_
  unfold kernelRun0_B
  dsimp only
  sl_unfold_words
  rw [View.canon_unit_zero (S := S128x1024) zero2]
  simp only [View.readAt_eq_ld, h8.read_unread, View.ld_unit_zero (S := S1x128x1024) zero3, shapeCast_self]

theorem inner_down (hc0 : ¬cond0_0 i) (hc1 : ¬cond0_1 i) :
    out0_B_10 c i a2 h2 a3 h3 a4 h4 a5 h5 a6 h6 a7 h7 a8 h8 a9 h9 a10 h10 a11 h11 a12 h12 a13 h13 hc0 hc1 x wg wu wd g b nu nd acc kept
      = k0_pay1 nd := by
  unfold out0_B_10
  refine (View.read_writes_eq_canon _ _ _ (fun y => cover0_B_10 ..)).trans ?_
  unfold kernelRun0_B
  dsimp only
  sl_unfold_words
  rw [View.canon_unit_zero (S := S512x128) zero2]
  simp only [View.readAt_eq_ld, h9.read_unread, View.ld_unit_zero (S := S1x512x128) zero3, shapeCast_self]

/-- At the last hidden block: the norm of the finished sum. -/
theorem last_sum (hc0 : ¬cond0_0 i) (hc1 : cond0_1 i) :
    out0_C_8 c i a2 h2 a3 h3 a4 h4 a5 h5 a6 h6 a7 h7 a8 h8 a9 h9 a10 h10 a11 h11 a12 h12 a13 h13 hc0 hc1 x wg wu wd g b nu nd acc kept
      = k0_pay2 (k0_pay5 kept wg wu acc wd) g b := by
  unfold out0_C_8
  refine (View.read_writes_eq_canon _ _ _ (fun y => cover0_C_8 ..)).trans ?_
  unfold kernelRun0_C
  dsimp only
  sl_unfold_words
  rw [View.canon_cons_unit_zero (S := S1024x2048) zero2]
  simp only [View.readCov_unit_zero (S := S1024x2048) _ zero2]
  simp only [View.readAt_eq_ld, h3.read_unread, h4.read_unread, h5.read_unread, h6.read_unread, h7.read_unread, h10.read_unread, h13.read_unread,
    View.ld_unit_zero (S := S1024x2048) zero2, View.ld_unit_zero (S := S2048x512) zero2, View.ld_unit_zero (S := S512x2048) zero2,
    View.ld_unit_zero (S := S1x1x2048) zero3, shapeCast_self]

theorem last_up (hc0 : ¬cond0_0 i) (hc1 : cond0_1 i) :
    out0_C_9 c i a2 h2 a3 h3 a4 h4 a5 h5 a6 h6 a7 h7 a8 h8 a9 h9 a10 h10 a11 h11 a12 h12 a13 h13 hc0 hc1 x wg wu wd g b nu nd acc kept
      = k0_pay6 nu := by
  unfold out0_C_9
  refine (View.read_writes_eq_canon _ _ _ (fun y => cover0_C_9 ..)).trans ?_
  unfold kernelRun0_C
  dsimp only
  sl_unfold_words
  rw [View.canon_unit_zero (S := S128x1024) zero2]
  simp only [View.readAt_eq_ld, h8.read_unread, View.ld_unit_zero (S := S1x128x1024) zero3, shapeCast_self]

theorem last_down (hc0 : ¬cond0_0 i) (hc1 : cond0_1 i) :
    out0_C_10 c i a2 h2 a3 h3 a4 h4 a5 h5 a6 h6 a7 h7 a8 h8 a9 h9 a10 h10 a11 h11 a12 h12 a13 h13 hc0 hc1 x wg wu wd g b nu nd acc kept
      = k0_pay1 nd := by
  unfold out0_C_10
  refine (View.read_writes_eq_canon _ _ _ (fun y => cover0_C_10 ..)).trans ?_
  unfold kernelRun0_C
  dsimp only
  sl_unfold_words
  rw [View.canon_unit_zero (S := S512x128) zero2]
  simp only [View.readAt_eq_ld, h9.read_unread, View.ld_unit_zero (S := S1x512x128) zero3, shapeCast_self]

end Cases

/-! ## The blocks the points read -/

variable (m : (ℓ : Loc nD τ sig) → Buf (Elt F) ℓ)

theorem rows_index : ∀ t : Fin cfg0.N, win0_0.index t = ![t.val / 11, 0] :=
  (by decide +kernel : ∀ t : Fin grid0.N, win0_0.index t = ![t.val / 11, 0])
theorem gate_index : ∀ t : Fin cfg0.N, win0_1.index t = ![0, t.val % 11] :=
  (by decide +kernel : ∀ t : Fin grid0.N, win0_1.index t = ![0, t.val % 11])
theorem up_index : ∀ t : Fin cfg0.N, win0_2.index t = ![0, t.val % 11 + 11] :=
  (by decide +kernel : ∀ t : Fin grid0.N, win0_2.index t = ![0, t.val % 11 + 11])
theorem down_index : ∀ t : Fin cfg0.N, win0_3.index t = ![t.val % 11, 0] :=
  (by decide +kernel : ∀ t : Fin grid0.N, win0_3.index t = ![t.val % 11, 0])
theorem scale_index : ∀ t : Fin cfg0.N, win0_4.index t = ![0, 0, 0] :=
  (by decide +kernel : ∀ t : Fin grid0.N, win0_4.index t = ![0, 0, 0])
theorem shift_index : ∀ t : Fin cfg0.N, win0_5.index t = ![0, 0, 0] :=
  (by decide +kernel : ∀ t : Fin grid0.N, win0_5.index t = ![0, 0, 0])
theorem next_up_index : ∀ t : Fin cfg0.N, win0_6.index t = ![0, t.val / 11, t.val % 11] :=
  (by decide +kernel : ∀ t : Fin grid0.N, win0_6.index t = ![0, t.val / 11, t.val % 11])
theorem next_down_index : ∀ t : Fin cfg0.N, win0_7.index t = ![0, t.val % 11, t.val / 11] :=
  (by decide +kernel : ∀ t : Fin grid0.N, win0_7.index t = ![0, t.val % 11, t.val / 11])
theorem out_index : ∀ t : Fin cfg0.N, win0_8.index t = ![t.val / 11, 0] :=
  (by decide +kernel : ∀ t : Fin grid0.N, win0_8.index t = ![t.val / 11, 0])
theorem out_up_index : ∀ t : Fin cfg0.N, win0_9.index t = ![t.val / 11, t.val % 11] :=
  (by decide +kernel : ∀ t : Fin grid0.N, win0_9.index t = ![t.val / 11, t.val % 11])
theorem out_down_index : ∀ t : Fin cfg0.N, win0_10.index t = ![t.val % 11, t.val / 11] :=
  (by decide +kernel : ∀ t : Fin grid0.N, win0_10.index t = ![t.val % 11, t.val / 11])

theorem rows_block (c : Dev nD) (t : Fin cfg0.N) (j : S1024x2048.Idx) (q : S16384x2048.Idx)
    (q0 : (q 0).val = t.val / 11 * 1024 + (j 0).val) (q1 : (q 1).val = (j 1).val) :
    iblk m c 0 t j = m ((c : Thread nD τ).loc main_arg0) q := by
  unfold iblk
  rw [View.read_apply]
  show m ((c : Thread nD τ).loc main_arg0) _ = _
  congr 1
  funext a
  apply Fin.ext
  match a with
  | ⟨0, _⟩ => show win0_0.index t 0 * 1024 + 1 * (j 0).val = (q 0).val
              rw [rows_index t, q0]; show t.val / 11 * 1024 + 1 * (j 0).val = _; omega
  | ⟨1, _⟩ => show win0_0.index t 1 * 2048 + 1 * (j 1).val = (q 1).val
              rw [rows_index t, q1]; show 0 * 2048 + 1 * (j 1).val = _; omega

theorem gate_block (c : Dev nD) (t : Fin cfg0.N) (j : S2048x512.Idx) (q : S2048x11264.Idx)
    (q0 : (q 0).val = (j 0).val) (q1 : (q 1).val = t.val % 11 * 512 + (j 1).val) :
    iblk m c 1 t j = m ((c : Thread nD τ).loc main_arg1) q := by
  unfold iblk
  rw [View.read_apply]
  show m ((c : Thread nD τ).loc main_arg1) _ = _
  congr 1
  funext a
  apply Fin.ext
  match a with
  | ⟨0, _⟩ => show win0_1.index t 0 * 2048 + 1 * (j 0).val = (q 0).val
              rw [gate_index t, q0]; show 0 * 2048 + 1 * (j 0).val = _; omega
  | ⟨1, _⟩ => show win0_1.index t 1 * 512 + 1 * (j 1).val = (q 1).val
              rw [gate_index t, q1]; show t.val % 11 * 512 + 1 * (j 1).val = _; omega

theorem up_block (c : Dev nD) (t : Fin cfg0.N) (j : S2048x512.Idx) (q : S2048x11264.Idx)
    (q0 : (q 0).val = (j 0).val) (q1 : (q 1).val = 5632 + (t.val % 11 * 512 + (j 1).val)) :
    iblk m c 2 t j = m ((c : Thread nD τ).loc main_arg1) q := by
  unfold iblk
  rw [View.read_apply]
  show m ((c : Thread nD τ).loc main_arg1) _ = _
  congr 1
  funext a
  apply Fin.ext
  match a with
  | ⟨0, _⟩ => show win0_2.index t 0 * 2048 + 1 * (j 0).val = (q 0).val
              rw [up_index t, q0]; show 0 * 2048 + 1 * (j 0).val = _; omega
  | ⟨1, _⟩ => show win0_2.index t 1 * 512 + 1 * (j 1).val = (q 1).val
              rw [up_index t, q1]; show (t.val % 11 + 11) * 512 + 1 * (j 1).val = _; omega

theorem down_block (c : Dev nD) (t : Fin cfg0.N) (j : S512x2048.Idx) (q : S5632x2048.Idx)
    (q0 : (q 0).val = t.val % 11 * 512 + (j 0).val) (q1 : (q 1).val = (j 1).val) :
    iblk m c 3 t j = m ((c : Thread nD τ).loc main_arg2) q := by
  unfold iblk
  rw [View.read_apply]
  show m ((c : Thread nD τ).loc main_arg2) _ = _
  congr 1
  funext a
  apply Fin.ext
  match a with
  | ⟨0, _⟩ => show win0_3.index t 0 * 512 + 1 * (j 0).val = (q 0).val
              rw [down_index t, q0]; show t.val % 11 * 512 + 1 * (j 0).val = _; omega
  | ⟨1, _⟩ => show win0_3.index t 1 * 2048 + 1 * (j 1).val = (q 1).val
              rw [down_index t, q1]; show 0 * 2048 + 1 * (j 1).val = _; omega

theorem scale_block (c : Dev nD) (t : Fin cfg0.N) (j : S1x1x2048.Idx) (q : S12x1x2048.Idx)
    (q0 : (q 0).val = 0) (q2 : (q 2).val = (j 2).val) :
    iblk m c 4 t j = m ((c : Thread nD τ).loc main_arg3) q := by
  have j0 : (j 0).val < 1 := (j 0).isLt
  have j1 : (j 1).val < 1 := (j 1).isLt
  have q1 : (q 1).val < 1 := (q 1).isLt
  unfold iblk
  rw [View.read_apply]
  show m ((c : Thread nD τ).loc main_arg3) _ = _
  congr 1
  funext a
  apply Fin.ext
  match a with
  | ⟨0, _⟩ => show win0_4.index t 0 * 1 + 1 * (j 0).val = (q 0).val
              rw [scale_index t, q0]; show 0 * 1 + 1 * (j 0).val = _; omega
  | ⟨1, _⟩ => show win0_4.index t 1 * 1 + 1 * (j 1).val = (q 1).val
              rw [scale_index t]; show 0 * 1 + 1 * (j 1).val = _; omega
  | ⟨2, _⟩ => show win0_4.index t 2 * 2048 + 1 * (j 2).val = (q 2).val
              rw [scale_index t, q2]; show 0 * 2048 + 1 * (j 2).val = _; omega

theorem shift_block (c : Dev nD) (t : Fin cfg0.N) (j : S1x1x2048.Idx) (q : S12x1x2048.Idx)
    (q0 : (q 0).val = 0) (q2 : (q 2).val = (j 2).val) :
    iblk m c 5 t j = m ((c : Thread nD τ).loc main_arg4) q := by
  have j0 : (j 0).val < 1 := (j 0).isLt
  have j1 : (j 1).val < 1 := (j 1).isLt
  have q1 : (q 1).val < 1 := (q 1).isLt
  unfold iblk
  rw [View.read_apply]
  show m ((c : Thread nD τ).loc main_arg4) _ = _
  congr 1
  funext a
  apply Fin.ext
  match a with
  | ⟨0, _⟩ => show win0_5.index t 0 * 1 + 1 * (j 0).val = (q 0).val
              rw [shift_index t, q0]; show 0 * 1 + 1 * (j 0).val = _; omega
  | ⟨1, _⟩ => show win0_5.index t 1 * 1 + 1 * (j 1).val = (q 1).val
              rw [shift_index t]; show 0 * 1 + 1 * (j 1).val = _; omega
  | ⟨2, _⟩ => show win0_5.index t 2 * 2048 + 1 * (j 2).val = (q 2).val
              rw [shift_index t, q2]; show 0 * 2048 + 1 * (j 2).val = _; omega

theorem next_up_block (c : Dev nD) (t : Fin cfg0.N) (j : S1x128x1024.Idx) (q : S4x2048x11264.Idx)
    (q0 : (q 0).val = 0) (q1 : (q 1).val = t.val / 11 * 128 + (j 1).val) (q2 : (q 2).val = t.val % 11 * 1024 + (j 2).val) :
    iblk m c 6 t j = m ((c : Thread nD τ).loc main_arg5) q := by
  have j0 : (j 0).val < 1 := (j 0).isLt
  unfold iblk
  rw [View.read_apply]
  show m ((c : Thread nD τ).loc main_arg5) _ = _
  congr 1
  funext a
  apply Fin.ext
  match a with
  | ⟨0, _⟩ => show win0_6.index t 0 * 1 + 1 * (j 0).val = (q 0).val
              rw [next_up_index t, q0]; show 0 * 1 + 1 * (j 0).val = _; omega
  | ⟨1, _⟩ => show win0_6.index t 1 * 128 + 1 * (j 1).val = (q 1).val
              rw [next_up_index t, q1]; show t.val / 11 * 128 + 1 * (j 1).val = _; omega
  | ⟨2, _⟩ => show win0_6.index t 2 * 1024 + 1 * (j 2).val = (q 2).val
              rw [next_up_index t, q2]; show t.val % 11 * 1024 + 1 * (j 2).val = _; omega

theorem next_down_block (c : Dev nD) (t : Fin cfg0.N) (j : S1x512x128.Idx) (q : S4x5632x2048.Idx)
    (q0 : (q 0).val = 0) (q1 : (q 1).val = t.val % 11 * 512 + (j 1).val) (q2 : (q 2).val = t.val / 11 * 128 + (j 2).val) :
    iblk m c 7 t j = m ((c : Thread nD τ).loc main_arg6) q := by
  have j0 : (j 0).val < 1 := (j 0).isLt
  unfold iblk
  rw [View.read_apply]
  show m ((c : Thread nD τ).loc main_arg6) _ = _
  congr 1
  funext a
  apply Fin.ext
  match a with
  | ⟨0, _⟩ => show win0_7.index t 0 * 1 + 1 * (j 0).val = (q 0).val
              rw [next_down_index t, q0]; show 0 * 1 + 1 * (j 0).val = _; omega
  | ⟨1, _⟩ => show win0_7.index t 1 * 512 + 1 * (j 1).val = (q 1).val
              rw [next_down_index t, q1]; show t.val % 11 * 512 + 1 * (j 1).val = _; omega
  | ⟨2, _⟩ => show win0_7.index t 2 * 128 + 1 * (j 2).val = (q 2).val
              rw [next_down_index t, q2]; show t.val / 11 * 128 + 1 * (j 2).val = _; omega

/-- The row block stays in place over the hidden blocks. -/
theorem rows_stay (c : Dev nD) (n : ℕ) (h : n + 1 < cfg0.N) (hn : ¬(n + 1) % 11 = 0) :
    (iblk m c 0 ⟨n, Nat.lt_of_succ_lt h⟩ : Vec F S1024x2048 .f32) = iblk m c 0 ⟨n + 1, h⟩ := by
  have hN : cfg0.N = 176 := N_0
  funext j
  have hj : (j 0).val < 1024 := (j 0).isLt
  have hj1 : (j 1).val < 2048 := (j 1).isLt
  have hlt : (n + 1) / 11 * 1024 + (j 0).val < 16384 := by omega
  have e := rows_block m c ⟨n + 1, h⟩ j (ValueIdx.ix2 ⟨(n + 1) / 11 * 1024 + (j 0).val, hlt⟩ ⟨(j 1).val, hj1⟩) rfl rfl
  refine Eq.trans (rows_block m c ⟨n, Nat.lt_of_succ_lt h⟩ j (ValueIdx.ix2 ⟨(n + 1) / 11 * 1024 + (j 0).val, hlt⟩ ⟨(j 1).val, hj1⟩) ?_ rfl) e.symm
  show (n + 1) / 11 * 1024 + (j 0).val = n / 11 * 1024 + (j 0).val
  omega

/-! ## The running sum -/

/-- The term a point adds to `acc`. -/
abbrev plus (c : Dev nD) (t : Fin cfg0.N) (acc : Vec F S1024x2048 .f32) : Vec F S1024x2048 .f32 :=
  k0_pay5 (k0_pay3 (iblk m c 0 t)) (iblk m c 1 t) (iblk m c 2 t) acc (iblk m c 3 t)

/-- The running sum after point `n`, before the norm. -/
def chain (c : Dev nD) : (n : ℕ) → n < cfg0.N → Vec F S1024x2048 .f32
  | 0, h => plus m c ⟨0, h⟩ (k0_pay4 (iblk m c 0 ⟨0, h⟩))
  | n + 1, h => if (n + 1) % 11 = 0 then plus m c ⟨n + 1, h⟩ (k0_pay4 (iblk m c 0 ⟨n + 1, h⟩))
      else plus m c ⟨n + 1, h⟩ (chain c n (Nat.lt_of_succ_lt h))

/-- What the first result block holds after point `n`. -/
def left (c : Dev nD) (n : ℕ) (h : n < cfg0.N) : Vec F S1024x2048 .f32 :=
  if n % 11 = 10 then k0_pay2 (chain m c n h) (iblk m c 4 ⟨n, h⟩) (iblk m c 5 ⟨n, h⟩) else chain m c n h

theorem outs_eq (c : Dev nD) : ∀ (n : ℕ) (h : n < cfg0.N),
    outsAt0 m c n h = (left m c n h, k0_pay6 (iblk m c 6 ⟨n, h⟩), k0_pay1 (iblk m c 7 ⟨n, h⟩), k0_pay3 (iblk m c 0 ⟨n, h⟩))
  | 0, h => by
    rw [outsAt0_A m c ⟨0, h⟩ rfl (by show ¬0 % 11 = 10; omega), first_sum, first_up, first_down, first_kept]
    rfl
  | n + 1, h => by
    by_cases hn : (n + 1) % 11 = 0
    · rw [outsAt0_A m c ⟨n + 1, h⟩ hn (by show ¬(n + 1) % 11 = 10; omega), first_sum, first_up, first_down, first_kept]
      unfold left chain
      rw [if_neg (by omega), if_pos hn]
    · have hp : left m c n (Nat.lt_of_succ_lt h) = chain m c n (Nat.lt_of_succ_lt h) := by
        unfold left; rw [if_neg (by omega)]
      by_cases hl : (n + 1) % 11 = 10
      · rw [outsAt0_C m c ⟨n + 1, h⟩ hn hl, last_sum, last_up, last_down]
        unfold sout0_C_0
        show (k0_pay2 (k0_pay5 (outsAt0 m c n _).2.2.2 _ _ (outsAt0 m c n _).1 _) _ _, _, _, (outsAt0 m c n _).2.2.2) = _
        rw [outs_eq c n (Nat.lt_of_succ_lt h)]
        dsimp only
        rw [rows_stay m c n h hn, hp]
        conv_rhs => unfold left chain
        rw [if_pos hl, if_neg hn]
      · rw [outsAt0_B m c ⟨n + 1, h⟩ hn hl, inner_sum, inner_up, inner_down]
        unfold sout0_B_0
        show (k0_pay5 (outsAt0 m c n _).2.2.2 _ _ (outsAt0 m c n _).1 _, _, _, (outsAt0 m c n _).2.2.2) = _
        rw [outs_eq c n (Nat.lt_of_succ_lt h)]
        dsimp only
        rw [rows_stay m c n h hn, hp]
        conv_rhs => unfold left chain
        rw [if_neg hl, if_neg hn]

end Cert.Proof.Ffn

end
-- ==== Proof.Ffn.Norm.lean ====
/-
  The layer norm of a doubled row: the kernel keeps twice the residual sum and halves inside the norm, the reference
  keeps the sum itself. Over the extended reals the two agree with no condition on the row, because doubling is
  multiplication by a positive finite real.
-/
module

public import Idealize.ShloMosaic.PureOps.Ideal
public import Mathlib.Data.EReal.Operations

@[expose] public section

noncomputable section

open Idealize.ShloMosaic

namespace Cert.Proof.Ffn

/-- A positive finite factor passes a sum. -/
theorem scale_sum {ι : Type} [DecidableEq ι] (s : ℝ) (hs : 0 ≤ s) (S : Finset ι) (f : ι → EReal) :
    ∑ k ∈ S, (s : EReal) * f k = (s : EReal) * ∑ k ∈ S, f k := by
  induction S using Finset.induction_on with
  | empty => simp
  | insert a S ha ih =>
    rw [Finset.sum_insert ha, Finset.sum_insert ha, ih,
      EReal.left_distrib_of_nonneg_of_ne_top (by exact_mod_cast hs) (EReal.coe_ne_top s)]

theorem scale_sub (s : ℝ) (hs : 0 ≤ s) (a b : EReal) : (s : EReal) * (a - b) = s * a - s * b := by
  rw [sub_eq_add_neg, sub_eq_add_neg, EReal.left_distrib_of_nonneg_of_ne_top (by exact_mod_cast hs) (EReal.coe_ne_top s), mul_neg]

theorem scale_div (s : ℝ) (a d : EReal) (hd : d ≠ 0) : Ideal.div ((s : EReal) * a) d = s * Ideal.div a d := by
  unfold Ideal.div
  rw [if_neg hd, if_neg hd, mul_assoc]

theorem word_rows : Ideal.ofBits .f32 0x45000000#32 = ((2048 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
/-- The kernel's residual scale is exactly twice the reference's. -/
theorem word_scale : Ideal.ofBits .f32 0x405744FD#32 = ((2 : ℝ) : EReal) * Ideal.ofBits .f32 0x3FD744FD#32 := by
  simp only [Ideal.ofBits, Ideal.ieee]
  simp [← EReal.coe_mul]
  norm_num

theorem word_rows_ne : Ideal.ofBits .f32 0x45000000#32 ≠ 0 := by
  rw [word_rows]; exact_mod_cast (by norm_num : (2048 : ℝ) ≠ 0)

/-- The mean of a row. -/
def mean (z : Fin 2048 → EReal) : EReal := Ideal.div (∑ k, z k) (Ideal.ofBits .f32 0x45000000#32)
/-- … and its variance. -/
def variance (z : Fin 2048 → EReal) : EReal :=
  Ideal.div (∑ k, (z k - mean z) * (z k - mean z)) (Ideal.ofBits .f32 0x45000000#32)
/-- The normalised row, scaled and shifted. -/
def norm (z : Fin 2048 → EReal) (k : Fin 2048) (g b : EReal) : EReal :=
  (z k - mean z) * Ideal.rsqrt (variance z + Ideal.ofBits .f32 0x3727C5AC#32) * g + b

theorem mean_twice (z : Fin 2048 → EReal) : mean (fun k => ((2 : ℝ) : EReal) * z k) = ((2 : ℝ) : EReal) * mean z := by
  unfold mean
  rw [scale_sum 2 (by norm_num), scale_div _ _ _ word_rows_ne]

theorem variance_twice (z : Fin 2048 → EReal) :
    Ideal.ofBits .f32 0x3E800000#32 * variance (fun k => ((2 : ℝ) : EReal) * z k) = variance z := by
  unfold variance
  rw [mean_twice]
  have e : ∀ k, (((2 : ℝ) : EReal) * z k - ((2 : ℝ) : EReal) * mean z) * (((2 : ℝ) : EReal) * z k - ((2 : ℝ) : EReal) * mean z)
      = ((4 : ℝ) : EReal) * ((z k - mean z) * (z k - mean z)) := fun k => by
    rw [← scale_sub 2 (by norm_num), mul_mul_mul_comm, ← EReal.coe_mul]; norm_num
  rw [Finset.sum_congr rfl fun k _ => e k, scale_sum 4 (by norm_num), scale_div _ _ _ word_rows_ne, word_quarter, ← mul_assoc, ← EReal.coe_mul]
  norm_num

/-- The kernel's norm of the doubled row is the norm of the row. -/
theorem norm_twice (z : Fin 2048 → EReal) (k : Fin 2048) (g b : EReal) :
    (((2 : ℝ) : EReal) * z k - mean (fun k => ((2 : ℝ) : EReal) * z k))
        * (Ideal.ofBits .f32 0x3F000000#32
            * Ideal.rsqrt (Ideal.ofBits .f32 0x3E800000#32 * variance (fun k => ((2 : ℝ) : EReal) * z k) + Ideal.ofBits .f32 0x3727C5AC#32)) * g + b
      = norm z k g b := by
  unfold norm
  rw [variance_twice, mean_twice, ← scale_sub 2 (by norm_num), word_half, mul_mul_mul_comm, ← EReal.coe_mul]
  norm_num

end Cert.Proof.Ffn

end
-- ==== Proof.Ffn.Value.lean ====
/-
  The feed-forward call at the extended reals: the run's three result arrays, named as functions of the seven
  arguments, and the reference's three arrays as the same functions.
-/
module

public import proofs.«01_k».proof.Proof.Ffn.Body
public import proofs.«01_k».proof.Proof.Ffn.Norm
public import proofs.«01_k».proof.Proof.Gen.FfnRefIdeal.Read
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Proof.Ffn

open Cert.FfnIdeal Cert.FfnIdeal.Gen

/-! ## The payloads at an index -/

theorem pay5_apply (x : FVec Ideal S1024x2048 .f32) (wg wu : FVec Ideal S2048x512 .bf16) (acc : FVec Ideal S1024x2048 .f32)
    (wd : FVec Ideal S512x2048 .bf16) (j : S1024x2048.Idx) :
    (k0_pay5 (F := Ideal) (k0_pay3 (F := Ideal) x) wg wu acc wd : S1024x2048.Idx → EReal) j
      = acc j + ∑ k : Fin 512, ((∑ l : Fin 2048, x (ix2 (j 0) l) * wg (ix2 l k))
          * Ideal.div 1 (1 + Ideal.exp (0 - ∑ l : Fin 2048, x (ix2 (j 0) l) * wg (ix2 l k)))
          * ∑ l : Fin 2048, x (ix2 (j 0) l) * wu (ix2 l k)) * wd (ix2 k (j 1)) := by
  pointwise [k0_pay5, k0_pay3]

theorem pay4_apply (x : FVec Ideal S1024x2048 .f32) (j : S1024x2048.Idx) :
    (k0_pay4 (F := Ideal) x : S1024x2048.Idx → EReal) j = Ideal.ofBits .f32 0x405744FD#32 * x j := by
  pointwise [k0_pay4]

theorem pay6_apply (x : FVec Ideal S1x128x1024 .f32) (j : S128x1024.Idx) :
    (k0_pay6 (F := Ideal) x : S128x1024.Idx → EReal) j = x (ix3 (0 : Fin 1) (j 0) (j 1)) := by
  pointwise [k0_pay6]

theorem pay1_apply (x : FVec Ideal S1x512x128 .f32) (j : S512x128.Idx) :
    (k0_pay1 (F := Ideal) x : S512x128.Idx → EReal) j = x (ix3 (0 : Fin 1) (j 0) (j 1)) := by
  pointwise [k0_pay1]

theorem pay2_apply (acc : FVec Ideal S1024x2048 .f32) (g b : FVec Ideal S1x1x2048 .f32) (j : S1024x2048.Idx) :
    (k0_pay2 (F := Ideal) acc g b : S1024x2048.Idx → EReal) j
      = (acc j - mean (fun k => acc (ix2 (j 0) k)))
        * (Ideal.ofBits .f32 0x3F000000#32
            * Ideal.rsqrt (Ideal.ofBits .f32 0x3E800000#32 * variance (fun k => acc (ix2 (j 0) k)) + Ideal.ofBits .f32 0x3727C5AC#32))
        * g (ix3 (0 : Fin 1) (0 : Fin 1) (j 1)) + b (ix3 (0 : Fin 1) (0 : Fin 1) (j 1)) := by
  pointwise [k0_pay2]
  rfl

/-! ## The feed-forward layer, element by element -/

section Layer

variable (x : S16384x2048.Idx → EReal) (w : S2048x11264.Idx → EReal) (wd : S5632x2048.Idx → EReal)

/-- A row of the input against a column of the first weights. -/
def inner (r : Fin 16384) (q : Fin 11264) : EReal := ∑ l : Fin 2048, x (ix2 r l) * w (ix2 l q)

/-- The hidden unit `p`: the gate times its logistic, times the up value. -/
def hid (r : Fin 16384) (p : Fin 5632) : EReal :=
  inner x w r ⟨p.val, by omega⟩ * Ideal.div 1 (1 + Ideal.exp (0 - inner x w r ⟨p.val, by omega⟩)) * inner x w r ⟨5632 + p.val, by omega⟩

/-- The residual sum. -/
def resid (r : Fin 16384) (q : Fin 2048) : EReal :=
  Ideal.ofBits .f32 0x3FD744FD#32 * x (ix2 r q) + Ideal.ofBits .f32 0x3F000000#32 * ∑ p : Fin 5632, hid x w r p * wd (ix2 p q)

/-- Hidden unit `k` of hidden block `b`. -/
def unitOf (b : ℕ) (k : Fin 512) : Fin 5632 := ⟨(b * 512 + k.val) % 5632, Nat.mod_lt _ (by norm_num)⟩

/-- What hidden block `b` adds. -/
def part (r : Fin 16384) (q : Fin 2048) (b : ℕ) : EReal := ∑ k : Fin 512, hid x w r (unitOf b k) * wd (ix2 (unitOf b k) q)

/-- The eleven hidden blocks together: the doubled residual sum. -/
theorem parts_all (r : Fin 16384) (q : Fin 2048) :
    Ideal.ofBits .f32 0x405744FD#32 * x (ix2 r q) + ∑ b ∈ Finset.range 11, part x w wd r q b = ((2 : ℝ) : EReal) * resid x w wd r q := by
  unfold resid
  rw [EReal.left_distrib_of_nonneg_of_ne_top (by exact_mod_cast (by norm_num : (0 : ℝ) ≤ 2)) (EReal.coe_ne_top 2), ← mul_assoc, ← mul_assoc,
    ← word_scale, word_half, ← EReal.coe_mul]
  congr 1
  rw [show ((2 * (1 / 2) : ℝ) : EReal) = 1 by norm_num, one_mul, Fin.sum_univ_tiles 11 512 (by norm_num), Finset.sum_range]
  refine Finset.sum_congr rfl fun b _ => Finset.sum_congr rfl fun k _ => ?_
  have hb := b.isLt
  have hk := k.isLt
  have e : unitOf b.val k = ⟨b.val * 512 + k.val, by omega⟩ := Fin.ext (Nat.mod_eq_of_lt (by omega))
  rw [e]

end Layer

variable (m : (ℓ : Loc nD τ sig) → Buf (Elt Ideal) ℓ) (ρ : Dev nD → PrngReg)

abbrev xOf (c : Dev nD) : S16384x2048.Idx → EReal := m ((c : Thread nD τ).loc main_arg0)
abbrev wOf (c : Dev nD) : S2048x11264.Idx → EReal := m ((c : Thread nD τ).loc main_arg1)
abbrev wdOf (c : Dev nD) : S5632x2048.Idx → EReal := m ((c : Thread nD τ).loc main_arg2)

/-- Row `j` of a point's row block, in the array. -/
def rowOf (t : Fin cfg0.N) (j : Fin 1024) : Fin 16384 := ⟨t.val / 11 * 1024 + j.val, by
  have hN : cfg0.N = 176 := N_0
  have ht := t.isLt
  omega⟩

/-- The term of a point, from blocks that are rows and columns of the arrays. -/
theorem term_eq (x : S16384x2048.Idx → EReal) (w : S2048x11264.Idx → EReal) (wd : S5632x2048.Idx → EReal)
    (r : Fin 16384) (q : Fin 2048) (b : ℕ) (r' : Fin 1024) (x0 : S1024x2048.Idx → EReal) (wg wu : S2048x512.Idx → EReal) (wd0 : S512x2048.Idx → EReal)
    (hx : ∀ l : Fin 2048, x0 (ix2 r' l) = x (ix2 r l))
    (hg : ∀ (l : Fin 2048) (k : Fin 512), wg (ix2 l k) = w (ix2 l (⟨(unitOf b k).val, by omega⟩ : Fin 11264)))
    (hu : ∀ (l : Fin 2048) (k : Fin 512), wu (ix2 l k) = w (ix2 l (⟨5632 + (unitOf b k).val, by omega⟩ : Fin 11264)))
    (hd : ∀ k : Fin 512, wd0 (ix2 k q) = wd (ix2 (unitOf b k) q)) :
    (∑ k : Fin 512, ((∑ l : Fin 2048, x0 (ix2 r' l) * wg (ix2 l k))
          * Ideal.div 1 (1 + Ideal.exp (0 - ∑ l : Fin 2048, x0 (ix2 r' l) * wg (ix2 l k)))
          * ∑ l : Fin 2048, x0 (ix2 r' l) * wu (ix2 l k)) * wd0 (ix2 k q)) = part x w wd r q b := by
  simp only [hx, hg, hu, hd]
  rfl

theorem unit_val (t : Fin cfg0.N) (k : Fin 512) : (unitOf (t.val % 11) k).val = t.val % 11 * 512 + k.val :=
  Nat.mod_eq_of_lt (by have hk := k.isLt; omega)

theorem plus_apply (c : Dev nD) (t : Fin cfg0.N) (acc : FVec Ideal S1024x2048 .f32) (j : S1024x2048.Idx) :
    (plus (F := Ideal) m c t acc : S1024x2048.Idx → EReal) j
      = acc j + part (xOf m c) (wOf m c) (wdOf m c) (rowOf t (j 0)) (j 1) (t.val % 11) := by
  refine (pay5_apply _ _ _ _ _ _).trans (congrArg (acc j + ·) ?_)
  refine term_eq _ _ _ _ _ _ _ _ _ _ _ (fun l => ?_) (fun l k => ?_) (fun l k => ?_) (fun k => ?_)
  · exact rows_block m c t _ _ rfl rfl
  · exact gate_block m c t _ _ rfl (unit_val t k)
  · exact up_block m c t _ _ rfl (congrArg (5632 + ·) (unit_val t k))
  · exact down_block m c t _ _ (unit_val t k) rfl

/-- The running sum at an element. -/
theorem chain_apply (c : Dev nD) : ∀ (n : ℕ) (h : n < cfg0.N) (j : S1024x2048.Idx),
    (chain (F := Ideal) m c n h : S1024x2048.Idx → EReal) j
      = Ideal.ofBits .f32 0x405744FD#32 * xOf m c (ix2 (rowOf ⟨n, h⟩ (j 0)) (j 1))
        + ∑ b ∈ Finset.range (n % 11 + 1), part (xOf m c) (wOf m c) (wdOf m c) (rowOf ⟨n, h⟩ (j 0)) (j 1) b := by
  have start : ∀ (t : Fin cfg0.N) (ht : t.val % 11 = 0) (j : S1024x2048.Idx),
      (plus (F := Ideal) m c t (k0_pay4 (F := Ideal) (iblk m c 0 t)) : S1024x2048.Idx → EReal) j
        = Ideal.ofBits .f32 0x405744FD#32 * xOf m c (ix2 (rowOf t (j 0)) (j 1))
          + ∑ b ∈ Finset.range (t.val % 11 + 1), part (xOf m c) (wOf m c) (wdOf m c) (rowOf t (j 0)) (j 1) b := fun t ht j => by
    rw [plus_apply, pay4_apply, ht, Finset.sum_range_one]
    congr 2
    exact rows_block m c t j _ rfl rfl
  intro n
  induction n with
  | zero => intro h j; exact start ⟨0, h⟩ rfl j
  | succ n ih =>
    intro h j
    unfold chain
    by_cases hn : (n + 1) % 11 = 0
    · rw [if_pos hn]; exact start ⟨n + 1, h⟩ hn j
    · rw [if_neg hn, plus_apply, ih]
      have hr : rowOf ⟨n, Nat.lt_of_succ_lt h⟩ (j 0) = rowOf ⟨n + 1, h⟩ (j 0) := Fin.ext (by
        show n / 11 * 1024 + (j 0).val = (n + 1) / 11 * 1024 + (j 0).val
        omega)
      have he : (n + 1) % 11 = n % 11 + 1 := by omega
      rw [hr, add_assoc]
      show _ = _ + ∑ b ∈ Finset.range ((n + 1) % 11 + 1), _
      rw [Finset.sum_range_succ _ ((n + 1) % 11), he]

/-! ## The three result arrays -/

/-- The first result: the norm of the residual sum. -/
def out (c : Dev nD) : Buf (Elt Ideal) ((c : Thread nD τ).loc main_v0_0) := fun i : S16384x2048.Idx =>
  norm (fun k => resid (xOf m c) (wOf m c) (wdOf m c) (i 0) k) (i 1)
    ((m ((c : Thread nD τ).loc main_arg3) : S12x1x2048.Idx → EReal) (ix3 (0 : Fin 12) (0 : Fin 1) (i 1)))
    ((m ((c : Thread nD τ).loc main_arg4) : S12x1x2048.Idx → EReal) (ix3 (0 : Fin 12) (0 : Fin 1) (i 1)))
/-- The second: the next layer's first weights. -/
def outUp (c : Dev nD) : Buf (Elt Ideal) ((c : Thread nD τ).loc main_v0_1) := fun i : S2048x11264.Idx =>
  (m ((c : Thread nD τ).loc main_arg5) : S4x2048x11264.Idx → EReal) (ix3 (0 : Fin 4) (i 0) (i 1))
/-- The third: the next layer's second weights. -/
def outDown (c : Dev nD) : Buf (Elt Ideal) ((c : Thread nD τ).loc main_v0_2) := fun i : S5632x2048.Idx =>
  (m ((c : Thread nD τ).loc main_arg6) : S4x5632x2048.Idx → EReal) (ix3 (0 : Fin 4) (i 0) (i 1))

theorem flushed_out (c : Dev nD) (t : Fin cfg0.N) (hf : (cfg0.win 8).flush t = true) :
    (dats m 0 c).flushed 8 t = ((cfg0.win 8).blk t).view.read (Elt Ideal) (out m c) := by
  rw [Value.flushed8, outs_eq]
  have hm : t.val % 11 = 10 := (flush0_8 t).mp hf
  have hN : cfg0.N = 176 := N_0
  have ht := t.isLt
  funext y
  rw [View.read_apply]
  show left m c t.val t.isLt ((cfg0.win 8).xinj (grid0.coords t) y) = _
  unfold left
  rw [if_pos hm, pay2_apply]
  have hy0 : (y 0).val < 1024 := (y 0).isLt
  have hy1 : (y 1).val < 2048 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 2048 + 1 * (y 1).val := rfl
  rw [out_index t] at hb0 hb1
  have hb0' : (((cfg0.win 8).blk t).view.emb y 0).val = t.val / 11 * 1024 + 1 * (y 0).val := hb0
  have hb1' : (((cfg0.win 8).blk t).view.emb y 1).val = 0 * 2048 + 1 * (y 1).val := hb1
  have e0 : (((cfg0.win 8).blk t).view.emb y 0 : Fin 16384) = rowOf t ⟨(y 0).val, hy0⟩ := Fin.ext (by
    show _ = t.val / 11 * 1024 + (y 0).val; omega)
  have e1 : (((cfg0.win 8).blk t).view.emb y 1 : Fin 2048) = ⟨(y 1).val, hy1⟩ := Fin.ext (by show _ = (y 1).val; omega)
  have ec : ∀ q : Fin 2048, (chain (F := Ideal) m c t.val t.isLt : S1024x2048.Idx → EReal) (ix2 (⟨(y 0).val, hy0⟩ : Fin 1024) q)
      = ((2 : ℝ) : EReal) * resid (xOf m c) (wOf m c) (wdOf m c) (rowOf t ⟨(y 0).val, hy0⟩) q := fun q => by
    rw [chain_apply, hm]
    exact parts_all _ _ _ _ _
  have ey : (cfg0.win 8).xinj (grid0.coords t) y = ix2 (⟨(y 0).val, hy0⟩ : Fin 1024) (⟨(y 1).val, hy1⟩ : Fin 2048) := by
    funext a; match a with | ⟨0, _⟩ => rfl | ⟨1, _⟩ => rfl
  rw [ey]
  show ((chain (F := Ideal) m c t.val t.isLt : S1024x2048.Idx → EReal) (ix2 (⟨(y 0).val, hy0⟩ : Fin 1024) ⟨(y 1).val, hy1⟩)
      - mean (fun k => (chain (F := Ideal) m c t.val t.isLt : S1024x2048.Idx → EReal) (ix2 (⟨(y 0).val, hy0⟩ : Fin 1024) k)))
      * (_ * Ideal.rsqrt (_ * variance (fun k => (chain (F := Ideal) m c t.val t.isLt : S1024x2048.Idx → EReal) (ix2 (⟨(y 0).val, hy0⟩ : Fin 1024) k)) + _))
      * _ + _ = norm (fun k => resid (xOf m c) (wOf m c) (wdOf m c) (((cfg0.win 8).blk t).view.emb y 0 : Fin 16384) k)
        (((cfg0.win 8).blk t).view.emb y 1 : Fin 2048) _ _
  simp only [ec]
  rw [norm_twice, e0, e1]
  congr 1
  · exact scale_block m c t _ _ rfl rfl
  · exact shift_block m c t _ _ rfl rfl

theorem flushed_up (c : Dev nD) (t : Fin cfg0.N) :
    (dats m 0 c).flushed 9 t = ((cfg0.win 9).blk t).view.read (Elt Ideal) (outUp m c) := by
  rw [Value.flushed9, outs_eq]
  have hN : cfg0.N = 176 := N_0
  have ht := t.isLt
  funext y
  rw [View.read_apply]
  show k0_pay6 (iblk m c 6 t) ((cfg0.win 9).xinj (grid0.coords t) y) = _
  rw [pay6_apply]
  have hb0 : (((cfg0.win 9).blk t).view.emb y 0).val = win0_9.index t (0 : Fin 2) * 128 + 1 * (y 0).val := rfl
  have hb1 : (((cfg0.win 9).blk t).view.emb y 1).val = win0_9.index t (1 : Fin 2) * 1024 + 1 * (y 1).val := rfl
  rw [out_up_index t] at hb0 hb1
  have hb0' : (((cfg0.win 9).blk t).view.emb y 0).val = t.val / 11 * 128 + 1 * (y 0).val := hb0
  have hb1' : (((cfg0.win 9).blk t).view.emb y 1).val = t.val % 11 * 1024 + 1 * (y 1).val := hb1
  refine next_up_block m c t _ _ rfl ?_ ?_
  · show (((cfg0.win 9).blk t).view.emb y 0).val = t.val / 11 * 128 + (y 0).val
    omega
  · show (((cfg0.win 9).blk t).view.emb y 1).val = t.val % 11 * 1024 + (y 1).val
    omega

theorem flushed_down (c : Dev nD) (t : Fin cfg0.N) :
    (dats m 0 c).flushed 10 t = ((cfg0.win 10).blk t).view.read (Elt Ideal) (outDown m c) := by
  rw [Value.flushed10, outs_eq]
  have hN : cfg0.N = 176 := N_0
  have ht := t.isLt
  funext y
  rw [View.read_apply]
  show k0_pay1 (iblk m c 7 t) ((cfg0.win 10).xinj (grid0.coords t) y) = _
  rw [pay1_apply]
  have hb0 : (((cfg0.win 10).blk t).view.emb y 0).val = win0_10.index t (0 : Fin 2) * 512 + 1 * (y 0).val := rfl
  have hb1 : (((cfg0.win 10).blk t).view.emb y 1).val = win0_10.index t (1 : Fin 2) * 128 + 1 * (y 1).val := rfl
  rw [out_down_index t] at hb0 hb1
  have hb0' : (((cfg0.win 10).blk t).view.emb y 0).val = t.val % 11 * 512 + 1 * (y 0).val := hb0
  have hb1' : (((cfg0.win 10).blk t).view.emb y 1).val = t.val / 11 * 128 + 1 * (y 1).val := hb1
  refine next_down_block m c t _ _ rfl ?_ ?_
  · show (((cfg0.win 10).blk t).view.emb y 0).val = t.val % 11 * 512 + (y 0).val
    omega
  · show (((cfg0.win 10).blk t).view.emb y 1).val = t.val / 11 * 128 + (y 1).val
    omega

theorem final_out (c : Dev nD) : (dats m 0 c).arrAt 8 cfg0.N = out m c :=
  (dats m 0 c).arrAt_eq_of_cover 8 _ (fun t hf => flushed_out m c t hf) (fun i => (Value.covered_iff8 i).2 (by
    have h0 : (i 0).val < 16384 := (i 0).isLt
    have h1 : (i 1).val < 2048 := (i 1).isLt
    omega))
theorem final_up (c : Dev nD) : (dats m 0 c).arrAt 9 cfg0.N = outUp m c :=
  (dats m 0 c).arrAt_eq_of_cover 9 _ (fun t _ => flushed_up m c t) (fun i => (Value.covered_iff9 i).2 (by
    have h0 : (i 0).val < 2048 := (i 0).isLt
    have h1 : (i 1).val < 11264 := (i 1).isLt
    omega))
theorem final_down (c : Dev nD) : (dats m 0 c).arrAt 10 cfg0.N = outDown m c :=
  (dats m 0 c).arrAt_eq_of_cover 10 _ (fun t _ => flushed_down m c t) (fun i => (Value.covered_iff10 i).2 (by
    have h0 : (i 0).val < 5632 := (i 0).isLt
    have h1 : (i 1).val < 2048 := (i 1).isLt
    omega))

/-- The kernel's run, read: the three results, the arguments unchanged. -/
theorem run : θ_run defs (onTc (τ := τ) (main (F := Ideal))) ⟨m, fun _ => 0, ρ⟩ fun r => ∀ c : Dev nD,
      (r.2.mem ((c : Thread nD τ).loc main_v0_0) = out m c
      ∧ r.2.mem ((c : Thread nD τ).loc main_v0_1) = outUp m c
      ∧ r.2.mem ((c : Thread nD τ).loc main_v0_2) = outDown m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨⟨((h c).1).trans (final_out m c), ((h c).2.1).trans (final_up m c), ((h c).2.2.1).trans (final_down m c)⟩,
    (h c).2.2.2⟩) (Value.run_blocks m ρ)

/-! ## The reference's arrays -/

section Ref

open Cert.FfnRefIdeal.Read

variable (x : (⟨S16384x2048, .f32⟩ : BufTy).Contents (Elt Ideal)) (w : (⟨S2048x11264, .bf16⟩ : BufTy).Contents (Elt Ideal))
  (wd : (⟨S5632x2048, .bf16⟩ : BufTy).Contents (Elt Ideal)) (g b : (⟨S12x1x2048, .f32⟩ : BufTy).Contents (Elt Ideal))

theorem ref_inner (i : Cert.FfnRefIdeal.S16384x11264.Idx) : val_main_v1 (F := Ideal) x w i = inner x w (i 0) (i 1) := by
  rw [val_main_v1_apply]
  unfold inner
  refine Finset.sum_congr rfl fun l _ => ?_
  rw [val_main_v0_apply]
  show _ * w _ = _
  congr 1
  · congr 1; funext a; match a with | ⟨0, _⟩ => rfl | ⟨1, _⟩ => rfl
  · congr 1; funext a; match a with | ⟨0, _⟩ => rfl | ⟨1, _⟩ => rfl

theorem ref_hid (i : Cert.FfnRefIdeal.S16384x5632.Idx) : val_main_v5 (F := Ideal) x w i = hid x w (i 0) (i 1) := by
  rw [val_main_v5_apply, val_main_v4_apply, val_main_v3_apply, val_main_call0_v5_apply, val_main_call0_v4_apply, val_main_call0_cst_0_apply,
    val_main_call0_v3_apply, val_main_call0_v2_apply, val_main_call0_cst_apply, val_main_call0_v1_apply, val_main_call0_v0_apply, val_main_v2_apply]
  rw [ref_inner, ref_inner]
  have one : FloatOps.ofBits (F := Ideal) .f32 0x3F800000#32 = (1 : EReal) := by
    show Ideal.ofBits .f32 0x3F800000#32 = 1
    simp [Ideal.ofBits, Ideal.ieee, -EReal.coe_mul]; norm_num
  rw [one]
  unfold hid
  rw [zero_sub]
  rfl

theorem ref_resid (i : S16384x2048.Idx) : val_main_v12 (F := Ideal) x w wd i = resid x w wd (i 0) (i 1) := by
  rw [val_main_v12_apply, val_main_v9_apply, val_main_v11_apply, val_main_v8_apply, val_main_v10_apply, val_main_v7_apply, val_main_cst_apply, val_main_cst_0_apply]
  simp only [ref_hid, val_main_v6_apply]
  show Ideal.ofBits .f32 0x3FD744FD#32 * x i + Ideal.ofBits .f32 0x3F000000#32 * _ = _
  unfold resid
  congr 1
  · congr 1; congr 1; funext a; match a with | ⟨0, _⟩ => rfl | ⟨1, _⟩ => rfl
  · congr 1
    refine Finset.sum_congr rfl fun p _ => ?_
    congr 1
    show wd _ = wd _
    congr 1; funext a; match a with | ⟨0, _⟩ => rfl | ⟨1, _⟩ => rfl

theorem ref_mean (i : Cert.FfnRefIdeal.S16384x1.Idx) : val_main_v20 (F := Ideal) x w wd i = mean (fun k => resid x w wd (i 0) k) := by
  rw [val_main_v20_apply, val_main_v18_apply, val_main_v17_apply, val_main_v19_apply, val_main_cst_1_apply, val_main_cst_2_apply]
  simp only [ref_resid]
  show Ideal.div (Ideal.ofBits .f32 0#32 + _) _ = _
  rw [Ideal.ofBits_zero, zero_add]
  rfl

theorem ref_variance (i : Cert.FfnRefIdeal.S16384x1.Idx) : val_main_v27 (F := Ideal) x w wd i = variance (fun k => resid x w wd (i 0) k) := by
  rw [val_main_v27_apply, val_main_v25_apply, val_main_v24_apply, val_main_v26_apply, val_main_cst_3_apply, val_main_cst_4_apply]
  simp only [val_main_v23_apply, val_main_v22_apply, val_main_v21_apply, ref_resid, ref_mean]
  show Ideal.div (Ideal.ofBits .f32 0#32 + _) _ = _
  rw [Ideal.ofBits_zero, zero_add]
  rfl

theorem ref_out (i : S16384x2048.Idx) : val_main_v38 (F := Ideal) x w wd g b i
    = norm (fun k => resid x w wd (i 0) k) (i 1) (g (ix3 (0 : Fin 12) (0 : Fin 1) (i 1))) (b (ix3 (0 : Fin 12) (0 : Fin 1) (i 1))) := by
  rw [val_main_v38_apply, val_main_v36_apply, val_main_v34_apply, val_main_v29_apply, val_main_v28_apply, val_main_v33_apply, val_main_v32_apply,
    val_main_v31_apply, val_main_v30_apply, val_main_cst_5_apply, val_main_v35_apply, val_main_v14_apply, val_main_v13_apply,
    val_main_v37_apply, val_main_v16_apply, val_main_v15_apply, ref_resid, ref_mean, ref_variance]
  unfold norm
  have h1 : (i 1).val < 2048 := (i 1).isLt
  have eg : ∀ q q' : S12x1x2048.Idx, (q 0).val = (q' 0).val → (q 2).val = (q' 2).val → q = q' := fun q q' h0 h2 => by
    have a : (q 1).val < 1 := (q 1).isLt
    have a' : (q' 1).val < 1 := (q' 1).isLt
    funext d; apply Fin.ext
    match d with
    | ⟨0, _⟩ => exact h0
    | ⟨1, _⟩ => show (q 1).val = (q' 1).val; omega
    | ⟨2, _⟩ => exact h2
  show _ * g _ + b _ = _
  congr 1
  · congr 1
    exact congrArg g (eg _ _ rfl (by show (0 * 2048 + (i 1).val) % 2048 = (i 1).val; omega))
  · exact congrArg b (eg _ _ rfl (by show (0 * 2048 + (i 1).val) % 2048 = (i 1).val; omega))

theorem ref_up (x5 : (⟨S4x2048x11264, .f32⟩ : BufTy).Contents (Elt Ideal)) (i : S2048x11264.Idx) :
    val_main_v41 (F := Ideal) x5 i = x5 (ix3 (0 : Fin 4) (i 0) (i 1)) := by
  rw [val_main_v41_apply, val_main_v40_apply, val_main_v39_apply]
  show x5 _ = x5 _
  have h0 : (i 0).val < 2048 := (i 0).isLt
  have h1 : (i 1).val < 11264 := (i 1).isLt
  congr 1; funext a; apply Fin.ext
  match a with
  | ⟨0, _⟩ => rfl
  | ⟨1, _⟩ => show ((i 0).val * 11264 + (i 1).val) / 11264 % 2048 = (i 0).val; omega
  | ⟨2, _⟩ => show ((i 0).val * 11264 + (i 1).val) % 11264 = (i 1).val; omega

theorem ref_down (x6 : (⟨S4x5632x2048, .f32⟩ : BufTy).Contents (Elt Ideal)) (i : S5632x2048.Idx) :
    val_main_v44 (F := Ideal) x6 i = x6 (ix3 (0 : Fin 4) (i 0) (i 1)) := by
  rw [val_main_v44_apply, val_main_v43_apply, val_main_v42_apply]
  show x6 _ = x6 _
  have h0 : (i 0).val < 5632 := (i 0).isLt
  have h1 : (i 1).val < 2048 := (i 1).isLt
  congr 1; funext a; apply Fin.ext
  match a with
  | ⟨0, _⟩ => rfl
  | ⟨1, _⟩ => show ((i 0).val * 2048 + (i 1).val) / 2048 % 5632 = (i 0).val; omega
  | ⟨2, _⟩ => show ((i 0).val * 2048 + (i 1).val) % 2048 = (i 1).val; omega

end Ref

end Cert.Proof.Ffn

end
-- ==== Proof.Ffn.Claim.lean ====
/-
  The feed-forward call: the frames of its three programs, and the claim that the kernel and the reference leave the
  same three arrays.
-/
module

public import proofs.«01_k».proof.Defs
public import proofs.«01_k».proof.Proof.Gen.Ffn
public import proofs.«01_k».proof.Proof.Gen.Ffn.Frame
public import proofs.«01_k».proof.Proof.Ffn.Value
public import proofs.«01_k».proof.Proof.Gen.FfnRefIdeal.Run

@[expose] public section

set_option maxRecDepth 16384

noncomputable section

open Idealize.ShloMosaic Idealize.ShloMosaic.TcCoe Idealize.SL.Sem

namespace Cert.Proof.Ffn

theorem frame_bits : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run _ _ _).mono (fun r h => ⟨fun c => (h c).2.2.2, sem_eq_zero_of_no_sems (by decide) r.2⟩)
    (Cert.FfnRefIdeal.Value.run m ρ)

theorem algebraic : Cert.algebraic_FfnIdeal_FfnRefIdeal := by
  intro m g m' g' _ hagree
  refine ⟨fun c => out m c, fun c => outUp m c, fun c => outDown m c, ?_, ?_⟩
  · exact (θ_run _ _ _).mono (fun r h c => ⟨(h c).1.1, (h c).1.2.1, (h c).1.2.2, (h c).2⟩) (run m g)
  · refine (θ_run _ _ _).mono (fun r h c => ⟨(h c).1.trans ?_, (h c).2.1.trans ?_, (h c).2.2.1.trans ?_, (h c).2.2.2⟩)
      (Cert.FfnRefIdeal.Value.run m' g')
    · obtain ⟨h0, h1, h2, h3, h4, -, -⟩ := hagree c
      rw [Cert.FfnRefIdeal.Read.val_main_v38_eq, h0, h1, h2, h3, h4]
      funext i
      exact ref_out _ _ _ _ _ i
    · obtain ⟨-, -, -, -, -, h5, -⟩ := hagree c
      rw [h5]
      funext i
      exact ref_up _ i
    · obtain ⟨-, -, -, -, -, -, h6⟩ := hagree c
      rw [h6]
      funext i
      exact ref_down _ i

end Cert.Proof.Ffn

end

end
-- ==== Proof.InProj.Value.lean ====
/-
  The input projection at the extended reals: what `InProjIdeal` leaves in its result array is, element by element,
  the inner product of a row of the activations with a row of the projection weights.

  The kernel casts its row block once, at the first of the five column blocks, and keeps the cast block in scratch.
  `outs_eq` says so for every grid point: the result block is the product of the point's own two input blocks. The
  reference's array has the same element, and the run's named array is read off the blocks.
-/
module

public import proofs.«01_k».proof.Proof.Gen.InProjIdeal.Value
public import proofs.«01_k».proof.Proof.Gen.InProjRefIdeal.Read
public import Idealize.ShloMosaic.Lib.Pointwise
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Proof.InProj

open Cert.InProjIdeal Cert.InProjIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

section Body

variable {F : FTy → Type} [FloatOps F]

/-- At the first column block the body leaves the product of the cast row block with the weight block … -/
theorem first_out (c : Dev nD) (i : grid0.Coords) (a2 : Memref sig .tc .vmem S1024x2048 .f32) (h2 : a2.IsWhole)
    (a3 : Memref sig .tc .vmem S1x2048x2048 .bf16) (h3 : a3.IsWhole) (a4 : Memref sig .tc .vmem S1024x2048 .bf16) (h4 : a4.IsWhole)
    (a5 : Memref sig .tc .vmem S1024x2048 .bf16) (h5 : a5.IsWhole) (hc : cond0_0 i)
    (x : Vec F S1024x2048 .f32) (w : Vec F S1x2048x2048 .bf16) :
    out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero zero2, View.readCov_unit_zero (S := S1024x2048) _ zero2]
  simp only [View.readAt_eq_ld, h2.read_unread, h3.read_unread, View.ld_unit_zero (S := S1024x2048) zero2,
    View.ld_unit_zero (S := S1x2048x2048) zero3, shapeCast_self]

/-- … and keeps the cast row block in scratch. -/
theorem first_kept (c : Dev nD) (i : grid0.Coords) (a2 : Memref sig .tc .vmem S1024x2048 .f32) (h2 : a2.IsWhole)
    (a3 : Memref sig .tc .vmem S1x2048x2048 .bf16) (h3 : a3.IsWhole) (a4 : Memref sig .tc .vmem S1024x2048 .bf16) (h4 : a4.IsWhole)
    (a5 : Memref sig .tc .vmem S1024x2048 .bf16) (h5 : a5.IsWhole) (hc : cond0_0 i)
    (x : Vec F S1024x2048 .f32) (w : Vec F S1x2048x2048 .bf16) :
    sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero zero2]
  simp only [View.readAt_eq_ld, h2.read_unread, View.ld_unit_zero (S := S1024x2048) zero2, shapeCast_self]

/-- At a later column block the body multiplies the kept row block with the weight block. -/
theorem later_out (c : Dev nD) (i : grid0.Coords) (a2 : Memref sig .tc .vmem S1024x2048 .f32) (h2 : a2.IsWhole)
    (a3 : Memref sig .tc .vmem S1x2048x2048 .bf16) (h3 : a3.IsWhole) (a4 : Memref sig .tc .vmem S1024x2048 .bf16) (h4 : a4.IsWhole)
    (a5 : Memref sig .tc .vmem S1024x2048 .bf16) (h5 : a5.IsWhole) (hc : ¬cond0_0 i)
    (x : Vec F S1024x2048 .f32) (w : Vec F S1x2048x2048 .bf16) (kept : Vec F S1024x2048 .bf16) :
    out0_B_2 c i a2 h2 a3 h3 a4 h4 a5 h5 hc x w kept = k0_pay2 kept w := by
  unfold out0_B_2
  rw [View.read_writes_eq_canon _ _ _ (cover0_B_2 c i a2 h2 a3 h3 a4 h4 a5 h5 hc x w kept)]
  unfold kernelRun0_B
  dsimp only
  rw [View.canon_unit_zero zero2]
  simp only [View.readAt_eq_ld, h3.read_unread, h5.read_unread, View.ld_unit_zero (S := S1024x2048) zero2,
    View.ld_unit_zero (S := S1x2048x2048) zero3, shapeCast_self]

variable (m : (ℓ : Loc nD τ sig) → Buf (Elt F) ℓ)

/-- The printed block index of the rows, decided over the grid: five points to a row block. -/
theorem rows_index : ∀ t : Fin cfg0.N, win0_0.index t = ![t.val / 5, 0] :=
  (by decide +kernel : ∀ t : Fin grid0.N, win0_0.index t = ![t.val / 5, 0])
/-- … and of the weights: the point's column block. -/
theorem weights_index : ∀ t : Fin cfg0.N, win0_1.index t = ![0, t.val % 5, 0] :=
  (by decide +kernel : ∀ t : Fin grid0.N, win0_1.index t = ![0, t.val % 5, 0])
/-- … and of the result: row block and column block. -/
theorem result_index : ∀ t : Fin cfg0.N, win0_2.index t = ![t.val / 5, t.val % 5] :=
  (by decide +kernel : ∀ t : Fin grid0.N, win0_2.index t = ![t.val / 5, t.val % 5])

/-- A point's row block, read off the argument. -/
theorem rows_block (c : Dev nD) (t : Fin cfg0.N) (j : S1024x2048.Idx) (q : S16384x2048.Idx)
    (q0 : (q 0).val = t.val / 5 * 1024 + (j 0).val) (q1 : (q 1).val = (j 1).val) :
    iblk m c 0 t j = m ((c : Thread nD τ).loc main_arg0) q := by
  unfold iblk
  rw [View.read_apply]
  show V m c main_arg0 _ = _
  show m ((c : Thread nD τ).loc main_arg0) _ = _
  congr 1
  funext a
  apply Fin.ext
  match a with
  | ⟨0, _⟩ => show win0_0.index t 0 * 1024 + 1 * (j 0).val = (q 0).val
              rw [rows_index t, q0]; show t.val / 5 * 1024 + 1 * (j 0).val = _; omega
  | ⟨1, _⟩ => show win0_0.index t 1 * 2048 + 1 * (j 1).val = (q 1).val
              rw [rows_index t, q1]; show 0 * 2048 + 1 * (j 1).val = _; omega

/-- A point's weight block, read off the argument. -/
theorem weights_block (c : Dev nD) (t : Fin cfg0.N) (j : S1x2048x2048.Idx) (q : S4x10240x2048.Idx)
    (q0 : (q 0).val = 0) (q1 : (q 1).val = t.val % 5 * 2048 + (j 1).val) (q2 : (q 2).val = (j 2).val) :
    iblk m c 1 t j = m ((c : Thread nD τ).loc main_arg1) q := by
  unfold iblk
  rw [View.read_apply]
  show m ((c : Thread nD τ).loc main_arg1) _ = _
  congr 1
  funext a
  apply Fin.ext
  have hj0 : (j 0).val < 1 := (j 0).isLt
  match a with
  | ⟨0, _⟩ => show win0_1.index t 0 * 1 + 1 * (j 0).val = (q 0).val
              rw [weights_index t, q0]; show 0 * 1 + 1 * (j 0).val = _; omega
  | ⟨1, _⟩ => show win0_1.index t 1 * 2048 + 1 * (j 1).val = (q 1).val
              rw [weights_index t, q1]; show t.val % 5 * 2048 + 1 * (j 1).val = _; omega
  | ⟨2, _⟩ => show win0_1.index t 2 * 2048 + 1 * (j 2).val = (q 2).val
              rw [weights_index t, q2]; show 0 * 2048 + 1 * (j 2).val = _; omega

/-- The row block stays in place over a row of column blocks. -/
theorem rows_stay (c : Dev nD) (n : ℕ) (h : n + 1 < cfg0.N) (hn : ¬(n + 1) % 5 = 0) :
    (iblk m c 0 ⟨n, Nat.lt_of_succ_lt h⟩ : Vec F S1024x2048 .f32) = iblk m c 0 ⟨n + 1, h⟩ := by
  have hN : cfg0.N = 80 := N_0
  funext j
  have hj : (j 0).val < 1024 := (j 0).isLt
  have hj1 : (j 1).val < 2048 := (j 1).isLt
  have hlt : (n + 1) / 5 * 1024 + (j 0).val < 16384 := by omega
  have e := rows_block m c ⟨n + 1, h⟩ j (ValueIdx.ix2 ⟨(n + 1) / 5 * 1024 + (j 0).val, hlt⟩ ⟨(j 1).val, hj1⟩) rfl rfl
  refine Eq.trans (rows_block m c ⟨n, Nat.lt_of_succ_lt h⟩ j (ValueIdx.ix2 ⟨(n + 1) / 5 * 1024 + (j 0).val, hlt⟩ ⟨(j 1).val, hj1⟩) ?_ rfl) e.symm
  show (n + 1) / 5 * 1024 + (j 0).val = n / 5 * 1024 + (j 0).val
  omega

/-- After every point: the product of the point's own blocks, and the cast row block in scratch. -/
theorem outs_eq (c : Dev nD) : ∀ (n : ℕ) (h : n < cfg0.N),
    outsAt0 m c n h = (k0_pay2 (k0_pay1 (iblk m c 0 ⟨n, h⟩)) (iblk m c 1 ⟨n, h⟩), k0_pay1 (iblk m c 0 ⟨n, h⟩))
  | 0, h => by
    rw [outsAt0_A m c ⟨0, h⟩ rfl, first_out, first_kept]
  | n + 1, h => by
    by_cases hn : (n + 1) % 5 = 0
    · rw [outsAt0_A m c ⟨n + 1, h⟩ hn, first_out, first_kept]
    · rw [outsAt0_B m c ⟨n + 1, h⟩ hn, later_out]
      unfold sout0_B_0
      show (k0_pay2 (outsAt0 m c n _).2 _, (outsAt0 m c n _).2) = _
      rw [outs_eq c n (Nat.lt_of_succ_lt h)]
      dsimp only
      rw [rows_stay m c n h hn]

end Body

/-! ## At the extended reals -/

/-- The block product at an index: the inner product of the row with the weight row. -/
theorem pay_apply (x : FVec Ideal S1024x2048 .f32) (w : FVec Ideal S1x2048x2048 .bf16) (j : S1024x2048.Idx) :
    (k0_pay2 (F := Ideal) (k0_pay1 (F := Ideal) x) w : S1024x2048.Idx → EReal) j
      = ∑ k : Fin 2048, x (ValueIdx.ix2 (j 0) k) * w (ValueIdx.ix3 (0 : Fin 1) (j 1) k) := by
  pointwise [k0_pay2, k0_pay1]
  rfl

/-- An element of the projection: row `i 0` of the activations against row `i 1` of the first weight slab. -/
def proj (x : S16384x2048.Idx → EReal) (w : S4x10240x2048.Idx → EReal) (i : S16384x10240.Idx) : EReal :=
  ∑ k : Fin 2048, x (ValueIdx.ix2 (i 0) k) * w (ValueIdx.ix3 (0 : Fin 4) (i 1) k)

variable (m : (ℓ : Loc nD τ sig) → Buf (Elt Ideal) ℓ) (ρ : Dev nD → PrngReg)

/-- The result array as named by the projection of the two arguments. -/
def out (c : Dev nD) : Buf (Elt Ideal) ((c : Thread nD τ).loc main_v0) :=
  proj (m ((c : Thread nD τ).loc main_arg0)) (m ((c : Thread nD τ).loc main_arg1))

/-- What a point writes back is its block of the projection. -/
theorem flushed_out (c : Dev nD) (t : Fin cfg0.N) :
    (dats m 0 c).flushed 2 t = ((cfg0.win 2).blk t).view.read (Elt Ideal) (out m c) := by
  rw [Value.flushed2, outs_eq]
  have hN : cfg0.N = 80 := N_0
  have ht := t.isLt
  funext y
  rw [View.read_apply]
  show k0_pay2 (k0_pay1 (iblk m c 0 t)) (iblk m c 1 t) ((cfg0.win 2).xinj (grid0.coords t) y) = _
  rw [pay_apply]
  have hy0 : (y 0).val < 1024 := (y 0).isLt
  have hy1 : (y 1).val < 2048 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 2048 + 1 * (y 1).val := rfl
  rw [result_index t] at hb0 hb1
  have hb0' : (((cfg0.win 2).blk t).view.emb y 0).val = t.val / 5 * 1024 + 1 * (y 0).val := hb0
  have hb1' : (((cfg0.win 2).blk t).view.emb y 1).val = t.val % 5 * 2048 + 1 * (y 1).val := hb1
  show _ = proj _ _ _
  unfold proj
  refine Finset.sum_congr rfl fun k _ => ?_
  congr 1
  · refine rows_block m c t _ _ ?_ rfl
    show (((cfg0.win 2).blk t).view.emb y 0).val = t.val / 5 * 1024 + (y 0).val
    omega
  · refine weights_block m c t _ _ rfl ?_ rfl
    show (((cfg0.win 2).blk t).view.emb y 1).val = t.val % 5 * 2048 + (y 1).val
    omega

/-- So the result array is the projection. -/
theorem final_out (c : Dev nD) : (dats m 0 c).arrAt 2 cfg0.N = out m c :=
  (dats m 0 c).arrAt_eq_of_cover 2 _ (fun t _ => flushed_out m c t) (fun i => (Value.covered_iff2 i).2 (by
    have h0 : (i 0).val < 16384 := (i 0).isLt
    have h1 : (i 1).val < 10240 := (i 1).isLt
    omega))

/-- The reference's result is the same projection. -/
theorem ref_out (x : (⟨S16384x2048, .f32⟩ : BufTy).Contents (Elt Ideal)) (w : (⟨S4x10240x2048, .bf16⟩ : BufTy).Contents (Elt Ideal)) :
    Cert.InProjRefIdeal.Read.val_main_v4 (F := Ideal) x w = proj x w := by
  funext i
  rw [Cert.InProjRefIdeal.Read.val_main_v4_apply]
  show Cert.InProjRefIdeal.Read.val_main_v3 (F := Ideal) x w i = _
  rw [Cert.InProjRefIdeal.Read.val_main_v3_apply]
  unfold proj
  refine Finset.sum_congr rfl fun k _ => ?_
  rw [Cert.InProjRefIdeal.Read.val_main_v2_apply]
  show _ * Cert.InProjRefIdeal.Read.val_main_v1 (F := Ideal) w _ = _
  rw [Cert.InProjRefIdeal.Read.val_main_v1_apply, Cert.InProjRefIdeal.Read.val_main_v0_apply]
  have h1 : (i 1).val < 10240 := (i 1).isLt
  have hk := k.isLt
  congr 1
  · congr 1; funext a; match a with | ⟨0, _⟩ => rfl | ⟨1, _⟩ => rfl
  · congr 1; funext a; apply Fin.ext
    match a with
    | ⟨0, _⟩ => rfl
    | ⟨1, _⟩ => show ((i 1).val * 2048 + k.val) / 2048 % 10240 = (i 1).val; omega
    | ⟨2, _⟩ => show ((i 1).val * 2048 + k.val) % 2048 = k.val; omega

/-- The kernel's run, read: the projection in the result array, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final_out m c), (h c).2⟩) (Value.run_blocks m ρ)

end Cert.Proof.InProj

end
-- ==== Proof.InProj.Claim.lean ====
/-
  The input projection: the frames of its three programs, and the claim that the kernel and the reference leave the
  same array.
-/
module

public import proofs.«01_k».proof.Defs
public import proofs.«01_k».proof.Proof.Gen.InProj
public import proofs.«01_k».proof.Proof.Gen.InProj.Frame
public import proofs.«01_k».proof.Proof.InProj.Value
public import proofs.«01_k».proof.Proof.Gen.InProjRefIdeal.Run

@[expose] public section

set_option maxRecDepth 16384

noncomputable section

open Idealize.ShloMosaic Idealize.ShloMosaic.TcCoe Idealize.SL.Sem

namespace Cert.Proof.InProj

theorem frame_bits : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := fun m ρ _ =>
  (θ_run _ _ _).mono (fun r h => ⟨fun c => (h c).2, sem_eq_zero_of_no_sems (by decide) r.2⟩)
    (Cert.InProjRefIdeal.Value.run m ρ)

theorem algebraic : Cert.algebraic_InProjIdeal_InProjRefIdeal := by
  intro m g m' g' _ hagree
  refine ⟨fun c => out m c, ?_, ?_⟩
  · exact run m g
  · refine (θ_run _ _ _).mono (fun r h c => ⟨(h c).1.trans ?_, (h c).2⟩) (Cert.InProjRefIdeal.Value.run m' g')
    obtain ⟨h0, h1⟩ := hagree c
    rw [h0, h1]
    exact ref_out _ _

end Cert.Proof.InProj

end

end
-- ==== Proof.Mix.Pay.lean ====
/-
  The mixing call's payloads at an index, over the extended reals: one head's attention over the memory, the gated
  projections, the residual sum and its norm.
-/
module

public import proofs.«01_k».proof.Proof.Gen.MixIdeal.Value
public import proofs.«01_k».proof.Proof.Ffn.Norm
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pointwise

namespace Cert.Proof.Mix

open Cert.MixIdeal Cert.MixIdeal.Gen
open Cert.Proof.Ffn (mean variance)

/-- A logit: the product of a query and a key, scaled. -/
def logit (q k : Fin 128 → EReal) : EReal := (∑ d, q d * k d) * Ideal.ofBits .f32 0x3DB504F3#32
/-- The exponentials of the shifted logits. -/
def weight (L : Fin 256 → EReal) (m : Fin 256) : EReal := Ideal.exp (L m - Finset.univ.fold max (Ideal.ofBits .f32 0xFF800000#32) L)
/-- One element of a head's attention, divided after the sum. -/
def attend (L v : Fin 256 → EReal) : EReal := Ideal.div (∑ m, weight L m * v m) (∑ m, weight L m)
/-- Four heads of 128 features side by side. -/
def heads (a b c d : Fin 128 → EReal) (e : Fin 512) : EReal :=
  if h : e.val < 128 then a ⟨e.val, h⟩ else if h : e.val - 128 < 128 then b ⟨e.val - 128, h⟩
    else if h : e.val - 128 - 128 < 128 then c ⟨e.val - 128 - 128, h⟩ else d ⟨e.val - 128 - 128 - 128, by omega⟩
/-- A gate's logistic. -/
def gate (g : EReal) : EReal := Ideal.div 1 (1 + Ideal.exp (0 - g))

section Heads

variable (q : FVec Ideal S256x128 .bf16) (k v : FVec Ideal S1x256x128 .bf16) (r : Fin 256) (d : Fin 128)

theorem pay4_apply : (k0_pay4 (F := Ideal) q (k0_pay3 (F := Ideal) k) v : S256x128.Idx → EReal) (ix2 r d)
    = attend (fun m => logit (fun e => q (ix2 r e)) (fun e => k (ix3 (0 : Fin 1) m e))) (fun m => v (ix3 (0 : Fin 1) m d)) := by
  unfold attend weight logit
  pointwise [k0_pay4, k0_pay3]

theorem pay5_apply : (k0_pay5 (F := Ideal) q k v : S256x128.Idx → EReal) (ix2 r d)
    = attend (fun m => logit (fun e => q (ix2 r e)) (fun e => k (ix3 (0 : Fin 1) m e))) (fun m => v (ix3 (0 : Fin 1) m d)) := by
  unfold attend weight logit
  pointwise [k0_pay5]

theorem pay6_apply : (k0_pay6 (F := Ideal) q k v : S256x128.Idx → EReal) (ix2 r d)
    = attend (fun m => logit (fun e => q (ix2 r e)) (fun e => k (ix3 (0 : Fin 1) m e))) (fun m => v (ix3 (0 : Fin 1) m d)) := by
  unfold attend weight logit
  pointwise [k0_pay6]

end Heads

theorem pay2_apply (oa : FVec Ideal S256x768 .bf16) (wa : FVec Ideal S1x768x2048 .bf16) (ga : FVec Ideal S256x2048 .bf16)
    (ob : FVec Ideal S256x768 .bf16) (wb : FVec Ideal S1x768x2048 .bf16) (gb : FVec Ideal S256x2048 .bf16) (r : Fin 256) (j : Fin 2048) :
    (k0_pay2 (F := Ideal) oa wa ga ob wb gb : S256x2048.Idx → EReal) (ix2 r j)
      = (∑ k : Fin 768, oa (ix2 r k) * wa (ix3 (0 : Fin 1) k j)) * gate (ga (ix2 r j))
        + (∑ k : Fin 768, ob (ix2 r k) * wb (ix3 (0 : Fin 1) k j)) * gate (gb (ix2 r j)) := by
  unfold gate
  pointwise [k0_pay2]

theorem pay11_apply (s : FVec Ideal S256x2048 .f32) (h0 h1 h2 : FVec Ideal S256x128 .bf16) (q : FVec Ideal S256x128 .bf16) (k v : FVec Ideal S1x256x128 .bf16)
    (wc : FVec Ideal S1x512x2048 .bf16) (gc : FVec Ideal S256x2048 .bf16) (wo : FVec Ideal S1x2048x2048 .bf16) (x : FVec Ideal S256x2048 .f32)
    (r : Fin 256) (p : Fin 2048) :
    (k0_pay11 (F := Ideal) s h0 h1 h2 (k0_pay7 (F := Ideal) v) (k0_pay9 (F := Ideal) q k) (k0_pay10 (F := Ideal) q k)
        (constant S256x128 .f32 0x00000000#32) wc gc wo x : S256x2048.Idx → EReal) (ix2 r p)
      = Ideal.ofBits .f32 0x3FD744FD#32 * x (ix2 r p)
        + ∑ j : Fin 2048, (s (ix2 r j) + (∑ e : Fin 512,
            heads (fun d => h0 (ix2 r d)) (fun d => h1 (ix2 r d)) (fun d => h2 (ix2 r d))
              (fun d => attend (fun m => logit (fun e => q (ix2 r e)) (fun e => k (ix3 (0 : Fin 1) m e))) (fun m => v (ix3 (0 : Fin 1) m d))) e
              * wc (ix3 (0 : Fin 1) e j)) * gate (gc (ix2 r j))) * wo (ix3 (0 : Fin 1) j p) := by
  unfold attend weight logit gate
  pointwise [k0_pay11, k0_pay7, k0_pay9, k0_pay10, k0_pay8]
  rfl

theorem pay1_apply (z : FVec Ideal S256x2048 .f32) (g b : FVec Ideal S1x1x2048 .f32) (mu : FVec Ideal S256x2048 .f32) (r : Fin 256) (p : Fin 2048)
    (hmu : ∀ p, mu (ix2 r p) = mean (fun k => z (ix2 r k))) :
    (k0_pay1 (F := Ideal) z (k0_pay12 (F := Ideal) g) (k0_pay13 (F := Ideal) b) mu : S256x2048.Idx → EReal) (ix2 r p)
      = Ffn.norm (fun k => z (ix2 r k)) p (g (ix3 (0 : Fin 1) (0 : Fin 1) p)) (b (ix3 (0 : Fin 1) (0 : Fin 1) p)) := by
  unfold Ffn.norm variance
  pointwise [k0_pay1, k0_pay12, k0_pay13]
  simp only [hmu]

theorem pay14_apply (s : FVec Ideal S256x2048 .f32) (h0 h1 h2 : FVec Ideal S256x128 .bf16) (v : FVec Ideal S256x128 .bf16) (l : FVec Ideal S256x1 .f32)
    (w : FVec Ideal S256x256 .bf16) (z : FVec Ideal S256x128 .f32) (wc : FVec Ideal S1x512x2048 .bf16) (gc : FVec Ideal S256x2048 .bf16)
    (wo : FVec Ideal S1x2048x2048 .bf16) (x : FVec Ideal S256x2048 .f32) (r : Fin 256) (p : Fin 2048) :
    (k0_pay14 (F := Ideal) s h0 h1 h2 v l w z wc gc wo x : S256x2048.Idx → EReal) (ix2 r p)
      = mean (fun k => (k0_pay11 (F := Ideal) s h0 h1 h2 v l w z wc gc wo x : S256x2048.Idx → EReal) (ix2 r k)) := by
  unfold mean
  pointwise [k0_pay14]

end Cert.Proof.Mix

end
-- ==== Proof.Mix.Value.lean ====
/-
  The mixing call at the extended reals: the run's result array, named as a function of the nine arguments.
-/
module

public import proofs.«01_k».proof.Proof.Mix.Pay
public import Idealize.ShloMosaic.Lib.Pipeline.ValueKit.Tiles
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Proof.Mix

open Cert.MixIdeal Cert.MixIdeal.Gen
open Cert.Proof.Ffn (mean variance)

/-! ## The mixing layer, element by element -/

section Layer

variable (oa ob : S16384x768.Idx → EReal) (mkv : S8x256x1024.Idx → EReal) (proj : S16384x10240.Idx → EReal) (x : S16384x2048.Idx → EReal)
  (wb wo : S4x2048x2048.Idx → EReal)

/-- The sequence a row belongs to. -/
def seqOf (r : Fin 16384) : Fin 8 := ⟨r.val / 2048, by omega⟩

/-- A row's logits against its sequence's memory, for one head. -/
def logits (r : Fin 16384) (h : Fin 4) (m : Fin 256) : EReal :=
  logit (fun d => proj (ix2 r (⟨3584 + 128 * h.val + d.val, by omega⟩ : Fin 10240)))
    (fun d => mkv (ix3 (seqOf r) m (⟨128 * h.val + d.val, by omega⟩ : Fin 1024)))

/-- The memory's values at one feature of a head. -/
def values (r : Fin 16384) (h : Fin 4) (d : Fin 128) (m : Fin 256) : EReal :=
  mkv (ix3 (seqOf r) m (⟨512 + 128 * h.val + d.val, by omega⟩ : Fin 1024))

/-- A row's attention to the memory, the four heads side by side. -/
def memory (r : Fin 16384) (e : Fin 512) : EReal :=
  heads (fun d => attend (logits mkv proj r 0) (values mkv r 0 d)) (fun d => attend (logits mkv proj r 1) (values mkv r 1 d))
    (fun d => attend (logits mkv proj r 2) (values mkv r 2 d)) (fun d => attend (logits mkv proj r 3) (values mkv r 3 d)) e

/-- The three branches' projections under their gates. -/
def mixed (r : Fin 16384) (j : Fin 2048) : EReal :=
  (∑ k : Fin 768, oa (ix2 r k) * wb (ix3 (0 : Fin 4) (⟨k.val, by omega⟩ : Fin 2048) j)) * gate (proj (ix2 r (⟨4096 + j.val, by omega⟩ : Fin 10240)))
    + (∑ k : Fin 768, ob (ix2 r k) * wb (ix3 (0 : Fin 4) (⟨768 + k.val, by omega⟩ : Fin 2048) j))
      * gate (proj (ix2 r (⟨6144 + j.val, by omega⟩ : Fin 10240)))
    + (∑ e : Fin 512, memory mkv proj r e * wb (ix3 (0 : Fin 4) (⟨1536 + e.val, by omega⟩ : Fin 2048) j))
      * gate (proj (ix2 r (⟨8192 + j.val, by omega⟩ : Fin 10240)))

/-- The residual sum. -/
def resid (r : Fin 16384) (p : Fin 2048) : EReal :=
  Ideal.ofBits .f32 0x3FD744FD#32 * x (ix2 r p) + ∑ j : Fin 2048, mixed oa ob mkv proj wb r j * wo (ix3 (0 : Fin 4) j p)

end Layer

/-! ## What the body leaves in the result block -/

section Body

variable (oa ob : S16384x768.Idx → EReal) (mkv : S8x256x1024.Idx → EReal) (proj : S16384x10240.Idx → EReal) (x : S16384x2048.Idx → EReal)
  (wb wo : S4x2048x2048.Idx → EReal)

variable (x0 x1 : Vec Ideal S256x768 .bf16) (x2 : Vec Ideal S256x512 .bf16) (x3 : Vec Ideal S1x256x1024 .bf16) (x4 x5 x6 : Vec Ideal S256x2048 .bf16)
  (x7 : Vec Ideal S256x2048 .f32) (x8 x9 : Vec Ideal S1x2048x2048 .bf16) (x10 x11 : Vec Ideal S1x1x2048 .f32)

/-- The residual sum the body forms, from blocks that are rows and columns of the arrays. -/
theorem sum_apply (r' : Fin 256) (r : Fin 16384)
    (h0 : ∀ k : Fin 768, x0 (ix2 r' k) = oa (ix2 r k)) (h1 : ∀ k : Fin 768, x1 (ix2 r' k) = ob (ix2 r k))
    (h2 : ∀ d : Fin 512, x2 (ix2 r' d) = proj (ix2 r (⟨3584 + d.val, by omega⟩ : Fin 10240)))
    (h3 : ∀ (m : Fin 256) (d : Fin 1024), x3 (ix3 (0 : Fin 1) m d) = mkv (ix3 (seqOf r) m d))
    (h4 : ∀ j : Fin 2048, x4 (ix2 r' j) = proj (ix2 r (⟨4096 + j.val, by omega⟩ : Fin 10240)))
    (h5 : ∀ j : Fin 2048, x5 (ix2 r' j) = proj (ix2 r (⟨6144 + j.val, by omega⟩ : Fin 10240)))
    (h6 : ∀ j : Fin 2048, x6 (ix2 r' j) = proj (ix2 r (⟨8192 + j.val, by omega⟩ : Fin 10240)))
    (h7 : ∀ j : Fin 2048, x7 (ix2 r' j) = x (ix2 r j))
    (h8 : ∀ k j : Fin 2048, x8 (ix3 (0 : Fin 1) k j) = wb (ix3 (0 : Fin 4) k j))
    (h9 : ∀ k j : Fin 2048, x9 (ix3 (0 : Fin 1) k j) = wo (ix3 (0 : Fin 4) k j)) (p : Fin 2048) :
    (k0_pay11 (F := Ideal) (k0_pay2 (F := Ideal) (View.ld x0 r0_0) (View.ld x8 r0_1) (View.ld x4 r0_2) (View.ld x1 r0_0) (View.ld x8 r0_3) (View.ld x5 r0_2))
        (k0_pay4 (F := Ideal) (View.ld x2 r0_4) (k0_pay3 (F := Ideal) (View.ld x3 r0_5)) (View.ld x3 r0_6))
        (k0_pay5 (F := Ideal) (View.ld x2 r0_7) (View.ld x3 r0_8) (View.ld x3 r0_9))
        (k0_pay6 (F := Ideal) (View.ld x2 r0_10) (View.ld x3 r0_11) (View.ld x3 r0_12))
        (k0_pay7 (F := Ideal) (View.ld x3 r0_15)) (k0_pay9 (F := Ideal) (View.ld x2 r0_13) (View.ld x3 r0_14))
        (k0_pay10 (F := Ideal) (View.ld x2 r0_13) (View.ld x3 r0_14)) (constant S256x128 .f32 0x00000000#32)
        (View.ld x8 r0_16) (View.ld x6 r0_2) (View.ld x9 r0_17) (View.ld x7 r0_2) : S256x2048.Idx → EReal) (ix2 r' p)
      = resid oa ob mkv proj x wb wo r p := by
  -- the loads at an index
  have l0 : ∀ k : Fin 768, (View.ld x0 r0_0 : S256x768.Idx → EReal) (ix2 r' k) = oa (ix2 r k) := fun k =>
    (View.ld_unit_apply_of x0 _ _ _ _ (ix2 r' k) (fun a => by match a with | 0 => simp [ix2] | 1 => simp [ix2])).trans (h0 k)
  have l1 : ∀ k : Fin 768, (View.ld x1 r0_0 : S256x768.Idx → EReal) (ix2 r' k) = ob (ix2 r k) := fun k =>
    (View.ld_unit_apply_of x1 _ _ _ _ (ix2 r' k) (fun a => by match a with | 0 => simp [ix2] | 1 => simp [ix2])).trans (h1 k)
  have l4 : ∀ j : Fin 2048, (View.ld x4 r0_2 : S256x2048.Idx → EReal) (ix2 r' j) = _ := fun j =>
    (View.ld_unit_apply_of x4 _ _ _ _ (ix2 r' j) (fun a => by match a with | 0 => simp [ix2] | 1 => simp [ix2])).trans (h4 j)
  have l5 : ∀ j : Fin 2048, (View.ld x5 r0_2 : S256x2048.Idx → EReal) (ix2 r' j) = _ := fun j =>
    (View.ld_unit_apply_of x5 _ _ _ _ (ix2 r' j) (fun a => by match a with | 0 => simp [ix2] | 1 => simp [ix2])).trans (h5 j)
  have l6 : ∀ j : Fin 2048, (View.ld x6 r0_2 : S256x2048.Idx → EReal) (ix2 r' j) = _ := fun j =>
    (View.ld_unit_apply_of x6 _ _ _ _ (ix2 r' j) (fun a => by match a with | 0 => simp [ix2] | 1 => simp [ix2])).trans (h6 j)
  have l7 : ∀ j : Fin 2048, (View.ld x7 r0_2 : S256x2048.Idx → EReal) (ix2 r' j) = _ := fun j =>
    (View.ld_unit_apply_of x7 _ _ _ _ (ix2 r' j) (fun a => by match a with | 0 => simp [ix2] | 1 => simp [ix2])).trans (h7 j)
  have l9 : ∀ k j : Fin 2048, (View.ld x9 r0_17 : S1x2048x2048.Idx → EReal) (ix3 (0 : Fin 1) k j) = _ := fun k j =>
    (View.ld_unit_apply_of x9 _ _ _ _ (ix3 (0 : Fin 1) k j) (fun a => by match a with | 0 => simp [ix3] | 1 => simp [ix3] | 2 => simp [ix3])).trans (h9 k j)
  have l8a : ∀ (k : Fin 768) (j : Fin 2048), (View.ld x8 r0_1 : S1x768x2048.Idx → EReal) (ix3 (0 : Fin 1) k j)
      = wb (ix3 (0 : Fin 4) (⟨k.val, by omega⟩ : Fin 2048) j) := fun k j =>
    (View.ld_unit_apply_of x8 _ _ _ _ (ix3 (0 : Fin 1) (⟨k.val, by omega⟩ : Fin 2048) j)
      (fun a => by match a with | 0 => simp [ix3] | 1 => simp [ix3] | 2 => simp [ix3])).trans (h8 _ j)
  have l8b : ∀ (k : Fin 768) (j : Fin 2048), (View.ld x8 r0_3 : S1x768x2048.Idx → EReal) (ix3 (0 : Fin 1) k j)
      = wb (ix3 (0 : Fin 4) (⟨768 + k.val, by omega⟩ : Fin 2048) j) := fun k j =>
    (View.ld_unit_apply_of x8 _ _ _ _ (ix3 (0 : Fin 1) (⟨768 + k.val, by omega⟩ : Fin 2048) j)
      (fun a => by match a with | 0 => simp [ix3] | 1 => simp [ix3] | 2 => simp [ix3])).trans (h8 _ j)
  have l8c : ∀ (k : Fin 512) (j : Fin 2048), (View.ld x8 r0_16 : S1x512x2048.Idx → EReal) (ix3 (0 : Fin 1) k j)
      = wb (ix3 (0 : Fin 4) (⟨1536 + k.val, by omega⟩ : Fin 2048) j) := fun k j =>
    (View.ld_unit_apply_of x8 _ _ _ _ (ix3 (0 : Fin 1) (⟨1536 + k.val, by omega⟩ : Fin 2048) j)
      (fun a => by match a with | 0 => simp [ix3] | 1 => simp [ix3] | 2 => simp [ix3])).trans (h8 _ j)
  have lq : ∀ (o : ℕ) (inb : ∀ a, (![0, o] : Fin 2 → ℕ) a + S256x128.size a ≤ S256x512.size a) (d : Fin 128) (ho : o + d.val < 512),
      (View.ld x2 (Rect.unit (s := S256x512) ![0, o] S256x128.size inb) : S256x128.Idx → EReal) (ix2 r' d)
        = proj (ix2 r (⟨3584 + o + d.val, by omega⟩ : Fin 10240)) := fun o inb d ho =>
    (View.ld_unit_apply_of x2 _ _ _ _ (ix2 r' (⟨o + d.val, ho⟩ : Fin 512)) (fun a => by match a with | 0 => simp [ix2] | 1 => simp [ix2])).trans
      ((h2 _).trans (by congr 2; refine Fin.ext ?_; show 3584 + (o + d.val) = 3584 + o + d.val; omega))
  have lk : ∀ (o : ℕ) (inb : ∀ a, (![0, 0, o] : Fin 3 → ℕ) a + S1x256x128.size a ≤ S1x256x1024.size a) (m : Fin 256) (d : Fin 128) (ho : o + d.val < 1024),
      (View.ld x3 (Rect.unit (s := S1x256x1024) ![0, 0, o] S1x256x128.size inb) : S1x256x128.Idx → EReal) (ix3 (0 : Fin 1) m d)
        = mkv (ix3 (seqOf r) m (⟨o + d.val, ho⟩ : Fin 1024)) := fun o inb m d ho =>
    (View.ld_unit_apply_of x3 _ _ _ _ (ix3 (0 : Fin 1) m (⟨o + d.val, ho⟩ : Fin 1024))
      (fun a => by match a with | 0 => simp [ix3] | 1 => simp [ix3] | 2 => simp [ix3])).trans (h3 _ _)
  rw [pay11_apply]
  unfold resid
  rw [l7]
  refine congrArg₂ (fun a b : EReal => a + b) rfl (Finset.sum_congr rfl fun j _ => ?_)
  rw [l9, pay2_apply, l4, l5, l6]
  refine congrArg₂ (fun a b : EReal => a * b) ?_ rfl
  unfold mixed
  refine congrArg₂ (fun a b : EReal => a + b) (congrArg₂ (fun a b : EReal => a + b) ?_ ?_) ?_
  · refine congrArg₂ (fun a b : EReal => a * b) (Finset.sum_congr rfl fun k _ => ?_) rfl
    rw [l0, l8a]
  · refine congrArg₂ (fun a b : EReal => a * b) (Finset.sum_congr rfl fun k _ => ?_) rfl
    rw [l1, l8b]
  · refine congrArg₂ (fun a b : EReal => a * b) (Finset.sum_congr rfl fun e _ => ?_) rfl
    rw [l8c]
    refine congrArg₂ (fun a b : EReal => a * b) ?_ rfl
    unfold memory
    congr 1
    · funext d
      rw [pay4_apply]
      refine congrArg₂ attend (funext fun m => congrArg₂ logit (funext fun e => lq 0 _ e (by omega)) (funext fun e => ?_)) (funext fun m => ?_)
      · exact (lk 0 _ m e (by omega)).trans rfl
      · exact (lk 512 _ m d (by omega)).trans rfl
    · funext d
      rw [pay5_apply]
      refine congrArg₂ attend (funext fun m => congrArg₂ logit (funext fun e => lq 128 _ e (by omega)) (funext fun e => ?_)) (funext fun m => ?_)
      · exact (lk 128 _ m e (by omega)).trans rfl
      · exact (lk 640 _ m d (by omega)).trans rfl
    · funext d
      rw [pay6_apply]
      refine congrArg₂ attend (funext fun m => congrArg₂ logit (funext fun e => lq 256 _ e (by omega)) (funext fun e => ?_)) (funext fun m => ?_)
      · exact (lk 256 _ m e (by omega)).trans rfl
      · exact (lk 768 _ m d (by omega)).trans rfl
    · funext d
      refine congrArg₂ attend (funext fun m => congrArg₂ logit (funext fun e => lq 384 _ e (by omega)) (funext fun e => ?_)) (funext fun m => ?_)
      · exact (lk 384 _ m e (by omega)).trans rfl
      · exact (lk 896 _ m d (by omega)).trans rfl

end Body

end Cert.Proof.Mix

end
-- ==== Proof.Mix.Run.lean ====
/-
  The mixing call at the extended reals: what each grid point writes back, and the array the run leaves.
-/
module

public import proofs.«01_k».proof.Proof.Mix.Value

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.Proof.Mix

open Cert.MixIdeal Cert.MixIdeal.Gen
open Cert.Proof.Ffn (mean variance)

/-! ## The index maps -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 7] := (by decide +kernel : ∀ t : Fin grid0.N, win0_2.index t = ![t.val, 7])
theorem index3 : ∀ t : Fin cfg0.N, win0_3.index t = ![t.val / 8, 0, 0] := (by decide +kernel : ∀ t : Fin grid0.N, win0_3.index t = ![t.val / 8, 0, 0])
theorem index4 : ∀ t : Fin cfg0.N, win0_4.index t = ![t.val, 2] := (by decide +kernel : ∀ t : Fin grid0.N, win0_4.index t = ![t.val, 2])
theorem index5 : ∀ t : Fin cfg0.N, win0_5.index t = ![t.val, 3] := (by decide +kernel : ∀ t : Fin grid0.N, win0_5.index t = ![t.val, 3])
theorem index6 : ∀ t : Fin cfg0.N, win0_6.index t = ![t.val, 4] := (by decide +kernel : ∀ t : Fin grid0.N, win0_6.index t = ![t.val, 4])
theorem index7 : ∀ t : Fin cfg0.N, win0_7.index t = ![t.val, 0] := (by decide +kernel : ∀ t : Fin grid0.N, win0_7.index t = ![t.val, 0])
theorem index8 : ∀ t : Fin cfg0.N, win0_8.index t = ![0, 0, 0] := (by decide +kernel : ∀ t : Fin grid0.N, win0_8.index t = ![0, 0, 0])
theorem index9 : ∀ t : Fin cfg0.N, win0_9.index t = ![0, 0, 0] := (by decide +kernel : ∀ t : Fin grid0.N, win0_9.index t = ![0, 0, 0])
theorem index10 : ∀ t : Fin cfg0.N, win0_10.index t = ![1, 0, 0] := (by decide +kernel : ∀ t : Fin grid0.N, win0_10.index t = ![1, 0, 0])
theorem index11 : ∀ t : Fin cfg0.N, win0_11.index t = ![1, 0, 0] := (by decide +kernel : ∀ t : Fin grid0.N, win0_11.index t = ![1, 0, 0])
theorem index12 : ∀ t : Fin cfg0.N, win0_12.index t = ![t.val, 0] := (by decide +kernel : ∀ t : Fin grid0.N, win0_12.index t = ![t.val, 0])

variable (m : (ℓ : Loc nD τ sig) → Buf (Elt Ideal) ℓ) (ρ : Dev nD → PrngReg)

abbrev oaOf (c : Dev nD) : S16384x768.Idx → EReal := m ((c : Thread nD τ).loc main_arg0)
abbrev obOf (c : Dev nD) : S16384x768.Idx → EReal := m ((c : Thread nD τ).loc main_arg1)
abbrev mkvOf (c : Dev nD) : S8x256x1024.Idx → EReal := m ((c : Thread nD τ).loc main_arg2)
abbrev projOf (c : Dev nD) : S16384x10240.Idx → EReal := m ((c : Thread nD τ).loc main_arg3)
abbrev xOf (c : Dev nD) : S16384x2048.Idx → EReal := m ((c : Thread nD τ).loc main_arg4)
abbrev wbOf (c : Dev nD) : S4x2048x2048.Idx → EReal := m ((c : Thread nD τ).loc main_arg5)
abbrev woOf (c : Dev nD) : S4x2048x2048.Idx → EReal := m ((c : Thread nD τ).loc main_arg6)
abbrev gOf (c : Dev nD) : S12x1x2048.Idx → EReal := m ((c : Thread nD τ).loc main_arg7)
abbrev bOf (c : Dev nD) : S12x1x2048.Idx → EReal := m ((c : Thread nD τ).loc main_arg8)

/-- Row `j` of a point's row block, in the array. -/
def rowOf (t : Fin cfg0.N) (j : Fin 256) : Fin 16384 := ⟨t.val * 256 + j.val, by
  have hN : cfg0.N = 64 := N_0
  have ht := t.isLt
  omega⟩

theorem seq_row (t : Fin cfg0.N) (j : Fin 256) : (seqOf (rowOf t j)).val = t.val / 8 := by
  show (t.val * 256 + j.val) / 2048 = t.val / 8
  omega

/-! ## The blocks -/

/-- The row-and-column windows: column block `q` of the row block. -/
theorem block_oa (c : Dev nD) (t : Fin cfg0.N) (j : Fin 256) (k : Fin 768) :
    (iblk m c 0 t : S256x768.Idx → EReal) (ix2 j k) = oaOf m c (ix2 (rowOf t j) k) := by
  unfold iblk
  rw [View.read_apply]
  show m ((c : Thread nD τ).loc main_arg0) _ = _
  congr 1; funext a; apply Fin.ext
  match a with
  | ⟨0, _⟩ => show win0_0.index t 0 * 256 + 1 * j.val = t.val * 256 + j.val
              rw [index0]; show t.val * 256 + 1 * j.val = _; omega
  | ⟨1, _⟩ => show win0_0.index t 1 * 768 + 1 * k.val = k.val
              rw [index0]; show 0 * 768 + 1 * k.val = _; omega

theorem block_ob (c : Dev nD) (t : Fin cfg0.N) (j : Fin 256) (k : Fin 768) :
    (iblk m c 1 t : S256x768.Idx → EReal) (ix2 j k) = obOf m c (ix2 (rowOf t j) k) := by
  unfold iblk
  rw [View.read_apply]
  show m ((c : Thread nD τ).loc main_arg1) _ = _
  congr 1; funext a; apply Fin.ext
  match a with
  | ⟨0, _⟩ => show win0_1.index t 0 * 256 + 1 * j.val = t.val * 256 + j.val
              rw [index1]; show t.val * 256 + 1 * j.val = _; omega
  | ⟨1, _⟩ => show win0_1.index t 1 * 768 + 1 * k.val = k.val
              rw [index1]; show 0 * 768 + 1 * k.val = _; omega

theorem block_q (c : Dev nD) (t : Fin cfg0.N) (j : Fin 256) (d : Fin 512) :
    (iblk m c 2 t : S256x512.Idx → EReal) (ix2 j d) = projOf m c (ix2 (rowOf t j) (⟨3584 + d.val, by omega⟩ : Fin 10240)) := by
  unfold iblk
  rw [View.read_apply]
  show m ((c : Thread nD τ).loc main_arg3) _ = _
  congr 1; funext a; apply Fin.ext
  match a with
  | ⟨0, _⟩ => show win0_2.index t 0 * 256 + 1 * j.val = t.val * 256 + j.val
              rw [index2]; show t.val * 256 + 1 * j.val = _; omega
  | ⟨1, _⟩ => show win0_2.index t 1 * 512 + 1 * d.val = 3584 + d.val
              rw [index2]; show 7 * 512 + 1 * d.val = _; omega

theorem block_mkv (c : Dev nD) (t : Fin cfg0.N) (j : Fin 256) (n : Fin 256) (d : Fin 1024) :
    (iblk m c 3 t : S1x256x1024.Idx → EReal) (ix3 (0 : Fin 1) n d) = mkvOf m c (ix3 (seqOf (rowOf t j)) n d) := by
  unfold iblk
  rw [View.read_apply]
  show m ((c : Thread nD τ).loc main_arg2) _ = _
  congr 1; funext a; apply Fin.ext
  match a with
  | ⟨0, _⟩ => show win0_3.index t 0 * 1 + 1 * 0 = (seqOf (rowOf t j)).val
              rw [index3, seq_row]; show t.val / 8 * 1 + 1 * 0 = _; omega
  | ⟨1, _⟩ => show win0_3.index t 1 * 256 + 1 * n.val = n.val
              rw [index3]; show 0 * 256 + 1 * n.val = _; omega
  | ⟨2, _⟩ => show win0_3.index t 2 * 1024 + 1 * d.val = d.val
              rw [index3]; show 0 * 1024 + 1 * d.val = _; omega

theorem block_ga (c : Dev nD) (t : Fin cfg0.N) (j : Fin 256) (d : Fin 2048) :
    (iblk m c 4 t : S256x2048.Idx → EReal) (ix2 j d) = projOf m c (ix2 (rowOf t j) (⟨4096 + d.val, by omega⟩ : Fin 10240)) := by
  unfold iblk
  rw [View.read_apply]
  show m ((c : Thread nD τ).loc main_arg3) _ = _
  congr 1; funext a; apply Fin.ext
  match a with
  | ⟨0, _⟩ => show win0_4.index t 0 * 256 + 1 * j.val = t.val * 256 + j.val
              rw [index4]; show t.val * 256 + 1 * j.val = _; omega
  | ⟨1, _⟩ => show win0_4.index t 1 * 2048 + 1 * d.val = 4096 + d.val
              rw [index4]; show 2 * 2048 + 1 * d.val = _; omega

theorem block_gb (c : Dev nD) (t : Fin cfg0.N) (j : Fin 256) (d : Fin 2048) :
    (iblk m c 5 t : S256x2048.Idx → EReal) (ix2 j d) = projOf m c (ix2 (rowOf t j) (⟨6144 + d.val, by omega⟩ : Fin 10240)) := by
  unfold iblk
  rw [View.read_apply]
  show m ((c : Thread nD τ).loc main_arg3) _ = _
  congr 1; funext a; apply Fin.ext
  match a with
  | ⟨0, _⟩ => show win0_5.index t 0 * 256 + 1 * j.val = t.val * 256 + j.val
              rw [index5]; show t.val * 256 + 1 * j.val = _; omega
  | ⟨1, _⟩ => show win0_5.index t 1 * 2048 + 1 * d.val = 6144 + d.val
              rw [index5]; show 3 * 2048 + 1 * d.val = _; omega

theorem block_gc (c : Dev nD) (t : Fin cfg0.N) (j : Fin 256) (d : Fin 2048) :
    (iblk m c 6 t : S256x2048.Idx → EReal) (ix2 j d) = projOf m c (ix2 (rowOf t j) (⟨8192 + d.val, by omega⟩ : Fin 10240)) := by
  unfold iblk
  rw [View.read_apply]
  show m ((c : Thread nD τ).loc main_arg3) _ = _
  congr 1; funext a; apply Fin.ext
  match a with
  | ⟨0, _⟩ => show win0_6.index t 0 * 256 + 1 * j.val = t.val * 256 + j.val
              rw [index6]; show t.val * 256 + 1 * j.val = _; omega
  | ⟨1, _⟩ => show win0_6.index t 1 * 2048 + 1 * d.val = 8192 + d.val
              rw [index6]; show 4 * 2048 + 1 * d.val = _; omega

theorem block_x (c : Dev nD) (t : Fin cfg0.N) (j : Fin 256) (k : Fin 2048) :
    (iblk m c 7 t : S256x2048.Idx → EReal) (ix2 j k) = xOf m c (ix2 (rowOf t j) k) := by
  unfold iblk
  rw [View.read_apply]
  show m ((c : Thread nD τ).loc main_arg4) _ = _
  congr 1; funext a; apply Fin.ext
  match a with
  | ⟨0, _⟩ => show win0_7.index t 0 * 256 + 1 * j.val = t.val * 256 + j.val
              rw [index7]; show t.val * 256 + 1 * j.val = _; omega
  | ⟨1, _⟩ => show win0_7.index t 1 * 2048 + 1 * k.val = k.val
              rw [index7]; show 0 * 2048 + 1 * k.val = _; omega

theorem block_wb (c : Dev nD) (t : Fin cfg0.N) (k j : Fin 2048) :
    (iblk m c 8 t : S1x2048x2048.Idx → EReal) (ix3 (0 : Fin 1) k j) = wbOf m c (ix3 (0 : Fin 4) k j) := by
  unfold iblk
  rw [View.read_apply]
  show m ((c : Thread nD τ).loc main_arg5) _ = _
  congr 1; funext a; apply Fin.ext
  match a with
  | ⟨0, _⟩ => show win0_8.index t 0 * 1 + 1 * 0 = 0
              rw [index8]; rfl
  | ⟨1, _⟩ => show win0_8.index t 1 * 2048 + 1 * k.val = k.val
              rw [index8]; show 0 * 2048 + 1 * k.val = _; omega
  | ⟨2, _⟩ => show win0_8.index t 2 * 2048 + 1 * j.val = j.val
              rw [index8]; show 0 * 2048 + 1 * j.val = _; omega

theorem block_wo (c : Dev nD) (t : Fin cfg0.N) (k j : Fin 2048) :
    (iblk m c 9 t : S1x2048x2048.Idx → EReal) (ix3 (0 : Fin 1) k j) = woOf m c (ix3 (0 : Fin 4) k j) := by
  unfold iblk
  rw [View.read_apply]
  show m ((c : Thread nD τ).loc main_arg6) _ = _
  congr 1; funext a; apply Fin.ext
  match a with
  | ⟨0, _⟩ => show win0_9.index t 0 * 1 + 1 * 0 = 0
              rw [index9]; rfl
  | ⟨1, _⟩ => show win0_9.index t 1 * 2048 + 1 * k.val = k.val
              rw [index9]; show 0 * 2048 + 1 * k.val = _; omega
  | ⟨2, _⟩ => show win0_9.index t 2 * 2048 + 1 * j.val = j.val
              rw [index9]; show 0 * 2048 + 1 * j.val = _; omega

theorem block_scale (c : Dev nD) (t : Fin cfg0.N) (k : Fin 2048) :
    (iblk m c 10 t : S1x1x2048.Idx → EReal) (ix3 (0 : Fin 1) (0 : Fin 1) k) = gOf m c (ix3 (1 : Fin 12) (0 : Fin 1) k) := by
  unfold iblk
  rw [View.read_apply]
  show m ((c : Thread nD τ).loc main_arg7) _ = _
  congr 1; funext a; apply Fin.ext
  match a with
  | ⟨0, _⟩ => show win0_10.index t 0 * 1 + 1 * 0 = 1
              rw [index10]; rfl
  | ⟨1, _⟩ => show win0_10.index t 1 * 1 + 1 * 0 = 0
              rw [index10]; rfl
  | ⟨2, _⟩ => show win0_10.index t 2 * 2048 + 1 * k.val = k.val
              rw [index10]; show 0 * 2048 + 1 * k.val = _; omega

theorem block_shift (c : Dev nD) (t : Fin cfg0.N) (k : Fin 2048) :
    (iblk m c 11 t : S1x1x2048.Idx → EReal) (ix3 (0 : Fin 1) (0 : Fin 1) k) = bOf m c (ix3 (1 : Fin 12) (0 : Fin 1) k) := by
  unfold iblk
  rw [View.read_apply]
  show m ((c : Thread nD τ).loc main_arg8) _ = _
  congr 1; funext a; apply Fin.ext
  match a with
  | ⟨0, _⟩ => show win0_11.index t 0 * 1 + 1 * 0 = 1
              rw [index11]; rfl
  | ⟨1, _⟩ => show win0_11.index t 1 * 1 + 1 * 0 = 0
              rw [index11]; rfl
  | ⟨2, _⟩ => show win0_11.index t 2 * 2048 + 1 * k.val = k.val
              rw [index11]; show 0 * 2048 + 1 * k.val = _; omega

/-! ## What a point leaves, and the array -/

/-- The result: the norm of the residual sum. -/
def out (c : Dev nD) : Buf (Elt Ideal) ((c : Thread nD τ).loc main_v0) := fun i : S16384x2048.Idx =>
  Ffn.norm (resid (oaOf m c) (obOf m c) (mkvOf m c) (projOf m c) (xOf m c) (wbOf m c) (woOf m c) (i 0)) (i 1)
    (gOf m c (ix3 (1 : Fin 12) (0 : Fin 1) (i 1))) (bOf m c (ix3 (1 : Fin 12) (0 : Fin 1) (i 1)))

theorem left_apply (c : Dev nD) (t : Fin cfg0.N) (j : Fin 256) (p : Fin 2048) :
    (out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) : S256x2048.Idx → EReal) (ix2 j p)
      = Ffn.norm (resid (oaOf m c) (obOf m c) (mkvOf m c) (projOf m c) (xOf m c) (wbOf m c) (woOf m c) (rowOf t j)) p
          (gOf m c (ix3 (1 : Fin 12) (0 : Fin 1) p)) (bOf m c (ix3 (1 : Fin 12) (0 : Fin 1) p)) := by
  have z2 : (![0, 0] : Fin 2 → ℕ) = fun _ => 0 := by funext a; match a with | 0 => rfl | 1 => rfl
  have z3 : (![0, 0, 0] : Fin 3 → ℕ) = fun _ => 0 := by funext a; match a with | 0 => rfl | 1 => rfl | 2 => rfl
  have hs := sum_apply (oaOf m c) (obOf m c) (mkvOf m c) (projOf m c) (xOf m c) (wbOf m c) (woOf m c)
    (iblk m c 0 t) (iblk m c 1 t) (iblk m c 2 t) (iblk m c 3 t) (iblk m c 4 t) (iblk m c 5 t) (iblk m c 6 t) (iblk m c 7 t)
    (iblk m c 8 t) (iblk m c 9 t) j (rowOf t j)
    (block_oa m c t j) (block_ob m c t j) (block_q m c t j) (block_mkv m c t j) (block_ga m c t j) (block_gb m c t j) (block_gc m c t j)
    (block_x m c t j) (block_wb m c t) (block_wo m c t)
  unfold out0_12 k0_pay15 k0_pay16 k0_pay17 k0_pay19 k0_pay20 k0_pay21 k0_pay22 k0_pay18
  rw [View.canon_unit_zero (S := S256x2048) z2]
  refine (pay1_apply _ _ _ _ j p (fun p => pay14_apply _ _ _ _ _ _ _ _ _ _ _ _ j p)).trans ?_
  rw [View.ld_unit_zero (S := S1x1x2048) z3, View.ld_unit_zero (S := S1x1x2048) z3, block_scale, block_shift]
  refine congrArg (fun z => Ffn.norm z p _ _) (funext hs)

theorem flushed_out (c : Dev nD) (t : Fin cfg0.N) :
    (dats m 0 c).flushed 12 t = ((cfg0.win 12).blk t).view.read (Elt Ideal) (out m c) := by
  rw [Value.flushed12]
  funext y
  rw [View.read_apply]
  have hy0 : (y 0).val < 256 := (y 0).isLt
  have hy1 : (y 1).val < 2048 := (y 1).isLt
  have hb0 : (((cfg0.win 12).blk t).view.emb y 0).val = win0_12.index t (0 : Fin 2) * 256 + 1 * (y 0).val := rfl
  have hb1 : (((cfg0.win 12).blk t).view.emb y 1).val = win0_12.index t (1 : Fin 2) * 2048 + 1 * (y 1).val := rfl
  rw [index12 t] at hb0 hb1
  have hb0' : (((cfg0.win 12).blk t).view.emb y 0).val = t.val * 256 + 1 * (y 0).val := hb0
  have hb1' : (((cfg0.win 12).blk t).view.emb y 1).val = 0 * 2048 + 1 * (y 1).val := hb1
  have e0 : (((cfg0.win 12).blk t).view.emb y 0 : Fin 16384) = rowOf t ⟨(y 0).val, hy0⟩ := Fin.ext (by
    show _ = t.val * 256 + (y 0).val; omega)
  have e1 : (((cfg0.win 12).blk t).view.emb y 1 : Fin 2048) = ⟨(y 1).val, hy1⟩ := Fin.ext (by show _ = (y 1).val; omega)
  have ey : (cfg0.win 12).xinj (grid0.coords t) y = ix2 (⟨(y 0).val, hy0⟩ : Fin 256) (⟨(y 1).val, hy1⟩ : Fin 2048) := by
    funext a; match a with | ⟨0, _⟩ => rfl | ⟨1, _⟩ => rfl
  show (out0_12 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) : S256x2048.Idx → EReal) ((cfg0.win 12).xinj (grid0.coords t) y) = _
  rw [ey]
  refine (left_apply m c t _ _).trans ?_
  show _ = Ffn.norm (resid (oaOf m c) (obOf m c) (mkvOf m c) (projOf m c) (xOf m c) (wbOf m c) (woOf m c)
      (((cfg0.win 12).blk t).view.emb y 0 : Fin 16384)) (((cfg0.win 12).blk t).view.emb y 1 : Fin 2048)
    (gOf m c (ix3 (1 : Fin 12) (0 : Fin 1) (((cfg0.win 12).blk t).view.emb y 1 : Fin 2048)))
    (bOf m c (ix3 (1 : Fin 12) (0 : Fin 1) (((cfg0.win 12).blk t).view.emb y 1 : Fin 2048)))
  rw [e0, e1]
  rfl

theorem covered (i : S16384x2048.Idx) : ∃ t : Fin cfg0.N, (cfg0.win 12).flush t = true ∧ i ∈ ((cfg0.win 12).blk t).view.set := by
  have hN : cfg0.N = 64 := N_0
  have h0 : (i 0).val < 16384 := (i 0).isLt
  have h1 : (i 1).val < 2048 := (i 1).isLt
  have ht : (i 0).val / 256 < cfg0.N := by omega
  refine ⟨⟨(i 0).val / 256, ht⟩, flush0_12 _, ?_⟩
  show i ∈ ((View.whole main_v0).slice (win0_12.rect ⟨(i 0).val / 256, ht⟩)).set
  rw [View.set_slice_whole, Rect.mem_set_unit]
  intro a
  have e := index12 ⟨(i 0).val / 256, ht⟩
  match a with
  | ⟨0, _⟩ =>
    show win0_12.index ⟨(i 0).val / 256, ht⟩ (0 : Fin 2) * 256 ≤ (i 0).val ∧ (i 0).val < win0_12.index ⟨(i 0).val / 256, ht⟩ (0 : Fin 2) * 256 + 256
    have q : win0_12.index ⟨(i 0).val / 256, ht⟩ (0 : Fin 2) = (i 0).val / 256 := congrFun e 0
    omega
  | ⟨1, _⟩ =>
    show win0_12.index ⟨(i 0).val / 256, ht⟩ (1 : Fin 2) * 2048 ≤ (i 1).val ∧ (i 1).val < win0_12.index ⟨(i 0).val / 256, ht⟩ (1 : Fin 2) * 2048 + 2048
    have q : win0_12.index ⟨(i 0).val / 256, ht⟩ (1 : Fin 2) = 0 := congrFun e 1
    omega

theorem final_out (c : Dev nD) : (dats m 0 c).arrAt 12 cfg0.N = out m c :=
  (dats m 0 c).arrAt_eq_of_cover 12 _ (fun t _ => flushed_out m c t) covered

/-- The kernel's run, read: the result, the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1).trans (final_out m c), (h c).2⟩) (Value.run_blocks m ρ)

end Cert.Proof.Mix

end
-- ==== Proof.Mix.Ref.lean ====
/-
  The mixing call's reference at the extended reals: where queries and keys are real numbers, its result is the kernel's array.
-/
module

public import proofs.«01_k».proof.Proof.Mix.Value
public import proofs.«01_k».proof.Proof.MlaIdeal.Math
public import proofs.«01_k».proof.Proof.Gen.MixRefIdeal.Read

@[expose] public section

set_option maxRecDepth 16384

noncomputable section

open Idealize.ShloMosaic Idealize.ShloMosaic.TcCoe
open Idealize.ShloMosaic.Pointwise

namespace Cert.Proof.Mix

open Cert.Proof.Ffn (mean variance)
open Cert.Proof.MlaIdeal (sum_real sum_coe sum_mul_real fold_max_real)

/-! ## The softmax -/

theorem bot_word : Ideal.ofBits .f32 0xFF800000#32 = (⊥ : EReal) := by
  simp [Ideal.ofBits, Ideal.ieee, -EReal.coe_mul]

theorem unit_word : Ideal.ofBits .f32 0x3F800000#32 = (1 : EReal) := by
  simp [Ideal.ofBits, Ideal.ieee, -EReal.coe_mul]; norm_num

theorem scale_word : ∃ r : ℝ, Ideal.ofBits .f32 0x3DB504F3#32 = r := by
  refine ⟨(Ideal.ofBits .f32 0x3DB504F3#32).toReal, (EReal.coe_toReal ?_ ?_).symm⟩
  · simp [Ideal.ofBits, Ideal.ieee]
    rw [← EReal.coe_mul]
    exact EReal.coe_ne_top _
  · simp [Ideal.ofBits, Ideal.ieee]
    rw [← EReal.coe_mul]
    exact EReal.coe_ne_bot _

theorem logit_real (q k : Fin 128 → EReal) (hq : ∀ d, ∃ r : ℝ, q d = r) (hk : ∀ d, ∃ r : ℝ, k d = r) : ∃ r : ℝ, logit q k = r := by
  obtain ⟨s, hs⟩ := sum_real Finset.univ (fun d => q d * k d) fun d => by
    obtain ⟨a, ha⟩ := hq d
    obtain ⟨b, hb⟩ := hk d
    exact ⟨a * b, by rw [ha, hb, EReal.coe_mul]⟩
  obtain ⟨w, hw⟩ := scale_word
  exact ⟨s * w, by unfold logit; rw [hs, hw, EReal.coe_mul]⟩

/-- Dividing after the sum, as the kernel does, is dividing each weight first, as the reference does: the logits are real, so
the weights' sum is a positive real number. -/
theorem attend_eq (L v : Fin 256 → EReal) (hL : ∀ m, ∃ r : ℝ, L m = r) :
    ∑ m, v m * Ideal.div (weight L m) (∑ k, weight L k) = attend L v := by
  choose l hl using hL
  obtain ⟨M, hM⟩ := fold_max_real Finset.univ L (fun i _ => by rw [hl i]; exact EReal.coe_lt_top _) 0 (Finset.mem_univ _)
    (by rw [hl 0]; exact EReal.bot_lt_coe _)
  have hw : ∀ m, weight L m = ((Real.exp (l m - M) : ℝ) : EReal) := fun m => by
    unfold weight
    rw [bot_word, hM, hl m, ← EReal.coe_sub]
    rfl
  have hS : ∑ k, weight L k = ((∑ k, Real.exp (l k - M) : ℝ) : EReal) := by
    simp only [hw]
    exact sum_coe _ _
  have hpos : 0 < ∑ k, Real.exp (l k - M) := Finset.sum_pos (fun k _ => Real.exp_pos _) Finset.univ_nonempty
  have hne : ((∑ k, Real.exp (l k - M) : ℝ) : EReal) ≠ 0 := fun h => hpos.ne' (EReal.coe_eq_zero.mp h)
  unfold attend Ideal.div
  rw [hS]
  simp only [if_neg hne, ← EReal.coe_inv]
  rw [sum_mul_real _ _ _ (inv_nonneg.2 hpos.le)]
  refine Finset.sum_congr rfl fun m _ => ?_
  rw [mul_comm (weight L m) (v m), mul_assoc]

/-! ## The reference's stages -/

section Read

open Cert.MixRefIdeal.Read Cert.MixRefIdeal Cert.MixRefIdeal.Gen

variable (x0 x1 : (⟨S16384x768, .bf16⟩ : BufTy).Contents (Elt Ideal)) (x2 : (⟨S8x256x1024, .bf16⟩ : BufTy).Contents (Elt Ideal))
  (x3 : (⟨S16384x10240, .bf16⟩ : BufTy).Contents (Elt Ideal)) (x4 : (⟨S16384x2048, .f32⟩ : BufTy).Contents (Elt Ideal))
  (x5 x6 : (⟨S4x2048x2048, .bf16⟩ : BufTy).Contents (Elt Ideal)) (x7 x8 : (⟨S12x1x2048, .f32⟩ : BufTy).Contents (Elt Ideal))

/-- Row `s` of sequence `b`. -/
def flat (b : Fin 8) (s : Fin 2048) : Fin 16384 := ⟨b.val * 2048 + s.val, by omega⟩

theorem seq_flat (b : Fin 8) (s : Fin 2048) : seqOf (flat b s) = b := Fin.ext (by
  show (b.val * 2048 + s.val) / 2048 = b.val
  omega)

theorem key_read (b : Fin 8) (n : Fin 256) (h : Fin 4) (d : Fin 128) :
    val_main_v3 (F := Ideal) x2 (ix4 b n h d) = x2 (ix3 b n (⟨128 * h.val + d.val, by omega⟩ : Fin 1024)) := by
  have hb := b.isLt
  have hn := n.isLt
  have hh := h.isLt
  have hd := d.isLt
  rw [val_main_v3_apply, val_main_v2_apply, val_main_v1_apply, val_main_v0_apply]
  show x2 (idx_main_v1 (idx_main_v2 (idx_main_v3 (ix4 b n h d)))) = _
  generalize hf : ((b.val * 256 + n.val) * 4 + h.val) * 128 + d.val = f
  have f0 : f / 131072 = b.val := by omega
  have f1 : f / 512 % 256 = n.val := by omega
  have f2 : f / 128 % 4 = h.val := by omega
  have f3 : f % 128 = d.val := by omega
  have e : ((((f / 131072) * 256 + f / 512 % 256) * 2 + 0) * 4 + f / 128 % 4) * 128 + f % 128 = b.val * 262144 + n.val * 1024 + h.val * 128 + d.val := by
    rw [f0, f1, f2, f3]; omega
  congr 1; funext a; apply Fin.ext
  match a with
  | ⟨0, _⟩ =>
    show (((((((b.val * 256 + n.val) * 4 + h.val) * 128 + d.val) / 131072 * 256 + (((b.val * 256 + n.val) * 4 + h.val) * 128 + d.val) / 512 % 256) * 2 + 0) * 4
      + (((b.val * 256 + n.val) * 4 + h.val) * 128 + d.val) / 128 % 4) * 128 + (((b.val * 256 + n.val) * 4 + h.val) * 128 + d.val) % 128) / 262144 = b.val
    rw [hf, e]; omega
  | ⟨1, _⟩ =>
    show (((((((b.val * 256 + n.val) * 4 + h.val) * 128 + d.val) / 131072 * 256 + (((b.val * 256 + n.val) * 4 + h.val) * 128 + d.val) / 512 % 256) * 2 + 0) * 4
      + (((b.val * 256 + n.val) * 4 + h.val) * 128 + d.val) / 128 % 4) * 128 + (((b.val * 256 + n.val) * 4 + h.val) * 128 + d.val) % 128) / 1024 % 256 = n.val
    rw [hf, e]; omega
  | ⟨2, _⟩ =>
    show (((((((b.val * 256 + n.val) * 4 + h.val) * 128 + d.val) / 131072 * 256 + (((b.val * 256 + n.val) * 4 + h.val) * 128 + d.val) / 512 % 256) * 2 + 0) * 4
      + (((b.val * 256 + n.val) * 4 + h.val) * 128 + d.val) / 128 % 4) * 128 + (((b.val * 256 + n.val) * 4 + h.val) * 128 + d.val) % 128) % 1024 = 128 * h.val + d.val
    rw [hf, e]; omega

theorem value_read (b : Fin 8) (n : Fin 256) (h : Fin 4) (d : Fin 128) :
    val_main_v5 (F := Ideal) x2 (ix4 b n h d) = x2 (ix3 b n (⟨512 + 128 * h.val + d.val, by omega⟩ : Fin 1024)) := by
  have hb := b.isLt
  have hn := n.isLt
  have hh := h.isLt
  have hd := d.isLt
  rw [val_main_v5_apply, val_main_v4_apply, val_main_v1_apply, val_main_v0_apply]
  show x2 (idx_main_v1 (idx_main_v4 (idx_main_v5 (ix4 b n h d)))) = _
  generalize hf : ((b.val * 256 + n.val) * 4 + h.val) * 128 + d.val = f
  have f0 : f / 131072 = b.val := by omega
  have f1 : f / 512 % 256 = n.val := by omega
  have f2 : f / 128 % 4 = h.val := by omega
  have f3 : f % 128 = d.val := by omega
  have e : ((((f / 131072) * 256 + f / 512 % 256) * 2 + (1 + 0)) * 4 + f / 128 % 4) * 128 + f % 128
      = b.val * 262144 + n.val * 1024 + 512 + h.val * 128 + d.val := by
    rw [f0, f1, f2, f3]; omega
  congr 1; funext a; apply Fin.ext
  match a with
  | ⟨0, _⟩ =>
    show (((((((b.val * 256 + n.val) * 4 + h.val) * 128 + d.val) / 131072 * 256 + (((b.val * 256 + n.val) * 4 + h.val) * 128 + d.val) / 512 % 256) * 2 + (1 + 0)) * 4
      + (((b.val * 256 + n.val) * 4 + h.val) * 128 + d.val) / 128 % 4) * 128 + (((b.val * 256 + n.val) * 4 + h.val) * 128 + d.val) % 128) / 262144 = b.val
    rw [hf, e]; omega
  | ⟨1, _⟩ =>
    show (((((((b.val * 256 + n.val) * 4 + h.val) * 128 + d.val) / 131072 * 256 + (((b.val * 256 + n.val) * 4 + h.val) * 128 + d.val) / 512 % 256) * 2 + (1 + 0)) * 4
      + (((b.val * 256 + n.val) * 4 + h.val) * 128 + d.val) / 128 % 4) * 128 + (((b.val * 256 + n.val) * 4 + h.val) * 128 + d.val) % 128) / 1024 % 256 = n.val
    rw [hf, e]; omega
  | ⟨2, _⟩ =>
    show (((((((b.val * 256 + n.val) * 4 + h.val) * 128 + d.val) / 131072 * 256 + (((b.val * 256 + n.val) * 4 + h.val) * 128 + d.val) / 512 % 256) * 2 + (1 + 0)) * 4
      + (((b.val * 256 + n.val) * 4 + h.val) * 128 + d.val) / 128 % 4) * 128 + (((b.val * 256 + n.val) * 4 + h.val) * 128 + d.val) % 128) % 1024 = 512 + 128 * h.val + d.val
    rw [hf, e]; omega

theorem query_read (b : Fin 8) (s : Fin 2048) (h : Fin 4) (d : Fin 128) :
    val_main_v8 (F := Ideal) x3 (ix4 b s h d) = x3 (ix2 (flat b s) (⟨3584 + 128 * h.val + d.val, by omega⟩ : Fin 10240)) := by
  have hb := b.isLt
  have hs := s.isLt
  have hh := h.isLt
  have hd := d.isLt
  rw [val_main_v8_apply, val_main_v7_apply, val_main_v6_apply]
  show x3 (idx_main_v6 (idx_main_v8 (ix4 b s h d))) = _
  congr 1; funext a; apply Fin.ext
  match a with
  | ⟨0, _⟩ => show (((b.val * 2048 + s.val) * 4 + h.val) * 128 + d.val) / 512 = b.val * 2048 + s.val; omega
  | ⟨1, _⟩ => show 3584 + (((b.val * 2048 + s.val) * 4 + h.val) * 128 + d.val) % 512 = 3584 + 128 * h.val + d.val; omega

theorem logit_read (b : Fin 8) (h : Fin 4) (s : Fin 2048) (n : Fin 256) :
    val_main_v11 (F := Ideal) x2 x3 (ix4 b h s n) = logits x2 x3 (flat b s) h n := by
  rw [val_main_v11_apply, val_main_v10_apply, val_main_cst_apply, val_main_v9_apply]
  show (∑ d : Fin 128, _) * Ideal.ofBits .f32 0x3DB504F3#32 = _
  unfold logits logit
  refine congrArg (fun z : EReal => z * _) (Finset.sum_congr rfl fun d _ => ?_)
  have eq : lidx_main_v9 (ix4 b h s n) d = ix4 b s h d := by
    funext a; match a with | ⟨0, _⟩ => rfl | ⟨1, _⟩ => rfl | ⟨2, _⟩ => rfl | ⟨3, _⟩ => rfl
  have ek : ridx_main_v9 (ix4 b h s n) d = ix4 b n h d := by
    funext a; match a with | ⟨0, _⟩ => rfl | ⟨1, _⟩ => rfl | ⟨2, _⟩ => rfl | ⟨3, _⟩ => rfl
  rw [eq, ek, query_read, key_read, seq_flat]

theorem max_read (b : Fin 8) (h : Fin 4) (s : Fin 2048) :
    val_main_v12 (F := Ideal) x2 x3 (ix3 b h s) = Finset.univ.fold max (Ideal.ofBits .f32 0xFF800000#32) (logits x2 x3 (flat b s) h) := by
  unfold val_main_v12
  haveI : Std.Commutative (max : EReal → EReal → EReal) := ⟨max_comm⟩
  haveI : Std.Associative (max : EReal → EReal → EReal) := ⟨max_assoc⟩
  have hf := Host.reduce_eq_fold (max : EReal → EReal → EReal) (val_main_v11 (F := Ideal) x2 x3) (val_main_cst_0 (F := Ideal)) reducesTo_S8x4x2048x256_S8x4x2048_d3 h_S_ (ix3 b h s)
  have hi : val_main_cst_0 (F := Ideal) (Shape.Idx.first h_S_) = (⊥ : EReal) := bot_word
  rw [hi] at hf
  rw [bot_word]
  refine hf.trans (le_antisymm ?_ ?_)
  · refine (Finset.fold_max_le _).2 ⟨bot_le, fun i hi => ?_⟩
    have hd := (Finset.mem_filter.1 hi).2
    have e : i = ix4 b h s (i 3) := funext fun a => Fin.ext (by
      match a with
      | ⟨0, _⟩ => exact congrArg Fin.val (congrFun hd (0 : Fin 3))
      | ⟨1, _⟩ => exact congrArg Fin.val (congrFun hd (1 : Fin 3))
      | ⟨2, _⟩ => exact congrArg Fin.val (congrFun hd (2 : Fin 3))
      | ⟨3, _⟩ => rfl)
    rw [e]
    refine (logit_read x2 x3 b h s (i 3)).trans_le ?_
    exact (Finset.le_fold_max _).2 (.inr ⟨_, Finset.mem_univ _, le_refl _⟩)
  · refine (Finset.fold_max_le _).2 ⟨bot_le, fun n _ => ?_⟩
    refine (Finset.le_fold_max _).2 (.inr ⟨ix4 b h s n, Finset.mem_filter.2 ⟨Finset.mem_univ _,
      funext fun a => Fin.ext (by match a with | 0 => rfl | 1 => rfl | 2 => rfl)⟩, ?_⟩)
    exact (logit_read x2 x3 b h s n).ge

theorem weight_read (b : Fin 8) (h : Fin 4) (s : Fin 2048) (n : Fin 256) :
    val_main_v16 (F := Ideal) x2 x3 (ix4 b h s n) = weight (logits x2 x3 (flat b s) h) n := by
  rw [val_main_v16_apply, val_main_v15_apply, val_main_v14_apply, val_main_v13_apply, logit_read]
  have e : idx_main_v13 (idx_main_v14 (ix4 b h s n)) = ix3 b h s := by
    funext a; match a with | ⟨0, _⟩ => rfl | ⟨1, _⟩ => rfl | ⟨2, _⟩ => rfl
  rw [e, max_read]
  rfl

theorem prob_read (b : Fin 8) (h : Fin 4) (s : Fin 2048) (n : Fin 256) :
    val_main_v20 (F := Ideal) x2 x3 (ix4 b h s n)
      = Ideal.div (weight (logits x2 x3 (flat b s) h) n) (∑ k, weight (logits x2 x3 (flat b s) h) k) := by
  rw [val_main_v20_apply, val_main_v19_apply, val_main_v18_apply, val_main_v17_apply, val_main_cst_1_apply, weight_read]
  show Ideal.div _ (Ideal.ofBits .f32 0#32 + _) = _
  rw [Ideal.ofBits_zero, zero_add]
  refine congrArg (Ideal.div _) (Finset.sum_congr rfl fun k _ => ?_)
  have e : idx_main_v17 (idx_main_v18 (idx_main_v19 (ix4 b h s n))) k = ix4 b h s k := by
    funext a; match a with | ⟨0, _⟩ => rfl | ⟨1, _⟩ => rfl | ⟨2, _⟩ => rfl | ⟨3, _⟩ => rfl
  rw [e, weight_read]

/-- What the claim assumes: the queries and keys are real numbers. -/
def RealQK (x2 : Cert.MixIdeal.S8x256x1024.Idx → EReal) (x3 : Cert.MixIdeal.S16384x10240.Idx → EReal) : Prop :=
  (∀ (r : Fin 16384) (d : Fin 512), ∃ z : ℝ, x3 (ix2 r (⟨3584 + d.val, by omega⟩ : Fin 10240)) = z)
    ∧ ∀ (b : Fin 8) (n : Fin 256) (d : Fin 512), ∃ z : ℝ, x2 (ix3 b n (⟨d.val, by omega⟩ : Fin 1024)) = z

theorem logits_real (hx : RealQK x2 x3) (r : Fin 16384) (h : Fin 4) (n : Fin 256) : ∃ z : ℝ, logits x2 x3 r h n = z := by
  have hh := h.isLt
  refine logit_real _ _ (fun d => ?_) (fun d => ?_)
  · obtain ⟨z, hz⟩ := hx.1 r (⟨128 * h.val + d.val, by omega⟩ : Fin 512)
    refine ⟨z, Eq.trans ?_ hz⟩
    congr 2
    refine Fin.ext ?_
    show 3584 + 128 * h.val + d.val = 3584 + (128 * h.val + d.val)
    omega
  · exact hx.2 _ n (⟨128 * h.val + d.val, by omega⟩ : Fin 512)

theorem head_read (hx : RealQK x2 x3) (b : Fin 8) (s : Fin 2048) (h : Fin 4) (d : Fin 128) :
    val_main_v22 (F := Ideal) x2 x3 (ix4 b s h d) = attend (logits x2 x3 (flat b s) h) (values x2 (flat b s) h d) := by
  rw [← attend_eq _ _ (logits_real x2 x3 hx (flat b s) h), val_main_v22_apply, val_main_v21_apply]
  refine Finset.sum_congr rfl fun n _ => ?_
  have ev : lidx_main_v21 (idx_main_v22 (ix4 b s h d)) n = ix4 b n h d := by
    funext a; match a with | ⟨0, _⟩ => rfl | ⟨1, _⟩ => rfl | ⟨2, _⟩ => rfl | ⟨3, _⟩ => rfl
  have ep : ridx_main_v21 (idx_main_v22 (ix4 b s h d)) n = ix4 b h s n := by
    funext a; match a with | ⟨0, _⟩ => rfl | ⟨1, _⟩ => rfl | ⟨2, _⟩ => rfl | ⟨3, _⟩ => rfl
  rw [ev, ep, value_read, prob_read]
  unfold values
  rw [seq_flat]

theorem memory_read (hx : RealQK x2 x3) (r : Fin 16384) (e : Fin 512) :
    val_main_v23 (F := Ideal) x2 x3 (ix2 r e) = memory x2 x3 r e := by
  have hr := r.isLt
  have he := e.isLt
  have hf : flat (⟨r.val / 2048, by omega⟩ : Fin 8) (⟨r.val % 2048, by omega⟩ : Fin 2048) = r := Fin.ext (by
    show r.val / 2048 * 2048 + r.val % 2048 = r.val
    omega)
  have key : ∀ (h : Fin 4) (d : Fin 128), e.val = 128 * h.val + d.val →
      val_main_v23 (F := Ideal) x2 x3 (ix2 r e) = attend (logits x2 x3 r h) (values x2 r h d) := fun h d hd => by
    have hh := h.isLt
    have hd' := d.isLt
    rw [val_main_v23_apply]
    have ei : idx_main_v23 (ix2 r e) = ix4 (⟨r.val / 2048, by omega⟩ : Fin 8) (⟨r.val % 2048, by omega⟩ : Fin 2048) h d := by
      funext a; apply Fin.ext
      match a with
      | ⟨0, _⟩ => show (r.val * 512 + e.val) / 1048576 = r.val / 2048; omega
      | ⟨1, _⟩ => show (r.val * 512 + e.val) / 512 % 2048 = r.val % 2048; omega
      | ⟨2, _⟩ => show (r.val * 512 + e.val) / 128 % 4 = h.val; omega
      | ⟨3, _⟩ => show (r.val * 512 + e.val) % 128 = d.val; omega
    rw [ei, head_read x2 x3 hx, hf]
  unfold memory heads
  split
  · exact key 0 _ (by show e.val = 128 * 0 + e.val; omega)
  split
  · exact key 1 _ (by show e.val = 128 * 1 + (e.val - 128); omega)
  split
  · exact key 2 _ (by show e.val = 128 * 2 + (e.val - 128 - 128); omega)
  · exact key 3 _ (by show e.val = 128 * 3 + (e.val - 128 - 128 - 128); omega)

theorem gate_read (r : Fin 16384) (j : Fin 6144) :
    val_main_v34 (F := Ideal) x3 (ix2 r j) = gate (x3 (ix2 r (⟨4096 + j.val, by omega⟩ : Fin 10240))) := by
  rw [val_main_v34_apply, val_main_v33_apply, val_main_v32_apply, val_main_v31_apply, val_main_v30_apply, val_main_v29_apply, val_main_v28_apply,
    val_main_v27_apply, val_main_cst_2_apply, val_main_cst_3_apply]
  show Ideal.div (Ideal.ofBits .f32 0x3F800000#32) (Ideal.ofBits .f32 0x3F800000#32 + Ideal.exp (-(x3 (idx_main_v27 (ix2 r j))))) = _
  rw [unit_word]
  unfold gate
  rw [zero_sub]
  have e : idx_main_v27 (ix2 r j) = ix2 r (⟨4096 + j.val, by omega⟩ : Fin 10240) := by
    funext a; match a with | ⟨0, _⟩ => rfl | ⟨1, _⟩ => rfl
  rw [e]

theorem weights_read (k j : Fin 2048) : val_main_v26 (F := Ideal) x5 (ix2 k j) = x5 (ix3 (0 : Fin 4) k j) := by
  have hk := k.isLt
  have hj := j.isLt
  rw [val_main_v26_apply, val_main_v25_apply, val_main_v24_apply]
  show x5 (idx_main_v24 (idx_main_v25 (ix2 k j))) = _
  congr 1; funext a; apply Fin.ext
  match a with
  | ⟨0, _⟩ => rfl
  | ⟨1, _⟩ => show (k.val * 2048 + j.val) / 2048 % 2048 = k.val; omega
  | ⟨2, _⟩ => show (k.val * 2048 + j.val) % 2048 = j.val; omega

theorem out_weights_read (k j : Fin 2048) : val_main_v55 (F := Ideal) x6 (ix2 k j) = x6 (ix3 (0 : Fin 4) k j) := by
  have hk := k.isLt
  have hj := j.isLt
  rw [val_main_v55_apply, val_main_v54_apply, val_main_v53_apply]
  show x6 (idx_main_v53 (idx_main_v54 (ix2 k j))) = _
  congr 1; funext a; apply Fin.ext
  match a with
  | ⟨0, _⟩ => rfl
  | ⟨1, _⟩ => show (k.val * 2048 + j.val) / 2048 % 2048 = k.val; omega
  | ⟨2, _⟩ => show (k.val * 2048 + j.val) % 2048 = j.val; omega

theorem mixed_read (hx : RealQK x2 x3) (r : Fin 16384) (j : Fin 2048) :
    val_main_v50 (F := Ideal) x0 x1 x2 x3 x5 (ix2 r j) = mixed x0 x1 x2 x3 x5 r j := by
  have hj := j.isLt
  rw [val_main_v50_apply, val_main_v45_apply, val_main_v39_apply, val_main_v44_apply, val_main_v49_apply, val_main_v35_apply, val_main_v40_apply,
    val_main_v46_apply, val_main_v38_apply, val_main_v43_apply, val_main_v48_apply]
  have ga : idx_main_v35 (ix2 r j) = ix2 r (⟨j.val, by omega⟩ : Fin 6144) := by funext a; match a with | ⟨0, _⟩ => rfl | ⟨1, _⟩ => rfl
  have gb : idx_main_v40 (ix2 r j) = ix2 r (⟨2048 + j.val, by omega⟩ : Fin 6144) := by funext a; match a with | ⟨0, _⟩ => rfl | ⟨1, _⟩ => rfl
  have gc : idx_main_v46 (ix2 r j) = ix2 r (⟨4096 + j.val, by omega⟩ : Fin 6144) := by funext a; match a with | ⟨0, _⟩ => rfl | ⟨1, _⟩ => rfl
  rw [ga, gb, gc, gate_read, gate_read, gate_read]
  unfold mixed
  show gate _ * _ + gate _ * _ + gate _ * _ = _
  rw [mul_comm (gate _), mul_comm (gate _), mul_comm (gate _)]
  refine congrArg₂ (fun a b : EReal => a + b) (congrArg₂ (fun a b : EReal => a + b) ?_ ?_) ?_
  · refine congrArg₂ (fun a b : EReal => a * b) (Finset.sum_congr rfl fun k _ => ?_) rfl
    rw [val_main_v36_apply, val_main_v37_apply]
    refine congrArg₂ (fun a b : EReal => a * b) ?_ (Eq.trans ?_ (weights_read x5 (⟨k.val, by omega⟩ : Fin 2048) j))
    · show x0 _ = x0 _
      congr 1; funext a; match a with | ⟨0, _⟩ => rfl | ⟨1, _⟩ => rfl
    · congr 1; funext a; match a with | ⟨0, _⟩ => rfl | ⟨1, _⟩ => rfl
  · refine congrArg₂ (fun a b : EReal => a * b) (Finset.sum_congr rfl fun k _ => ?_) (congrArg gate ?_)
    · rw [val_main_v41_apply, val_main_v42_apply]
      refine congrArg₂ (fun a b : EReal => a * b) ?_ (Eq.trans ?_ (weights_read x5 (⟨768 + k.val, by omega⟩ : Fin 2048) j))
      · show x1 _ = x1 _
        congr 1; funext a; match a with | ⟨0, _⟩ => rfl | ⟨1, _⟩ => rfl
      · congr 1; funext a; match a with | ⟨0, _⟩ => rfl | ⟨1, _⟩ => rfl
    · congr 2; refine Fin.ext ?_; show 4096 + (2048 + j.val) = 6144 + j.val; omega
  · refine congrArg₂ (fun a b : EReal => a * b) (Finset.sum_congr rfl fun k _ => ?_) (congrArg gate ?_)
    · rw [val_main_v47_apply]
      refine congrArg₂ (fun a b : EReal => a * b) (Eq.trans ?_ (memory_read x2 x3 hx r k)) (Eq.trans ?_ (weights_read x5 (⟨1536 + k.val, by omega⟩ : Fin 2048) j))
      · congr 1; funext a; match a with | ⟨0, _⟩ => rfl | ⟨1, _⟩ => rfl
      · congr 1; funext a; match a with | ⟨0, _⟩ => rfl | ⟨1, _⟩ => rfl
    · congr 2; refine Fin.ext ?_; show 4096 + (4096 + j.val) = 8192 + j.val; omega

theorem resid_read (hx : RealQK x2 x3) (r : Fin 16384) (p : Fin 2048) :
    val_main_v57 (F := Ideal) x0 x1 x2 x3 x4 x5 x6 (ix2 r p) = resid x0 x1 x2 x3 x4 x5 x6 r p := by
  rw [val_main_v57_apply, val_main_v52_apply, val_main_v51_apply, val_main_cst_4_apply, val_main_v56_apply]
  unfold resid
  refine congrArg₂ (fun a b : EReal => a + b) rfl (Finset.sum_congr rfl fun j _ => ?_)
  refine congrArg₂ (fun a b : EReal => a * b) (Eq.trans ?_ (mixed_read x0 x1 x2 x3 x5 hx r j)) (Eq.trans ?_ (out_weights_read x6 j p))
  · congr 1; funext a; match a with | ⟨0, _⟩ => rfl | ⟨1, _⟩ => rfl
  · congr 1; funext a; match a with | ⟨0, _⟩ => rfl | ⟨1, _⟩ => rfl

/-- The residual sum at any index. -/
theorem resid_at (hx : RealQK x2 x3) (i : S16384x2048.Idx) :
    val_main_v57 (F := Ideal) x0 x1 x2 x3 x4 x5 x6 i = resid x0 x1 x2 x3 x4 x5 x6 (i 0) (i 1) := by
  have e : i = ix2 (i 0) (i 1) := by funext a; match a with | ⟨0, _⟩ => rfl | ⟨1, _⟩ => rfl
  exact (congrArg _ e).trans (resid_read x0 x1 x2 x3 x4 x5 x6 hx (i 0) (i 1))

theorem mean_read (hx : RealQK x2 x3) (i : S16384x1.Idx) :
    val_main_v65 (F := Ideal) x0 x1 x2 x3 x4 x5 x6 i = mean (resid x0 x1 x2 x3 x4 x5 x6 (i 0)) := by
  rw [val_main_v65_apply, val_main_v63_apply, val_main_v62_apply, val_main_v64_apply, val_main_cst_5_apply, val_main_cst_6_apply]
  simp only [resid_at x0 x1 x2 x3 x4 x5 x6 hx]
  show Ideal.div (Ideal.ofBits .f32 0#32 + _) _ = _
  rw [Ideal.ofBits_zero, zero_add]
  rfl

theorem variance_read (hx : RealQK x2 x3) (i : S16384x1.Idx) :
    val_main_v72 (F := Ideal) x0 x1 x2 x3 x4 x5 x6 i = variance (resid x0 x1 x2 x3 x4 x5 x6 (i 0)) := by
  rw [val_main_v72_apply, val_main_v70_apply, val_main_v69_apply, val_main_v71_apply, val_main_cst_7_apply, val_main_cst_8_apply]
  simp only [val_main_v68_apply, val_main_v67_apply, val_main_v66_apply, resid_at x0 x1 x2 x3 x4 x5 x6 hx, mean_read x0 x1 x2 x3 x4 x5 x6 hx]
  show Ideal.div (Ideal.ofBits .f32 0#32 + _) _ = _
  rw [Ideal.ofBits_zero, zero_add]
  rfl

/-- The reference's result, element by element. -/
theorem ref_out (hx : RealQK x2 x3) (i : S16384x2048.Idx) :
    val_main_v83 (F := Ideal) x0 x1 x2 x3 x4 x5 x6 x7 x8 i
      = Ffn.norm (resid x0 x1 x2 x3 x4 x5 x6 (i 0)) (i 1) (x7 (ix3 (1 : Fin 12) (0 : Fin 1) (i 1))) (x8 (ix3 (1 : Fin 12) (0 : Fin 1) (i 1))) := by
  rw [val_main_v83_apply, val_main_v81_apply, val_main_v79_apply, val_main_v74_apply, val_main_v73_apply, val_main_v78_apply, val_main_v77_apply,
    val_main_v76_apply, val_main_v75_apply, val_main_cst_9_apply, val_main_v80_apply, val_main_v59_apply, val_main_v58_apply,
    val_main_v82_apply, val_main_v61_apply, val_main_v60_apply, resid_at x0 x1 x2 x3 x4 x5 x6 hx, mean_read x0 x1 x2 x3 x4 x5 x6 hx,
    variance_read x0 x1 x2 x3 x4 x5 x6 hx]
  unfold Ffn.norm
  have h1 : (i 1).val < 2048 := (i 1).isLt
  have eg : ∀ q q' : S12x1x2048.Idx, (q 0).val = (q' 0).val → (q 2).val = (q' 2).val → q = q' := fun q q' h0 h2 => by
    have a : (q 1).val < 1 := (q 1).isLt
    have a' : (q' 1).val < 1 := (q' 1).isLt
    funext d; apply Fin.ext
    match d with
    | ⟨0, _⟩ => exact h0
    | ⟨1, _⟩ => show (q 1).val = (q' 1).val; omega
    | ⟨2, _⟩ => exact h2
  show _ * x7 _ + x8 _ = _
  congr 1
  · congr 1
    exact congrArg x7 (eg _ _ rfl (by show (0 * 2048 + (i 1).val) % 2048 = (i 1).val; omega))
  · exact congrArg x8 (eg _ _ rfl (by show (0 * 2048 + (i 1).val) % 2048 = (i 1).val; omega))

end Read

end Cert.Proof.Mix

end
-- ==== Proof.Mix.Pre.lean ====
/-
  The mixing call's precondition read back: the queries and keys are real numbers.
-/
module

public import proofs.«01_k».proof.Pre_mix_pre
public import proofs.«01_k».proof.Proof.Gen.Pre_mix_pre
public import proofs.«01_k».proof.Proof.MlaIdeal.Pre
public import proofs.«01_k».proof.Proof.Mix.Ref
public import Idealize.ShloMosaic.Lib.ReduceAll

@[expose] public section

set_option maxRecDepth 16384

noncomputable section

namespace Cert.Proof.Mix

open Cert.Pre_mix_pre Cert.Pre_mix_pre.Gen
open Cert.Proof.MlaIdeal (pos_inf andi_one real_of_abs)
open Idealize.ShloMosaic Idealize.ShloMosaic.Pointwise

/-- The test "the absolute value is below infinity", passed, says the value is real. -/
theorem real_of_test (x : EReal) (h : BitVec.ofBool (decide (max x (-x) < Ideal.ofBits .f32 0x7F800000#32)) = 1#1) : ∃ r : ℝ, x = r := by
  rw [pos_inf] at h
  refine real_of_abs x ?_
  by_contra hn
  rw [decide_eq_false hn] at h
  exact absurd h (by decide)

theorem real_of_pre (x0 x1 : S16384x768.Idx → EReal) (x2 : S8x256x1024.Idx → EReal) (x3 : S16384x10240.Idx → EReal) (x4 : S16384x2048.Idx → EReal)
    (x5 x6 : S4x2048x2048.Idx → EReal) (x7 x8 : S12x1x2048.Idx → EReal)
    (h : Cert.Pre_mix_pre.fn (F := Ideal) x0 x1 x2 x3 x4 x5 x6 x7 x8 = fun _ => 1#1) : RealQK x2 x3 := by
  have h := congrFun h (fun a => a.elim0)
  obtain ⟨hq, hk⟩ := (andi_one _ _).1 h
  refine ⟨fun r d => ?_, fun b n d => ?_⟩
  · have t := Host.reduce_andi_all _ _ _ _ _ hq (ix2 r d)
    let z : EReal := extractStridedSlice S16384x512 ![0, 3584] x3 Facts.slices_S16384x10240_S16384x512_0_3584 (ix2 r d)
    have t' : BitVec.ofBool (decide (max z (-z) < Ideal.ofBits .f32 0x7F800000#32)) = 1#1 := t
    have e : ∃ y : ℝ, extractStridedSlice S16384x512 ![0, 3584] x3 Facts.slices_S16384x10240_S16384x512_0_3584 (ix2 r d) = (y : EReal) := real_of_test z t'
    rw [extractStridedSlice_apply ![0, 3584] x3 _ (ix2 r d) (ix2 r (⟨3584 + d.val, by omega⟩ : Fin 10240))
      (fun a => by match a with | 0 => simp [ix2] | 1 => simp [ix2])] at e
    exact e
  · have t := Host.reduce_andi_all _ _ _ _ _ hk (ix3 b n d)
    let z : EReal := extractStridedSlice S8x256x512 ![0, 0, 0] x2 Facts.slices_S8x256x1024_S8x256x512_0_0_0 (ix3 b n d)
    have t' : BitVec.ofBool (decide (max z (-z) < Ideal.ofBits .f32 0x7F800000#32)) = 1#1 := t
    have e : ∃ y : ℝ, extractStridedSlice S8x256x512 ![0, 0, 0] x2 Facts.slices_S8x256x1024_S8x256x512_0_0_0 (ix3 b n d) = (y : EReal) := real_of_test z t'
    rw [extractStridedSlice_apply ![0, 0, 0] x2 _ (ix3 b n d) (ix3 b n (⟨d.val, by omega⟩ : Fin 1024))
      (fun a => by match a with | 0 => simp [ix3] | 1 => simp [ix3] | 2 => simp [ix3])] at e
    exact e

end Cert.Proof.Mix

end
-- ==== Proof.Mix.Claim.lean ====
/-
  The mixing call: the frames of its three programs, and the claim that, where the precondition holds, the kernel and the
  reference leave the same array.
-/
module

public import proofs.«01_k».proof.Defs
public import proofs.«01_k».proof.Proof.Gen.Mix
public import proofs.«01_k».proof.Proof.Gen.Mix.Frame
public import proofs.«01_k».proof.Proof.Gen.MixIdeal.Frame
public import proofs.«01_k».proof.Proof.Mix.Run
public import proofs.«01_k».proof.Proof.Mix.Ref
public import proofs.«01_k».proof.Proof.Mix.Pre
public import proofs.«01_k».proof.Proof.Gen.MixRefIdeal.Run

@[expose] public section

set_option maxRecDepth 16384

noncomputable section

open Idealize.ShloMosaic Idealize.ShloMosaic.TcCoe Idealize.SL.Sem

namespace Cert.Proof.Mix

theorem frame_bits : Cert.quiescent_Mix := fun m ρ _ => Cert.Mix.Gen.frame m ρ

theorem frame_ideal : Cert.quiescent_MixIdeal := fun m ρ _ => Cert.MixIdeal.Gen.frame m ρ

theorem frame_ideal_pre : Cert.quiescent_MixIdeal_pre_mix_pre := fun m ρ _ => Cert.MixIdeal.Gen.frame m ρ

theorem frame_ref : Cert.quiescent_MixRefIdeal := fun m ρ _ =>
  (θ_run _ _ _).mono (fun r h => ⟨fun c => (h c).2, sem_eq_zero_of_no_sems (by decide) r.2⟩)
    (Cert.MixRefIdeal.Value.run m ρ)

theorem frame_ref_pre : Cert.quiescent_MixRefIdeal_pre_mix_pre := fun m ρ _ => frame_ref m ρ trivial

theorem algebraic : Cert.algebraic_MixIdeal_MixRefIdeal_pre_mix_pre := by
  intro m g m' g' hpre hagree
  refine ⟨fun c => out m c, run m g, ?_⟩
  refine (θ_run _ _ _).mono (fun r h c => ⟨(h c).1.trans ?_, (h c).2⟩) (Cert.MixRefIdeal.Value.run m' g')
  obtain ⟨h0, h1, h2, h3, h4, h5, h6, h7, h8⟩ := hagree c
  rw [Cert.MixRefIdeal.Read.val_main_v83_eq, h0, h1, h2, h3, h4, h5, h6, h7, h8]
  exact funext fun i => ref_out _ _ _ _ _ _ _ _ _ (real_of_pre _ _ _ _ _ _ _ _ _ (hpre c)) i

end Cert.Proof.Mix

end

end
-- ==== Proof.lean ====
/-
  The certificate: each claim from the module that proves it.
-/
module

public import proofs.«01_k».proof.Defs
public import proofs.«01_k».proof.Proof.Gen.Mla
public import proofs.«01_k».proof.Proof.Gen.MlaIdeal
public import proofs.«01_k».proof.Proof.Gen.MlaRefIdeal
public import proofs.«01_k».proof.Proof.Gen.Ffn
public import proofs.«01_k».proof.Proof.Gen.FfnIdeal
public import proofs.«01_k».proof.Proof.Gen.FfnRefIdeal
public import proofs.«01_k».proof.Proof.Gen.InProj
public import proofs.«01_k».proof.Proof.Gen.InProjIdeal
public import proofs.«01_k».proof.Proof.Gen.InProjRefIdeal
public import proofs.«01_k».proof.Proof.Gen.Mix
public import proofs.«01_k».proof.Proof.Gen.MixIdeal
public import proofs.«01_k».proof.Proof.Gen.MixRefIdeal
public import proofs.«01_k».proof.Proof.Gen.Pre_mla_pre
public import proofs.«01_k».proof.Proof.Gen.Pre_mix_pre
public import proofs.«01_k».proof.Proof.MlaIdeal.Claim
public import proofs.«01_k».proof.Proof.Ffn.Claim
public import proofs.«01_k».proof.Proof.InProj.Claim
public import proofs.«01_k».proof.Proof.Mix.Claim

@[expose] public section

noncomputable section

namespace Cert.Proof

theorem claim : Cert.Claim :=
  ⟨Cert.Mla.Gen.facts, Cert.MlaIdeal.Gen.facts, Cert.MlaRefIdeal.Gen.facts,
   Cert.Ffn.Gen.facts, Cert.FfnIdeal.Gen.facts, Cert.FfnRefIdeal.Gen.facts,
   Cert.InProj.Gen.facts, Cert.InProjIdeal.Gen.facts, Cert.InProjRefIdeal.Gen.facts,
   Cert.Mix.Gen.facts, Cert.MixIdeal.Gen.facts, Cert.MixRefIdeal.Gen.facts,
   Cert.Pre_mla_pre.Gen.facts, Cert.Pre_mix_pre.Gen.facts,
   MlaIdeal.frame_bits, MlaIdeal.frame_ideal, MlaIdeal.frame_ideal_pre, MlaIdeal.frame_ref, MlaIdeal.frame_ref_pre,
   Ffn.frame_bits, Ffn.frame_ideal, Ffn.frame_ref,
   InProj.frame_bits, InProj.frame_ideal, InProj.frame_ref,
   Mix.frame_bits, Mix.frame_ideal, Mix.frame_ideal_pre, Mix.frame_ref, Mix.frame_ref_pre,
   trivial, MlaIdeal.algebraic, trivial, Ffn.algebraic, trivial, InProj.algebraic, trivial, Mix.algebraic⟩

end Cert.Proof

end

end
